-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleRefIdeal (m : (ℓ : Loc Cert.PleSampleRefIdeal.nD Cert.PleSampleRefIdeal.τ Cert.PleSampleRefIdeal.sig) → Buf (Elt Ideal) ℓ) : Prop :=
  True

def Pre_QkvSample (m : (ℓ : Loc Cert.QkvSample.nD Cert.QkvSample.τ Cert.QkvSample.sig) → Buf (Elt Bits) ℓ) : Prop :=
  True

def Pre_QkvSampleIdeal (m : (ℓ : Loc Cert.QkvSampleIdeal.nD Cert.QkvSampleIdeal.τ Cert.QkvSampleIdeal.sig) → Buf (Elt Ideal) ℓ) : Prop :=
  True

def Pre_QkvSampleRefIdeal (m : (ℓ : Loc Cert.QkvSampleRefIdeal.nD Cert.QkvSampleRefIdeal.τ Cert.QkvSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ r.2.sem = fun _ => 0)

def quiescent_PleSampleRefIdeal [hPleSampleRefIdeal : Cert.PleSampleRefIdeal.Facts] : Prop :=
  ∀ (m : (ℓ : Loc Cert.PleSampleRefIdeal.nD Cert.PleSampleRefIdeal.τ Cert.PleSampleRefIdeal.sig) → Buf (Elt Ideal) ℓ) (g : Dev Cert.PleSampleRefIdeal.nD → PrngReg), Pre_PleSampleRefIdeal m →
    θ_run (Cert.PleSampleRefIdeal.defs (F := Ideal)) (onTc (τ := Cert.PleSampleRefIdeal.τ) (Cert.PleSampleRefIdeal.main (F := Ideal))) ⟨m, fun _ => 0, g⟩ (fun r => (∀ c : Dev Cert.PleSampleRefIdeal.nD,
      r.2.mem ((c.tc : Thread Cert.PleSampleRefIdeal.nD Cert.PleSampleRefIdeal.τ).loc Cert.PleSampleRefIdeal.main_arg0) = m ((c.tc : Thread Cert.PleSampleRefIdeal.nD Cert.PleSampleRefIdeal.τ).loc Cert.PleSampleRefIdeal.main_arg0)
      ∧ r.2.mem ((c.tc : Thread Cert.PleSampleRefIdeal.nD Cert.PleSampleRefIdeal.τ).loc Cert.PleSampleRefIdeal.main_arg1) = m ((c.tc : Thread Cert.PleSampleRefIdeal.nD Cert.PleSampleRefIdeal.τ).loc Cert.PleSampleRefIdeal.main_arg1)
      ∧ r.2.mem ((c.tc : Thread Cert.PleSampleRefIdeal.nD Cert.PleSampleRefIdeal.τ).loc Cert.PleSampleRefIdeal.main_arg2) = m ((c.tc : Thread Cert.PleSampleRefIdeal.nD Cert.PleSampleRefIdeal.τ).loc Cert.PleSampleRefIdeal.main_arg2)
      ∧ r.2.mem ((c.tc : Thread Cert.PleSampleRefIdeal.nD Cert.PleSampleRefIdeal.τ).loc Cert.PleSampleRefIdeal.main_arg3) = m ((c.tc : Thread Cert.PleSampleRefIdeal.nD Cert.PleSampleRefIdeal.τ).loc Cert.PleSampleRefIdeal.main_arg3)
      ∧ r.2.mem ((c.tc : Thread Cert.PleSampleRefIdeal.nD Cert.PleSampleRefIdeal.τ).loc Cert.PleSampleRefIdeal.main_arg4) = m ((c.tc : Thread Cert.PleSampleRefIdeal.nD Cert.PleSampleRefIdeal.τ).loc Cert.PleSampleRefIdeal.main_arg4))
      ∧ r.2.sem = fun _ => 0)

def quiescent_QkvSample [hQkvSample : Cert.QkvSample.Facts] : Prop :=
  ∀ (m : (ℓ : Loc Cert.QkvSample.nD Cert.QkvSample.τ Cert.QkvSample.sig) → Buf (Elt Bits) ℓ) (g : Dev Cert.QkvSample.nD → PrngReg), Pre_QkvSample m →
    θ_run (Cert.QkvSample.defs (F := Bits)) (onTc (τ := Cert.QkvSample.τ) (Cert.QkvSample.main (F := Bits))) ⟨m, fun _ => 0, g⟩ (fun r => (∀ c : Dev Cert.QkvSample.nD,
      r.2.mem ((c.tc : Thread Cert.QkvSample.nD Cert.QkvSample.τ).loc Cert.QkvSample.main_arg0) = m ((c.tc : Thread Cert.QkvSample.nD Cert.QkvSample.τ).loc Cert.QkvSample.main_arg0)
      ∧ r.2.mem ((c.tc : Thread Cert.QkvSample.nD Cert.QkvSample.τ).loc Cert.QkvSample.main_arg1) = m ((c.tc : Thread Cert.QkvSample.nD Cert.QkvSample.τ).loc Cert.QkvSample.main_arg1)
      ∧ r.2.mem ((c.tc : Thread Cert.QkvSample.nD Cert.QkvSample.τ).loc Cert.QkvSample.main_arg2) = m ((c.tc : Thread Cert.QkvSample.nD Cert.QkvSample.τ).loc Cert.QkvSample.main_arg2)
      ∧ r.2.mem ((c.tc : Thread Cert.QkvSample.nD Cert.QkvSample.τ).loc Cert.QkvSample.main_arg3) = m ((c.tc : Thread Cert.QkvSample.nD Cert.QkvSample.τ).loc Cert.QkvSample.main_arg3)
      ∧ r.2.mem ((c.tc : Thread Cert.QkvSample.nD Cert.QkvSample.τ).loc Cert.QkvSample.main_arg4) = m ((c.tc : Thread Cert.QkvSample.nD Cert.QkvSample.τ).loc Cert.QkvSample.main_arg4)
      ∧ r.2.mem ((c.tc : Thread Cert.QkvSample.nD Cert.QkvSample.τ).loc Cert.QkvSample.main_arg5) = m ((c.tc : Thread Cert.QkvSample.nD Cert.QkvSample.τ).loc Cert.QkvSample.main_arg5)
      ∧ r.2.mem ((c.tc : Thread Cert.QkvSample.nD Cert.QkvSample.τ).loc Cert.QkvSample.main_arg6) = m ((c.tc : Thread Cert.QkvSample.nD Cert.QkvSample.τ).loc Cert.QkvSample.main_arg6)
      ∧ r.2.mem ((c.tc : Thread Cert.QkvSample.nD Cert.QkvSample.τ).loc Cert.QkvSample.main_arg7) = m ((c.tc : Thread Cert.QkvSample.nD Cert.QkvSample.τ).loc Cert.QkvSample.main_arg7)
      ∧ r.2.mem ((c.tc : Thread Cert.QkvSample.nD Cert.QkvSample.τ).loc Cert.QkvSample.main_arg8) = m ((c.tc : Thread Cert.QkvSample.nD Cert.QkvSample.τ).loc Cert.QkvSample.main_arg8)
      ∧ r.2.mem ((c.tc : Thread Cert.QkvSample.nD Cert.QkvSample.τ).loc Cert.QkvSample.main_arg9) = m ((c.tc : Thread Cert.QkvSample.nD Cert.QkvSample.τ).loc Cert.QkvSample.main_arg9)
      ∧ r.2.mem ((c.tc : Thread Cert.QkvSample.nD Cert.QkvSample.τ).loc Cert.QkvSample.main_arg10) = m ((c.tc : Thread Cert.QkvSample.nD Cert.QkvSample.τ).loc Cert.QkvSample.main_arg10)
      ∧ r.2.mem ((c.tc : Thread Cert.QkvSample.nD Cert.QkvSample.τ).loc Cert.QkvSample.main_arg11) = m ((c.tc : Thread Cert.QkvSample.nD Cert.QkvSample.τ).loc Cert.QkvSample.main_arg11))
      ∧ r.2.sem = fun _ => 0)

def quiescent_QkvSampleIdeal [hQkvSampleIdeal : Cert.QkvSampleIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg), Pre_QkvSampleIdeal m →
    θ_run (Cert.QkvSampleIdeal.defs (F := Ideal)) (onTc (τ := Cert.QkvSampleIdeal.τ) (Cert.QkvSampleIdeal.main (F := Ideal))) ⟨m, fun _ => 0, g⟩ (fun r => (∀ c : Dev Cert.QkvSampleIdeal.nD,
      r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
      ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
      ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
      ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
      ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4)
      ∧ r.2.mem ((c.tc : Thread Cert.QkvSampleIdeal.nD Cert.QkvSampleIdeal.τ).loc Cert.QkvSampleIdeal.main_arg5) = m ((c.tc : Thread Cert.QkvSampleIdeal.nD Cert.QkvSampleIdeal.τ).loc Cert.QkvSampleIdeal.main_arg5)
      ∧ r.2.mem ((c.tc : Thread Cert.QkvSampleIdeal.nD Cert.QkvSampleIdeal.τ).loc Cert.QkvSampleIdeal.main_arg6) = m ((c.tc : Thread Cert.QkvSampleIdeal.nD Cert.QkvSampleIdeal.τ).loc Cert.QkvSampleIdeal.main_arg6)
      ∧ r.2.mem ((c.tc : Thread Cert.QkvSampleIdeal.nD Cert.QkvSampleIdeal.τ).loc Cert.QkvSampleIdeal.main_arg7) = m ((c.tc : Thread Cert.QkvSampleIdeal.nD Cert.QkvSampleIdeal.τ).loc Cert.QkvSampleIdeal.main_arg7)
      ∧ r.2.mem ((c.tc : Thread Cert.QkvSampleIdeal.nD Cert.QkvSampleIdeal.τ).loc Cert.QkvSampleIdeal.main_arg8) = m ((c.tc : Thread Cert.QkvSampleIdeal.nD Cert.QkvSampleIdeal.τ).loc Cert.QkvSampleIdeal.main_arg8)
      ∧ r.2.mem ((c.tc : Thread Cert.QkvSampleIdeal.nD Cert.QkvSampleIdeal.τ).loc Cert.QkvSampleIdeal.main_arg9) = m ((c.tc : Thread Cert.QkvSampleIdeal.nD Cert.QkvSampleIdeal.τ).loc Cert.QkvSampleIdeal.main_arg9)
      ∧ r.2.mem ((c.tc : Thread Cert.QkvSampleIdeal.nD Cert.QkvSampleIdeal.τ).loc Cert.QkvSampleIdeal.main_arg10) = m ((c.tc : Thread Cert.QkvSampleIdeal.nD Cert.QkvSampleIdeal.τ).loc Cert.QkvSampleIdeal.main_arg10)
      ∧ r.2.mem ((c.tc : Thread Cert.QkvSampleIdeal.nD Cert.QkvSampleIdeal.τ).loc Cert.QkvSampleIdeal.main_arg11) = m ((c.tc : Thread Cert.QkvSampleIdeal.nD Cert.QkvSampleIdeal.τ).loc Cert.QkvSampleIdeal.main_arg11))
      ∧ r.2.sem = fun _ => 0)

def quiescent_QkvSampleRefIdeal [hQkvSampleRefIdeal : Cert.QkvSampleRefIdeal.Facts] : Prop :=
  ∀ (m : (ℓ : Loc Cert.QkvSampleRefIdeal.nD Cert.QkvSampleRefIdeal.τ Cert.QkvSampleRefIdeal.sig) → Buf (Elt Ideal) ℓ) (g : Dev Cert.QkvSampleRefIdeal.nD → PrngReg), Pre_QkvSampleRefIdeal m →
    θ_run (Cert.QkvSampleRefIdeal.defs (F := Ideal)) (onTc (τ := Cert.QkvSampleRefIdeal.τ) (Cert.QkvSampleRefIdeal.main (F := Ideal))) ⟨m, fun _ => 0, g⟩ (fun r => (∀ c : Dev Cert.QkvSampleRefIdeal.nD,
      r.2.mem ((c.tc : Thread Cert.QkvSampleRefIdeal.nD Cert.QkvSampleRefIdeal.τ).loc Cert.QkvSampleRefIdeal.main_arg0) = m ((c.tc : Thread Cert.QkvSampleRefIdeal.nD Cert.QkvSampleRefIdeal.τ).loc Cert.QkvSampleRefIdeal.main_arg0)
      ∧ r.2.mem ((c.tc : Thread Cert.QkvSampleRefIdeal.nD Cert.QkvSampleRefIdeal.τ).loc Cert.QkvSampleRefIdeal.main_arg1) = m ((c.tc : Thread Cert.QkvSampleRefIdeal.nD Cert.QkvSampleRefIdeal.τ).loc Cert.QkvSampleRefIdeal.main_arg1)
      ∧ r.2.mem ((c.tc : Thread Cert.QkvSampleRefIdeal.nD Cert.QkvSampleRefIdeal.τ).loc Cert.QkvSampleRefIdeal.main_arg2) = m ((c.tc : Thread Cert.QkvSampleRefIdeal.nD Cert.QkvSampleRefIdeal.τ).loc Cert.QkvSampleRefIdeal.main_arg2)
      ∧ r.2.mem ((c.tc : Thread Cert.QkvSampleRefIdeal.nD Cert.QkvSampleRefIdeal.τ).loc Cert.QkvSampleRefIdeal.main_arg3) = m ((c.tc : Thread Cert.QkvSampleRefIdeal.nD Cert.QkvSampleRefIdeal.τ).loc Cert.QkvSampleRefIdeal.main_arg3)
      ∧ r.2.mem ((c.tc : Thread Cert.QkvSampleRefIdeal.nD Cert.QkvSampleRefIdeal.τ).loc Cert.QkvSampleRefIdeal.main_arg4) = m ((c.tc : Thread Cert.QkvSampleRefIdeal.nD Cert.QkvSampleRefIdeal.τ).loc Cert.QkvSampleRefIdeal.main_arg4)
      ∧ r.2.mem ((c.tc : Thread Cert.QkvSampleRefIdeal.nD Cert.QkvSampleRefIdeal.τ).loc Cert.QkvSampleRefIdeal.main_arg5) = m ((c.tc : Thread Cert.QkvSampleRefIdeal.nD Cert.QkvSampleRefIdeal.τ).loc Cert.QkvSampleRefIdeal.main_arg5)
      ∧ r.2.mem ((c.tc : Thread Cert.QkvSampleRefIdeal.nD Cert.QkvSampleRefIdeal.τ).loc Cert.QkvSampleRefIdeal.main_arg6) = m ((c.tc : Thread Cert.QkvSampleRefIdeal.nD Cert.QkvSampleRefIdeal.τ).loc Cert.QkvSampleRefIdeal.main_arg6)
      ∧ r.2.mem ((c.tc : Thread Cert.QkvSampleRefIdeal.nD Cert.QkvSampleRefIdeal.τ).loc Cert.QkvSampleRefIdeal.main_arg7) = m ((c.tc : Thread Cert.QkvSampleRefIdeal.nD Cert.QkvSampleRefIdeal.τ).loc Cert.QkvSampleRefIdeal.main_arg7)
      ∧ r.2.mem ((c.tc : Thread Cert.QkvSampleRefIdeal.nD Cert.QkvSampleRefIdeal.τ).loc Cert.QkvSampleRefIdeal.main_arg8) = m ((c.tc : Thread Cert.QkvSampleRefIdeal.nD Cert.QkvSampleRefIdeal.τ).loc Cert.QkvSampleRefIdeal.main_arg8)
      ∧ r.2.mem ((c.tc : Thread Cert.QkvSampleRefIdeal.nD Cert.QkvSampleRefIdeal.τ).loc Cert.QkvSampleRefIdeal.main_arg9) = m ((c.tc : Thread Cert.QkvSampleRefIdeal.nD Cert.QkvSampleRefIdeal.τ).loc Cert.QkvSampleRefIdeal.main_arg9)
      ∧ r.2.mem ((c.tc : Thread Cert.QkvSampleRefIdeal.nD Cert.QkvSampleRefIdeal.τ).loc Cert.QkvSampleRefIdeal.main_arg10) = m ((c.tc : Thread Cert.QkvSampleRefIdeal.nD Cert.QkvSampleRefIdeal.τ).loc Cert.QkvSampleRefIdeal.main_arg10)
      ∧ r.2.mem ((c.tc : Thread Cert.QkvSampleRefIdeal.nD Cert.QkvSampleRefIdeal.τ).loc Cert.QkvSampleRefIdeal.main_arg11) = m ((c.tc : Thread Cert.QkvSampleRefIdeal.nD Cert.QkvSampleRefIdeal.τ).loc Cert.QkvSampleRefIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v21) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v25) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v4_0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_6) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v34) = v0 c
          ∧ r.2.mem ((c.tc : Thread Cert.QkvRefIdeal.nD Cert.QkvRefIdeal.τ).loc Cert.QkvRefIdeal.main_v35) = v1 c
          ∧ r.2.mem ((c.tc : Thread Cert.QkvRefIdeal.nD Cert.QkvRefIdeal.τ).loc Cert.QkvRefIdeal.main_v33) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_PleSample_PleSampleIdeal : Prop :=
  True

def algebraic_PleSampleIdeal_PleSampleRefIdeal [hPleSampleIdeal : Cert.PleSampleIdeal.Facts] [hPleSampleRefIdeal : Cert.PleSampleRefIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleRefIdeal.nD Cert.PleSampleRefIdeal.τ Cert.PleSampleRefIdeal.sig) → Buf (Elt Ideal) ℓ) (g' : Dev Cert.PleSampleRefIdeal.nD → PrngReg), Pre_PleSampleIdeal m →
    (∀ c : Dev Cert.PleSampleIdeal.nD,
      m' ((c.tc : Thread Cert.PleSampleRefIdeal.nD Cert.PleSampleRefIdeal.τ).loc Cert.PleSampleRefIdeal.main_arg0) = m ((c.tc : Thread Cert.PleSampleIdeal.nD Cert.PleSampleIdeal.τ).loc Cert.PleSampleIdeal.main_arg0)
      ∧ m' ((c.tc : Thread Cert.PleSampleRefIdeal.nD Cert.PleSampleRefIdeal.τ).loc Cert.PleSampleRefIdeal.main_arg1) = m ((c.tc : Thread Cert.PleSampleIdeal.nD Cert.PleSampleIdeal.τ).loc Cert.PleSampleIdeal.main_arg1)
      ∧ m' ((c.tc : Thread Cert.PleSampleRefIdeal.nD Cert.PleSampleRefIdeal.τ).loc Cert.PleSampleRefIdeal.main_arg2) = m ((c.tc : Thread Cert.PleSampleIdeal.nD Cert.PleSampleIdeal.τ).loc Cert.PleSampleIdeal.main_arg2)
      ∧ m' ((c.tc : Thread Cert.PleSampleRefIdeal.nD Cert.PleSampleRefIdeal.τ).loc Cert.PleSampleRefIdeal.main_arg3) = m ((c.tc : Thread Cert.PleSampleIdeal.nD Cert.PleSampleIdeal.τ).loc Cert.PleSampleIdeal.main_arg3)
      ∧ m' ((c.tc : Thread Cert.PleSampleRefIdeal.nD Cert.PleSampleRefIdeal.τ).loc Cert.PleSampleRefIdeal.main_arg4) = m ((c.tc : Thread Cert.PleSampleIdeal.nD Cert.PleSampleIdeal.τ).loc Cert.PleSampleIdeal.main_arg4)) →
    ∃ (v0 : (c : Dev Cert.PleSampleIdeal.nD) → Buf (Elt Ideal) ((c.tc : Thread Cert.PleSampleIdeal.nD Cert.PleSampleIdeal.τ).loc Cert.PleSampleIdeal.main_v2)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v2) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ θ_run (Cert.PleSampleRefIdeal.defs (F := Ideal)) (onTc (τ := Cert.PleSampleRefIdeal.τ) (Cert.PleSampleRefIdeal.main (F := Ideal))) ⟨m', fun _ => 0, g'⟩ (fun r => ∀ c : Dev Cert.PleSampleRefIdeal.nD,
          r.2.mem ((c.tc : Thread Cert.PleSampleRefIdeal.nD Cert.PleSampleRefIdeal.τ).loc Cert.PleSampleRefIdeal.main_v25) = v0 c
          ∧ r.2.mem ((c.tc : Thread Cert.PleSampleRefIdeal.nD Cert.PleSampleRefIdeal.τ).loc Cert.PleSampleRefIdeal.main_arg0) = m' ((c.tc : Thread Cert.PleSampleRefIdeal.nD Cert.PleSampleRefIdeal.τ).loc Cert.PleSampleRefIdeal.main_arg0)
          ∧ r.2.mem ((c.tc : Thread Cert.PleSampleRefIdeal.nD Cert.PleSampleRefIdeal.τ).loc Cert.PleSampleRefIdeal.main_arg1) = m' ((c.tc : Thread Cert.PleSampleRefIdeal.nD Cert.PleSampleRefIdeal.τ).loc Cert.PleSampleRefIdeal.main_arg1)
          ∧ r.2.mem ((c.tc : Thread Cert.PleSampleRefIdeal.nD Cert.PleSampleRefIdeal.τ).loc Cert.PleSampleRefIdeal.main_arg2) = m' ((c.tc : Thread Cert.PleSampleRefIdeal.nD Cert.PleSampleRefIdeal.τ).loc Cert.PleSampleRefIdeal.main_arg2)
          ∧ r.2.mem ((c.tc : Thread Cert.PleSampleRefIdeal.nD Cert.PleSampleRefIdeal.τ).loc Cert.PleSampleRefIdeal.main_arg3) = m' ((c.tc : Thread Cert.PleSampleRefIdeal.nD Cert.PleSampleRefIdeal.τ).loc Cert.PleSampleRefIdeal.main_arg3)
          ∧ r.2.mem ((c.tc : Thread Cert.PleSampleRefIdeal.nD Cert.PleSampleRefIdeal.τ).loc Cert.PleSampleRefIdeal.main_arg4) = m' ((c.tc : Thread Cert.PleSampleRefIdeal.nD Cert.PleSampleRefIdeal.τ).loc Cert.PleSampleRefIdeal.main_arg4))

def preserves_QkvSample_QkvSampleIdeal : Prop :=
  True

def algebraic_QkvSampleIdeal_QkvSampleRefIdeal [hQkvSampleIdeal : Cert.QkvSampleIdeal.Facts] [hQkvSampleRefIdeal : Cert.QkvSampleRefIdeal.Facts] : Prop :=
  ∀ (m : (ℓ : Loc Cert.QkvSampleIdeal.nD Cert.QkvSampleIdeal.τ Cert.QkvSampleIdeal.sig) → Buf (Elt Ideal) ℓ) (g : Dev Cert.QkvSampleIdeal.nD → PrngReg)
    (m' : (ℓ : Loc Cert.QkvSampleRefIdeal.nD Cert.QkvSampleRefIdeal.τ Cert.QkvSampleRefIdeal.sig) → Buf (Elt Ideal) ℓ) (g' : Dev Cert.QkvSampleRefIdeal.nD → PrngReg), Pre_QkvSampleIdeal m →
    (∀ c : Dev Cert.QkvSampleIdeal.nD,
      m' ((c.tc : Thread Cert.QkvSampleRefIdeal.nD Cert.QkvSampleRefIdeal.τ).loc Cert.QkvSampleRefIdeal.main_arg0) = m ((c.tc : Thread Cert.QkvSampleIdeal.nD Cert.QkvSampleIdeal.τ).loc Cert.QkvSampleIdeal.main_arg0)
      ∧ m' ((c.tc : Thread Cert.QkvSampleRefIdeal.nD Cert.QkvSampleRefIdeal.τ).loc Cert.QkvSampleRefIdeal.main_arg1) = m ((c.tc : Thread Cert.QkvSampleIdeal.nD Cert.QkvSampleIdeal.τ).loc Cert.QkvSampleIdeal.main_arg1)
      ∧ m' ((c.tc : Thread Cert.QkvSampleRefIdeal.nD Cert.QkvSampleRefIdeal.τ).loc Cert.QkvSampleRefIdeal.main_arg2) = m ((c.tc : Thread Cert.QkvSampleIdeal.nD Cert.QkvSampleIdeal.τ).loc Cert.QkvSampleIdeal.main_arg2)
      ∧ m' ((c.tc : Thread Cert.QkvSampleRefIdeal.nD Cert.QkvSampleRefIdeal.τ).loc Cert.QkvSampleRefIdeal.main_arg3) = m ((c.tc : Thread Cert.QkvSampleIdeal.nD Cert.QkvSampleIdeal.τ).loc Cert.QkvSampleIdeal.main_arg3)
      ∧ m' ((c.tc : Thread Cert.QkvSampleRefIdeal.nD Cert.QkvSampleRefIdeal.τ).loc Cert.QkvSampleRefIdeal.main_arg4) = m ((c.tc : Thread Cert.QkvSampleIdeal.nD Cert.QkvSampleIdeal.τ).loc Cert.QkvSampleIdeal.main_arg4)
      ∧ m' ((c.tc : Thread Cert.QkvSampleRefIdeal.nD Cert.QkvSampleRefIdeal.τ).loc Cert.QkvSampleRefIdeal.main_arg5) = m ((c.tc : Thread Cert.QkvSampleIdeal.nD Cert.QkvSampleIdeal.τ).loc Cert.QkvSampleIdeal.main_arg5)
      ∧ m' ((c.tc : Thread Cert.QkvSampleRefIdeal.nD Cert.QkvSampleRefIdeal.τ).loc Cert.QkvSampleRefIdeal.main_arg6) = m ((c.tc : Thread Cert.QkvSampleIdeal.nD Cert.QkvSampleIdeal.τ).loc Cert.QkvSampleIdeal.main_arg6)
      ∧ m' ((c.tc : Thread Cert.QkvSampleRefIdeal.nD Cert.QkvSampleRefIdeal.τ).loc Cert.QkvSampleRefIdeal.main_arg7) = m ((c.tc : Thread Cert.QkvSampleIdeal.nD Cert.QkvSampleIdeal.τ).loc Cert.QkvSampleIdeal.main_arg7)
      ∧ m' ((c.tc : Thread Cert.QkvSampleRefIdeal.nD Cert.QkvSampleRefIdeal.τ).loc Cert.QkvSampleRefIdeal.main_arg8) = m ((c.tc : Thread Cert.QkvSampleIdeal.nD Cert.QkvSampleIdeal.τ).loc Cert.QkvSampleIdeal.main_arg8)
      ∧ m' ((c.tc : Thread Cert.QkvSampleRefIdeal.nD Cert.QkvSampleRefIdeal.τ).loc Cert.QkvSampleRefIdeal.main_arg9) = m ((c.tc : Thread Cert.QkvSampleIdeal.nD Cert.QkvSampleIdeal.τ).loc Cert.QkvSampleIdeal.main_arg9)
      ∧ m' ((c.tc : Thread Cert.QkvSampleRefIdeal.nD Cert.QkvSampleRefIdeal.τ).loc Cert.QkvSampleRefIdeal.main_arg10) = m ((c.tc : Thread Cert.QkvSampleIdeal.nD Cert.QkvSampleIdeal.τ).loc Cert.QkvSampleIdeal.main_arg10)
      ∧ m' ((c.tc : Thread Cert.QkvSampleRefIdeal.nD Cert.QkvSampleRefIdeal.τ).loc Cert.QkvSampleRefIdeal.main_arg11) = m ((c.tc : Thread Cert.QkvSampleIdeal.nD Cert.QkvSampleIdeal.τ).loc Cert.QkvSampleIdeal.main_arg11)) →
    ∃ (v0 : (c : Dev Cert.QkvSampleIdeal.nD) → Buf (Elt Ideal) ((c.tc : Thread Cert.QkvSampleIdeal.nD Cert.QkvSampleIdeal.τ).loc Cert.QkvSampleIdeal.main_v4_0)) (v1 : (c : Dev Cert.QkvSampleIdeal.nD) → Buf (Elt Ideal) ((c.tc : Thread Cert.QkvSampleIdeal.nD Cert.QkvSampleIdeal.τ).loc Cert.QkvSampleIdeal.main_v4_1)) (v2 : (c : Dev Cert.QkvSampleIdeal.nD) → Buf (Elt Ideal) ((c.tc : Thread Cert.QkvSampleIdeal.nD Cert.QkvSampleIdeal.τ).loc Cert.QkvSampleIdeal.main_v4_5)),
      θ_run (Cert.QkvSampleIdeal.defs (F := Ideal)) (onTc (τ := Cert.QkvSampleIdeal.τ) (Cert.QkvSampleIdeal.main (F := Ideal))) ⟨m, fun _ => 0, g⟩ (fun r => ∀ c : Dev Cert.QkvSampleIdeal.nD,
          r.2.mem ((c.tc : Thread Cert.QkvSampleIdeal.nD Cert.QkvSampleIdeal.τ).loc Cert.QkvSampleIdeal.main_v4_0) = v0 c
          ∧ r.2.mem ((c.tc : Thread Cert.QkvSampleIdeal.nD Cert.QkvSampleIdeal.τ).loc Cert.QkvSampleIdeal.main_v4_1) = v1 c
          ∧ r.2.mem ((c.tc : Thread Cert.QkvSampleIdeal.nD Cert.QkvSampleIdeal.τ).loc Cert.QkvSampleIdeal.main_v4_5) = v2 c
          ∧ r.2.mem ((c.tc : Thread Cert.QkvSampleIdeal.nD Cert.QkvSampleIdeal.τ).loc Cert.QkvSampleIdeal.main_arg0) = m ((c.tc : Thread Cert.QkvSampleIdeal.nD Cert.QkvSampleIdeal.τ).loc Cert.QkvSampleIdeal.main_arg0)
          ∧ r.2.mem ((c.tc : Thread Cert.QkvSampleIdeal.nD Cert.QkvSampleIdeal.τ).loc Cert.QkvSampleIdeal.main_arg1) = m ((c.tc : Thread Cert.QkvSampleIdeal.nD Cert.QkvSampleIdeal.τ).loc Cert.QkvSampleIdeal.main_arg1)
          ∧ r.2.mem ((c.tc : Thread Cert.QkvSampleIdeal.nD Cert.QkvSampleIdeal.τ).loc Cert.QkvSampleIdeal.main_arg2) = m ((c.tc : Thread Cert.QkvSampleIdeal.nD Cert.QkvSampleIdeal.τ).loc Cert.QkvSampleIdeal.main_arg2)
          ∧ r.2.mem ((c.tc : Thread Cert.QkvSampleIdeal.nD Cert.QkvSampleIdeal.τ).loc Cert.QkvSampleIdeal.main_arg3) = m ((c.tc : Thread Cert.QkvSampleIdeal.nD Cert.QkvSampleIdeal.τ).loc Cert.QkvSampleIdeal.main_arg3)
          ∧ r.2.mem ((c.tc : Thread Cert.QkvSampleIdeal.nD Cert.QkvSampleIdeal.τ).loc Cert.QkvSampleIdeal.main_arg4) = m ((c.tc : Thread Cert.QkvSampleIdeal.nD Cert.QkvSampleIdeal.τ).loc Cert.QkvSampleIdeal.main_arg4)
          ∧ r.2.mem ((c.tc : Thread Cert.QkvSampleIdeal.nD Cert.QkvSampleIdeal.τ).loc Cert.QkvSampleIdeal.main_arg5) = m ((c.tc : Thread Cert.QkvSampleIdeal.nD Cert.QkvSampleIdeal.τ).loc Cert.QkvSampleIdeal.main_arg5)
          ∧ r.2.mem ((c.tc : Thread Cert.QkvSampleIdeal.nD Cert.QkvSampleIdeal.τ).loc Cert.QkvSampleIdeal.main_arg6) = m ((c.tc : Thread Cert.QkvSampleIdeal.nD Cert.QkvSampleIdeal.τ).loc Cert.QkvSampleIdeal.main_arg6)
          ∧ r.2.mem ((c.tc : Thread Cert.QkvSampleIdeal.nD Cert.QkvSampleIdeal.τ).loc Cert.QkvSampleIdeal.main_arg7) = m ((c.tc : Thread Cert.QkvSampleIdeal.nD Cert.QkvSampleIdeal.τ).loc Cert.QkvSampleIdeal.main_arg7)
          ∧ r.2.mem ((c.tc : Thread Cert.QkvSampleIdeal.nD Cert.QkvSampleIdeal.τ).loc Cert.QkvSampleIdeal.main_arg8) = m ((c.tc : Thread Cert.QkvSampleIdeal.nD Cert.QkvSampleIdeal.τ).loc Cert.QkvSampleIdeal.main_arg8)
          ∧ r.2.mem ((c.tc : Thread Cert.QkvSampleIdeal.nD Cert.QkvSampleIdeal.τ).loc Cert.QkvSampleIdeal.main_arg9) = m ((c.tc : Thread Cert.QkvSampleIdeal.nD Cert.QkvSampleIdeal.τ).loc Cert.QkvSampleIdeal.main_arg9)
          ∧ r.2.mem ((c.tc : Thread Cert.QkvSampleIdeal.nD Cert.QkvSampleIdeal.τ).loc Cert.QkvSampleIdeal.main_arg10) = m ((c.tc : Thread Cert.QkvSampleIdeal.nD Cert.QkvSampleIdeal.τ).loc Cert.QkvSampleIdeal.main_arg10)
          ∧ r.2.mem ((c.tc : Thread Cert.QkvSampleIdeal.nD Cert.QkvSampleIdeal.τ).loc Cert.QkvSampleIdeal.main_arg11) = m ((c.tc : Thread Cert.QkvSampleIdeal.nD Cert.QkvSampleIdeal.τ).loc Cert.QkvSampleIdeal.main_arg11))
      ∧ θ_run (Cert.QkvSampleRefIdeal.defs (F := Ideal)) (onTc (τ := Cert.QkvSampleRefIdeal.τ) (Cert.QkvSampleRefIdeal.main (F := Ideal))) ⟨m', fun _ => 0, g'⟩ (fun r => ∀ c : Dev Cert.QkvSampleRefIdeal.nD,
          r.2.mem ((c.tc : Thread Cert.QkvSampleRefIdeal.nD Cert.QkvSampleRefIdeal.τ).loc Cert.QkvSampleRefIdeal.main_v34) = v0 c
          ∧ r.2.mem ((c.tc : Thread Cert.QkvSampleRefIdeal.nD Cert.QkvSampleRefIdeal.τ).loc Cert.QkvSampleRefIdeal.main_v35) = v1 c
          ∧ r.2.mem ((c.tc : Thread Cert.QkvSampleRefIdeal.nD Cert.QkvSampleRefIdeal.τ).loc Cert.QkvSampleRefIdeal.main_v33) = v2 c
          ∧ r.2.mem ((c.tc : Thread Cert.QkvSampleRefIdeal.nD Cert.QkvSampleRefIdeal.τ).loc Cert.QkvSampleRefIdeal.main_arg0) = m' ((c.tc : Thread Cert.QkvSampleRefIdeal.nD Cert.QkvSampleRefIdeal.τ).loc Cert.QkvSampleRefIdeal.main_arg0)
          ∧ r.2.mem ((c.tc : Thread Cert.QkvSampleRefIdeal.nD Cert.QkvSampleRefIdeal.τ).loc Cert.QkvSampleRefIdeal.main_arg1) = m' ((c.tc : Thread Cert.QkvSampleRefIdeal.nD Cert.QkvSampleRefIdeal.τ).loc Cert.QkvSampleRefIdeal.main_arg1)
          ∧ r.2.mem ((c.tc : Thread Cert.QkvSampleRefIdeal.nD Cert.QkvSampleRefIdeal.τ).loc Cert.QkvSampleRefIdeal.main_arg2) = m' ((c.tc : Thread Cert.QkvSampleRefIdeal.nD Cert.QkvSampleRefIdeal.τ).loc Cert.QkvSampleRefIdeal.main_arg2)
          ∧ r.2.mem ((c.tc : Thread Cert.QkvSampleRefIdeal.nD Cert.QkvSampleRefIdeal.τ).loc Cert.QkvSampleRefIdeal.main_arg3) = m' ((c.tc : Thread Cert.QkvSampleRefIdeal.nD Cert.QkvSampleRefIdeal.τ).loc Cert.QkvSampleRefIdeal.main_arg3)
          ∧ r.2.mem ((c.tc : Thread Cert.QkvSampleRefIdeal.nD Cert.QkvSampleRefIdeal.τ).loc Cert.QkvSampleRefIdeal.main_arg4) = m' ((c.tc : Thread Cert.QkvSampleRefIdeal.nD Cert.QkvSampleRefIdeal.τ).loc Cert.QkvSampleRefIdeal.main_arg4)
          ∧ r.2.mem ((c.tc : Thread Cert.QkvSampleRefIdeal.nD Cert.QkvSampleRefIdeal.τ).loc Cert.QkvSampleRefIdeal.main_arg5) = m' ((c.tc : Thread Cert.QkvSampleRefIdeal.nD Cert.QkvSampleRefIdeal.τ).loc Cert.QkvSampleRefIdeal.main_arg5)
          ∧ r.2.mem ((c.tc : Thread Cert.QkvSampleRefIdeal.nD Cert.QkvSampleRefIdeal.τ).loc Cert.QkvSampleRefIdeal.main_arg6) = m' ((c.tc : Thread Cert.QkvSampleRefIdeal.nD Cert.QkvSampleRefIdeal.τ).loc Cert.QkvSampleRefIdeal.main_arg6)
          ∧ r.2.mem ((c.tc : Thread Cert.QkvSampleRefIdeal.nD Cert.QkvSampleRefIdeal.τ).loc Cert.QkvSampleRefIdeal.main_arg7) = m' ((c.tc : Thread Cert.QkvSampleRefIdeal.nD Cert.QkvSampleRefIdeal.τ).loc Cert.QkvSampleRefIdeal.main_arg7)
          ∧ r.2.mem ((c.tc : Thread Cert.QkvSampleRefIdeal.nD Cert.QkvSampleRefIdeal.τ).loc Cert.QkvSampleRefIdeal.main_arg8) = m' ((c.tc : Thread Cert.QkvSampleRefIdeal.nD Cert.QkvSampleRefIdeal.τ).loc Cert.QkvSampleRefIdeal.main_arg8)
          ∧ r.2.mem ((c.tc : Thread Cert.QkvSampleRefIdeal.nD Cert.QkvSampleRefIdeal.τ).loc Cert.QkvSampleRefIdeal.main_arg9) = m' ((c.tc : Thread Cert.QkvSampleRefIdeal.nD Cert.QkvSampleRefIdeal.τ).loc Cert.QkvSampleRefIdeal.main_arg9)
          ∧ r.2.mem ((c.tc : Thread Cert.QkvSampleRefIdeal.nD Cert.QkvSampleRefIdeal.τ).loc Cert.QkvSampleRefIdeal.main_arg10) = m' ((c.tc : Thread Cert.QkvSampleRefIdeal.nD Cert.QkvSampleRefIdeal.τ).loc Cert.QkvSampleRefIdeal.main_arg10)
          ∧ r.2.mem ((c.tc : Thread Cert.QkvSampleRefIdeal.nD Cert.QkvSampleRefIdeal.τ).loc Cert.QkvSampleRefIdeal.main_arg11) = m' ((c.tc : Thread Cert.QkvSampleRefIdeal.nD Cert.QkvSampleRefIdeal.τ).loc Cert.QkvSampleRefIdeal.main_arg11))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluRefIdeal : Cert.GluRefIdeal.Facts) (hPle : Cert.Ple.Facts) (hPleIdeal : Cert.PleIdeal.Facts) (hPleRefIdeal : Cert.PleRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hPleSample : Cert.PleSample.Facts) (hPleSampleIdeal : Cert.PleSampleIdeal.Facts) (hPleSampleRefIdeal : Cert.PleSampleRefIdeal.Facts) (hQkvSample : Cert.QkvSample.Facts) (hQkvSampleIdeal : Cert.QkvSampleIdeal.Facts) (hQkvSampleRefIdeal : Cert.QkvSampleRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Glu (hGlu := hGlu)
    ∧ quiescent_GluIdeal (hGluIdeal := hGluIdeal)
    ∧ quiescent_GluRefIdeal (hGluRefIdeal := hGluRefIdeal)
    ∧ quiescent_Ple (hPle := hPle)
    ∧ quiescent_PleIdeal (hPleIdeal := hPleIdeal)
    ∧ quiescent_PleRefIdeal (hPleRefIdeal := hPleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_PleSample (hPleSample := hPleSample)
    ∧ quiescent_PleSampleIdeal (hPleSampleIdeal := hPleSampleIdeal)
    ∧ quiescent_PleSampleRefIdeal (hPleSampleRefIdeal := hPleSampleRefIdeal)
    ∧ quiescent_QkvSample (hQkvSample := hQkvSample)
    ∧ quiescent_QkvSampleIdeal (hQkvSampleIdeal := hQkvSampleIdeal)
    ∧ quiescent_QkvSampleRefIdeal (hQkvSampleRefIdeal := hQkvSampleRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Glu_GluIdeal
    ∧ algebraic_GluIdeal_GluRefIdeal (hGluIdeal := hGluIdeal) (hGluRefIdeal := hGluRefIdeal)
    ∧ preserves_Ple_PleIdeal
    ∧ algebraic_PleIdeal_PleRefIdeal (hPleIdeal := hPleIdeal) (hPleRefIdeal := hPleRefIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_PleSample_PleSampleIdeal
    ∧ algebraic_PleSampleIdeal_PleSampleRefIdeal (hPleSampleIdeal := hPleSampleIdeal) (hPleSampleRefIdeal := hPleSampleRefIdeal)
    ∧ preserves_QkvSample_QkvSampleIdeal
    ∧ algebraic_QkvSampleIdeal_QkvSampleRefIdeal (hQkvSampleIdeal := hQkvSampleIdeal) (hQkvSampleRefIdeal := hQkvSampleRefIdeal)
-- ==== Pre_finite_scores.lean ====
abbrev S2x4096x16x128 : Shape := ⟨4, ![2, 4096, 16, 128]⟩
abbrev S2x4096x16 : Shape := ⟨3, ![2, 4096, 16]⟩
abbrev S_ : Shape := ⟨0, ![]⟩

class Facts : Prop where
  bcast_S_S2x4096x16x128 : S_.BroadcastsInDim S2x4096x16x128 (![] : Fin 0 → Fin S2x4096x16x128.rank)
  bcast_S_S2x4096x16 : S_.BroadcastsInDim S2x4096x16 (![] : Fin 0 → Fin S2x4096x16.rank)

variable [Facts]

def fn {F : FTy → Type} [FloatOps F] (main_arg0 : FVec F S2x4096x16x128 .f32) (main_arg1 : FVec F S2x4096x16x128 .f32) (main_arg2 : FVec F S2x4096x16x128 .f32) (main_arg3 : FVec F S2x4096x16 .f32) : IVec S2x4096x16x128 1 × IVec S2x4096x16x128 1 × IVec S2x4096x16 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_v3 : FVec F S2x4096x16x128 .f32 := Host.absf main_arg1
  let main_cst_0 : FVec F S_ .f32 := constant S_ .f32 0x7F800000#32
  let main_v4 : FVec F S2x4096x16x128 .f32 := broadcastInDim S2x4096x16x128 ![] bcast_S_S2x4096x16x128 main_cst_0
  let main_v5 : IVec S2x4096x16x128 1 := cmpf .olt main_v3 main_v4
  let main_v6 : FVec F S2x4096x16 .f32 := Host.absf main_arg3
  let main_cst_1 : FVec F S_ .f32 := constant S_ .f32 0x7F800000#32
  let main_v7 : FVec F S2x4096x16 .f32 := broadcastInDim S2x4096x16 ![] bcast_S_S2x4096x16 main_cst_1
  let main_v8 : IVec S2x4096x16 1 := cmpf .olt main_v6 main_v7
  (main_v2, main_v5, main_v8)
-- ==== Kernel.lean ====
abbrev S2x4096x16x128 : Shape := ⟨4, ![2, 4096, 16, 128]⟩
abbrev S2x4096x16 : Shape := ⟨3, ![2, 4096, 16]⟩
abbrev S_ : Shape := ⟨0, ![]⟩
abbrev S16x512x2048 : Shape := ⟨3, ![16, 512, 2048]⟩
abbrev S16x2048x512 : Shape := ⟨3, ![16, 2048, 512]⟩
abbrev S8192x2048 : Shape := ⟨2, ![8192, 2048]⟩
abbrev S2x4096x16x1 : Shape := ⟨4, ![2, 4096, 16, 1]⟩
abbrev S2x4096x16x3 : Shape := ⟨4, ![2, 4096, 16, 3]⟩
abbrev S8x128x512 : Shape := ⟨3, ![8, 128, 512]⟩
abbrev S4096x128 : Shape := ⟨2, ![4096, 128]⟩
abbrev S512x512 : Shape := ⟨2, ![512, 512]⟩
abbrev S1x512 : Shape := ⟨2, ![1, 512]⟩
abbrev S144x512 : Shape := ⟨2, ![144, 512]⟩
abbrev S128x512 : Shape := ⟨2, ![128, 512]⟩
abbrev S16x512 : Shape := ⟨2, ![16, 512]⟩
abbrev S1x128x512 : Shape := ⟨3, ![1, 128, 512]⟩
abbrev S256x512 : Shape := ⟨2, ![256, 512]⟩
abbrev S512x128 : Shape := ⟨2, ![512, 128]⟩
abbrev S512x256 : Shape := ⟨2, ![512, 256]⟩
abbrev S256x256 : Shape := ⟨2, ![256, 256]⟩
abbrev S256 : Shape := ⟨1, ![256]⟩
abbrev S1x256 : Shape := ⟨2, ![1, 256]⟩
abbrev S144x256 : Shape := ⟨2, ![144, 256]⟩

abbrev nBuf : Space → Nat
  | .hbm => 38
  | .vmem => 16
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x128, .f32⟩
  | .hbm, ⟨2, _⟩ => ⟨S2x4096x16x128, .f32⟩
  | .hbm, ⟨3, _⟩ => ⟨S2x4096x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x4096x16x128, .f32⟩
  | .hbm, ⟨8, _⟩ => ⟨S2x4096x16x128, .f32⟩
  | .hbm, ⟨9, _⟩ => ⟨S2x4096x16x128, .f32⟩
  | .hbm, ⟨10, _⟩ => ⟨S2x4096x16x128, .f32⟩
  | .hbm, ⟨11, _⟩ => ⟨S16x512x2048, .f32⟩
  | .hbm, ⟨12, _⟩ => ⟨S16x2048x512, .f32⟩
  | .hbm, ⟨13, _⟩ => ⟨S16x2048x512, .bf16⟩
  | .hbm, ⟨14, _⟩ => ⟨S16x512x2048, .f32⟩
  | .hbm, ⟨15, _⟩ => ⟨S16x2048x512, .f32⟩
  | .hbm, ⟨16, _⟩ => ⟨S16x2048x512, .bf16⟩
  | .hbm, ⟨17, _⟩ => ⟨S8192x2048, .f32⟩
  | .hbm, ⟨18, _⟩ => ⟨S8192x2048, .bf16⟩
  | .hbm, ⟨19, _⟩ => ⟨S2x4096x16, .f32⟩
  | .hbm, ⟨20, _⟩ => ⟨S2x4096x16, .f32⟩
  | .hbm, ⟨21, _⟩ => ⟨S2x4096x16, .f32⟩
  | .hbm, ⟨22, _⟩ => ⟨S2x4096x16, .bf16⟩
  | .hbm, ⟨23, _⟩ => ⟨S2x4096x16, .f32⟩
  | .hbm, ⟨24, _⟩ => ⟨S2x4096x16, .f32⟩
  | .hbm, ⟨25, _⟩ => ⟨S2x4096x16, .bf16⟩
  | .hbm, ⟨26, _⟩ => ⟨S2x4096x16, .f32⟩
  | .hbm, ⟨27, _⟩ => ⟨S2x4096x16, .f32⟩
  | .hbm, ⟨28, _⟩ => ⟨S2x4096x16, .bf16⟩
  | .hbm, ⟨29, _⟩ => ⟨S2x4096x16x1, .bf16⟩
  | .hbm, ⟨30, _⟩ => ⟨S2x4096x16x1, .bf16⟩
  | .hbm, ⟨31, _⟩ => ⟨S2x4096x16x1, .bf16⟩
  | .hbm, ⟨32, _⟩ => ⟨S2x4096x16x3, .bf16⟩
  | .hbm, ⟨33, _⟩ => ⟨S_, .i32⟩
  | .hbm, ⟨34, _⟩ => ⟨S_, .bf16⟩
  | .hbm, ⟨35, _⟩ => ⟨S2x4096x16x128, .bf16⟩
  | .hbm, ⟨36, _⟩ => ⟨S8192x2048, .bf16⟩
  | .hbm, ⟨37, _⟩ => ⟨S8192x2048, .bf16⟩
  | .local _ .vmem, ⟨0, _⟩ => ⟨S8x128x512, .bf16⟩
  | .local _ .vmem, ⟨1, _⟩ => ⟨S8x128x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S8x128x512, .bf16⟩
  | .local _ .vmem, ⟨7, _⟩ => ⟨S8x128x512, .bf16⟩
  | .local _ .vmem, ⟨8, _⟩ => ⟨S4096x128, .bf16⟩
  | .local _ .vmem, ⟨9, _⟩ => ⟨S4096x128, .bf16⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S144x512, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x16x128 : Shape := ⟨4, ![2, 4096, 16, 128]⟩
abbrev S2x4096x16 : Shape := ⟨3, ![2, 4096, 16]⟩
abbrev S4096 : Shape := ⟨1, ![4096]⟩
abbrev S_ : Shape := ⟨0, ![]⟩
abbrev S2x16x4096x4096 : Shape := ⟨4, ![2, 16, 4096, 4096]⟩
abbrev S2x16x4096 : Shape := ⟨3, ![2, 16, 4096]⟩
abbrev S2x16x4096x1 : Shape := ⟨4, ![2, 16, 4096, 1]⟩
abbrev S2x16x1x4096 : Shape := ⟨4, ![2, 16, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x16x128x4096 : Shape := ⟨4, ![2, 16, 128, 4096]⟩
abbrev S8192x2048 : Shape := ⟨2, ![8192, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x128, .f32⟩
  | .hbm, ⟨2, _⟩ => ⟨S2x4096x16x128, .f32⟩
  | .hbm, ⟨3, _⟩ => ⟨S2x4096x16, .f32⟩
  | .hbm, ⟨4, _⟩ => ⟨S4096, .i32⟩
  | .hbm, ⟨5, _⟩ => ⟨S_, .f32⟩
  | .hbm, ⟨6, _⟩ => ⟨S2x4096x16x128, .f32⟩
  | .hbm, ⟨7, _⟩ => ⟨S2x4096x16x128, .f32⟩
  | .hbm, ⟨8, _⟩ => ⟨S2x16x4096x4096, .f32⟩
  | .hbm, ⟨9, _⟩ => ⟨S2x16x4096, .f32⟩
  | .hbm, ⟨10, _⟩ => ⟨S2x16x4096x1, .f32⟩
  | .hbm, ⟨11, _⟩ => ⟨S2x16x4096x4096, .f32⟩
  | .hbm, ⟨12, _⟩ => ⟨S2x16x4096x4096, .f32⟩
  | .hbm, ⟨13, _⟩ => ⟨S2x16x4096, .f32⟩
  | .hbm, ⟨14, _⟩ => ⟨S2x16x1x4096, .f32⟩
  | .hbm, ⟨15, _⟩ => ⟨S2x16x4096x4096, .f32⟩
  | .hbm, ⟨16, _⟩ => ⟨S2x16x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x1x4096x4096, .i1⟩
  | .hbm, ⟨23, _⟩ => ⟨S_, .f32⟩
  | .hbm, ⟨24, _⟩ => ⟨S_, .f32⟩
  | .hbm, ⟨25, _⟩ => ⟨S2x16x4096x4096, .i1⟩
  | .hbm, ⟨26, _⟩ => ⟨S2x16x4096x4096, .f32⟩
  | .hbm, ⟨27, _⟩ => ⟨S2x16x4096x4096, .f32⟩
  | .hbm, ⟨28, _⟩ => ⟨S_, .f32⟩
  | .hbm, ⟨29, _⟩ => ⟨S2x16x4096, .f32⟩
  | .hbm, ⟨30, _⟩ => ⟨S_, .f32⟩
  | .hbm, ⟨31, _⟩ => ⟨S2x16x4096, .f32⟩
  | .hbm, ⟨32, _⟩ => ⟨S2x16x4096, .f32⟩
  | .hbm, ⟨33, _⟩ => ⟨S2x16x4096x1, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S_, .f32⟩
  | .hbm, ⟨38, _⟩ => ⟨S2x16x4096, .f32⟩
  | .hbm, ⟨39, _⟩ => ⟨S2x16x4096x1, .f32⟩
  | .hbm, ⟨40, _⟩ => ⟨S2x16x4096x4096, .f32⟩
  | .hbm, ⟨41, _⟩ => ⟨S2x16x4096x4096, .f32⟩
  | .hbm, ⟨42, _⟩ => ⟨S2x16x128x4096, .f32⟩
  | .hbm, ⟨43, _⟩ => ⟨S2x4096x16x128, .f32⟩
  | .hbm, ⟨44, _⟩ => ⟨S8192x2048, .f32⟩
  | .hbm, ⟨45, _⟩ => ⟨S8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Glu.lean ====
abbrev S8192x2048 : Shape := ⟨2, ![8192, 2048]⟩
abbrev S1x2048 : Shape := ⟨2, ![1, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S2048x4096, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8192x2048 : Shape := ⟨2, ![8192, 2048]⟩
abbrev S1x2048 : Shape := ⟨2, ![1, 2048]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x4096, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Ple.lean ====
abbrev S8192x2048 : Shape := ⟨2, ![8192, 2048]⟩
abbrev S1x2048 : Shape := ⟨2, ![1, 2048]⟩
abbrev S8192x256 : Shape := ⟨2, ![8192, 256]⟩
abbrev S2x2048x2048 : Shape := ⟨3, ![2, 2048, 2048]⟩
abbrev S2x256x2048 : Shape := ⟨3, ![2, 256, 2048]⟩
abbrev S512x2048 : Shape := ⟨2, ![512, 2048]⟩
abbrev S512x256 : Shape := ⟨2, ![512, 256]⟩
abbrev S1x2048x2048 : Shape := ⟨3, ![1, 2048, 2048]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S256x2048 : Shape := ⟨2, ![256, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x256, .f32⟩
  | .hbm, ⟨3, _⟩ => ⟨S2x2048x2048, .f32⟩
  | .hbm, ⟨4, _⟩ => ⟨S2x256x2048, .f32⟩
  | .hbm, ⟨5, _⟩ => ⟨S2x2048x2048, .bf16⟩
  | .hbm, ⟨6, _⟩ => ⟨S2x256x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x256, .f32⟩
  | .local _ .vmem, ⟨4, _⟩ => ⟨S512x256, .f32⟩
  | .local _ .vmem, ⟨5, _⟩ => ⟨S1x2048x2048, .bf16⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S8192x2048 : Shape := ⟨2, ![8192, 2048]⟩
abbrev S1x2048 : Shape := ⟨2, ![1, 2048]⟩
abbrev S8192x256 : Shape := ⟨2, ![8192, 256]⟩
abbrev S2x2048x2048 : Shape := ⟨3, ![2, 2048, 2048]⟩
abbrev S2x256x2048 : Shape := ⟨3, ![2, 256, 2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x256, .f32⟩
  | .hbm, ⟨3, _⟩ => ⟨S2x2048x2048, .f32⟩
  | .hbm, ⟨4, _⟩ => ⟨S2x256x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S1x256x2048, .f32⟩
  | .hbm, ⟨32, _⟩ => ⟨S256x2048, .f32⟩
  | .hbm, ⟨33, _⟩ => ⟨S8192x2048, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S2x2048x5632 : Shape := ⟨3, ![2, 2048, 5632]⟩
abbrev S3x5632 : Shape := ⟨2, ![3, 5632]⟩
abbrev S1x5632 : Shape := ⟨2, ![1, 5632]⟩
abbrev S2x5632x2048 : Shape := ⟨3, ![2, 5632, 2048]⟩
abbrev S2048x2048 : Shape := ⟨2, ![2048, 2048]⟩
abbrev S2x2x5632 : Shape := ⟨3, ![2, 2, 5632]⟩
abbrev S2x11x2x512 : Shape := ⟨4, ![2, 11, 2, 512]⟩
abbrev S512x2048 : Shape := ⟨2, ![512, 2048]⟩
abbrev S1x2048x512 : Shape := ⟨3, ![1, 2048, 512]⟩
abbrev S3x512 : Shape := ⟨2, ![3, 512]⟩
abbrev S1x512 : Shape := ⟨2, ![1, 512]⟩
abbrev S1x512x2048 : Shape := ⟨3, ![1, 512, 2048]⟩
abbrev S1x2x512 : Shape := ⟨3, ![1, 2, 512]⟩
abbrev S520x512 : Shape := ⟨2, ![520, 512]⟩
abbrev S11x2x512 : Shape := ⟨3, ![11, 2, 512]⟩
abbrev S512 : Shape := ⟨1, ![512]⟩
abbrev S512x1 : Shape := ⟨2, ![512, 1]⟩
abbrev S2x512 : Shape := ⟨2, ![2, 512]⟩
abbrev S2048x512 : Shape := ⟨2, ![2048, 512]⟩
abbrev S512x512 : Shape := ⟨2, ![512, 512]⟩
abbrev S1x1x2x512 : Shape := ⟨4, ![1, 1, 2, 512]⟩

abbrev nBuf : Space → Nat
  | .hbm => 16
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S1x5632, .f32⟩
  | .hbm, ⟨6, _⟩ => ⟨S2x5632x2048, .f32⟩
  | .hbm, ⟨7, _⟩ => ⟨S8192x2048, .bf16⟩
  | .hbm, ⟨8, _⟩ => ⟨S2048x2048, .f32⟩
  | .hbm, ⟨9, _⟩ => ⟨S2x2x5632, .f32⟩
  | .hbm, ⟨10, _⟩ => ⟨S2x2048x5632, .bf16⟩
  | .hbm, ⟨11, _⟩ => ⟨S2x2048x5632, .bf16⟩
  | .hbm, ⟨12, _⟩ => ⟨S2x5632x2048, .bf16⟩
  | .hbm, ⟨13, _⟩ => ⟨S2048x2048, .bf16⟩
  | .hbm, ⟨14, _⟩ => ⟨S8192x2048, .f32⟩
  | .hbm, ⟨15, _⟩ => ⟨S2x11x2x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1x512x2048, .bf16⟩
  | .local _ .vmem, ⟨12, _⟩ => ⟨S1x512x2048, .bf16⟩
  | .local _ .vmem, ⟨13, _⟩ => ⟨S512x2048, .bf16⟩
  | .local _ .vmem, ⟨14, _⟩ => ⟨S512x2048, .bf16⟩
  | .local _ .vmem, ⟨15, _⟩ => ⟨S2048x2048, .bf16⟩
  | .local _ .vmem, ⟨16, _⟩ => ⟨S1x2x512, .f32⟩
  | .local _ .vmem, ⟨17, _⟩ => ⟨S1x2x512, .f32⟩
  | .local _ .vmem, ⟨18, _⟩ => ⟨S512x2048, .f32⟩
  | .local _ .vmem, ⟨19, _⟩ => ⟨S512x2048, .f32⟩
  | .local _ .vmem, ⟨20, _⟩ => ⟨S2x11x2x512, .f32⟩
  | .local _ .vmem, ⟨21, _⟩ => ⟨S512x2048, .bf16⟩
  | .local _ .vmem, ⟨22, _⟩ => ⟨S520x512, .f32⟩
  | .local _ .vmem, ⟨23, _⟩ => ⟨S11x2x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨2, ![16, 11], ![false, false]⟩

def k0_off1 (i : grid0.Coords) : Fin 3 → Nat :=
  let arg1 : BitVec 32 := BitVec.ofNat 32 (i 1).val
  let v16 : Index := Scalar.indexCast arg1
  let c0_8 : Index := 0#32
  let c0_9 : Index := 0#32
  ![v16.toNat, 0, 0]
def k0_cond3 (i : grid0.Coords) : BitVec 1 :=
  let arg0 : BitVec 32 := BitVec.ofNat 32 (i 0).val
  let c8_i32_41 : BitVec 32 := 8#32
  let c0_i32_42 : BitVec 32 := 0#32
  let v65 : BitVec 1 := Scalar.cmpi .eq c8_i32_41 c0_i32_42
  let c1_i32_43 : BitVec 32 := 1#32
  let v66 : BitVec 32 := Scalar.select v65 c1_i32_43 c8_i32_41
  let v67 : BitVec 32 := Scalar.remsi arg0 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c7_i32 : BitVec 32 := 7#32
  let v75 : BitVec 1 := Scalar.cmpi .eq v74 c7_i32
  let v76 : BitVec 32 := Scalar.extui v75
  let c0_i32_47 : BitVec 32 := 0#32
  let v77 : BitVec 1 := Scalar.cmpi .ne v76 c0_i32_47
  v77

def k0_off2 (i : grid0.Coords) : Fin 4 → Nat :=
  let arg0 : BitVec 32 := BitVec.ofNat 32 (i 0).val
  let c0_i32_49 : BitVec 32 := 0#32
  let v79 : BitVec 1 := Scalar.cmpi .sgt arg0 c0_i32_49
  let v80 : BitVec 32 := Scalar.extui v79
  let c0_i32_50 : BitVec 32 := 0#32
  let v81 : BitVec 1 := Scalar.cmpi .slt arg0 c0_i32_50
  let v82 : BitVec 32 := Scalar.extui v81
  let v83 : BitVec 32 := Scalar.subi v80 v82
  let c8_i32_48 : BitVec 32 := 8#32
  let c0_i32_51 : BitVec 32 := 0#32
  let v84 : BitVec 1 := Scalar.cmpi .sgt c8_i32_48 c0_i32_51
  let v85 : BitVec 32 := Scalar.extui v84
  let c0_i32_52 : BitVec 32 := 0#32
  let v86 : BitVec 1 := Scalar.cmpi .slt c8_i32_48 c0_i32_52
  let v87 : BitVec 32 := Scalar.extui v86
  let v88 : BitVec 32 := Scalar.subi v85 v87
  let v89 : BitVec 1 := Scalar.cmpi .ne v83 v88
  let v90 : BitVec 32 := Scalar.remsi arg0 c8_i32_48
  let c0_i32_53 : BitVec 32 := 0#32
  let v91 : BitVec 1 := Scalar.cmpi .ne v90 c0_i32_53
  let v92 : BitVec 1 := Scalar.andi v89 v91
  let v78 : BitVec 32 := Scalar.divsi arg0 c8_i32_48
  let c1_i32_54 : BitVec 32 := 1#32
  let v93 : BitVec 32 := Scalar.subi v78 c1_i32_54
  let v94 : BitVec 32 := Scalar.select v92 v93 v78
  let v95 : Index := Scalar.indexCast v94
  let arg1 : BitVec 32 := BitVec.ofNat 32 (i 1).val
  let v96 : Index := Scalar.indexCast arg1
  let c0_55 : Index := 0#32
  let c0_56 : Index := 0#32
  ![v95.toNat, v96.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x11x2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== FfnRefIdeal.lean ====
abbrev S8192x2048 : Shape := ⟨2, ![8192, 2048]⟩
abbrev S1x2048 : Shape := ⟨2, ![1, 2048]⟩
abbrev S2x2048x5632 : Shape := ⟨3, ![2, 2048, 5632]⟩
abbrev S3x5632 : Shape := ⟨2, ![3, 5632]⟩
abbrev S1x5632 : Shape := ⟨2, ![1, 5632]⟩
abbrev S2x5632x2048 : Shape := ⟨3, ![2, 5632, 2048]⟩
abbrev S2048x2048 : Shape := ⟨2, ![2048, 2048]⟩
abbrev S2x2x5632 : Shape := ⟨3, ![2, 2, 5632]⟩
abbrev S_ : Shape := ⟨0, ![]⟩
abbrev S8192 : Shape := ⟨1, ![8192]⟩
abbrev S8192x1 : Shape := ⟨2, ![8192, 1]⟩
abbrev S1x2048x5632 : Shape := ⟨3, ![1, 2048, 5632]⟩
abbrev S2048x5632 : Shape := ⟨2, ![2048, 5632]⟩
abbrev S8192x5632 : Shape := ⟨2, ![8192, 5632]⟩
abbrev S2x4096x5632 : Shape := ⟨3, ![2, 4096, 5632]⟩
abbrev S2x4098x5632 : Shape := ⟨3, ![2, 4098, 5632]⟩
abbrev S5632 : Shape := ⟨1, ![5632]⟩
abbrev S1x1x5632 : Shape := ⟨3, ![1, 1, 5632]⟩
abbrev S1x5632x2048 : Shape := ⟨3, ![1, 5632, 2048]⟩
abbrev S5632x2048 : Shape := ⟨2, ![5632, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S3x5632, .f32⟩
  | .hbm, ⟨5, _⟩ => ⟨S1x5632, .f32⟩
  | .hbm, ⟨6, _⟩ => ⟨S2x5632x2048, .f32⟩
  | .hbm, ⟨7, _⟩ => ⟨S8192x2048, .bf16⟩
  | .hbm, ⟨8, _⟩ => ⟨S2048x2048, .f32⟩
  | .hbm, ⟨9, _⟩ => ⟨S2x2x5632, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048x5632, .f32⟩
  | .hbm, ⟨29, _⟩ => ⟨S2048x5632, .f32⟩
  | .hbm, ⟨30, _⟩ => ⟨S8192x5632, .f32⟩
  | .hbm, ⟨31, _⟩ => ⟨S2x4096x5632, .f32⟩
  | .hbm, ⟨32, _⟩ => ⟨S2x4098x5632, .f32⟩
  | .hbm, ⟨33, _⟩ => ⟨S2x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S2x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S5632, .f32⟩
  | .hbm, ⟨54, _⟩ => ⟨S1x1x5632, .f32⟩
  | .hbm, ⟨55, _⟩ => ⟨S2x4096x5632, .f32⟩
  | .hbm, ⟨56, _⟩ => ⟨S2x4096x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S1x2048x5632, .f32⟩
  | .hbm, ⟨68, _⟩ => ⟨S2048x5632, .f32⟩
  | .hbm, ⟨69, _⟩ => ⟨S8192x5632, .f32⟩
  | .hbm, ⟨70, _⟩ => ⟨S8192x5632, .f32⟩
  | .hbm, ⟨71, _⟩ => ⟨S1x5632x2048, .f32⟩
  | .hbm, ⟨72, _⟩ => ⟨S5632x2048, .f32⟩
  | .hbm, ⟨73, _⟩ => ⟨S8192x2048, .f32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Qkv.lean ====
abbrev S8192x2048 : Shape := ⟨2, ![8192, 2048]⟩
abbrev S1x2048 : Shape := ⟨2, ![1, 2048]⟩
abbrev S2048x2048 : Shape := ⟨2, ![2048, 2048]⟩
abbrev S1x128 : Shape := ⟨2, ![1, 128]⟩
abbrev S2048x128 : Shape := ⟨2, ![2048, 128]⟩
abbrev S512x512 : Shape := ⟨2, ![512, 512]⟩
abbrev S3x128x2048 : Shape := ⟨3, ![3, 128, 2048]⟩
abbrev S16x2048x512 : Shape := ⟨3, ![16, 2048, 512]⟩
abbrev S8192x128 : Shape := ⟨2, ![8192, 128]⟩
abbrev S512x2048 : Shape := ⟨2, ![512, 2048]⟩
abbrev S2048x512 : Shape := ⟨2, ![2048, 512]⟩
abbrev S3x128x512 : Shape := ⟨3, ![3, 128, 512]⟩
abbrev S1x512x512 : Shape := ⟨3, ![1, 512, 512]⟩
abbrev S512x128 : Shape := ⟨2, ![512, 128]⟩
abbrev S3x512x128 : Shape := ⟨3, ![3, 512, 128]⟩
abbrev S512 : Shape := ⟨1, ![512]⟩
abbrev S512x1 : Shape := ⟨2, ![512, 1]⟩
abbrev S1x512x128 : Shape := ⟨3, ![1, 512, 128]⟩
abbrev S1x128x512 : Shape := ⟨3, ![1, 128, 512]⟩
abbrev S128x512 : Shape := ⟨2, ![128, 512]⟩

abbrev nBuf : Space → Nat
  | .hbm => 23
  | .vmem => 35
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x128, .f32⟩
  | .hbm, ⟨7, _⟩ => ⟨S1x128, .f32⟩
  | .hbm, ⟨8, _⟩ => ⟨S2048x128, .f32⟩
  | .hbm, ⟨9, _⟩ => ⟨S1x128, .f32⟩
  | .hbm, ⟨10, _⟩ => ⟨S512x512, .bf16⟩
  | .hbm, ⟨11, _⟩ => ⟨S3x128x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x128, .bf16⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x2048, .bf16⟩
  | .hbm, ⟨20, _⟩ => ⟨S16x2048x512, .bf16⟩
  | .hbm, ⟨21, _⟩ => ⟨S16x2048x512, .bf16⟩
  | .hbm, ⟨22, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S1x128, .f32⟩
  | .local _ .vmem, ⟨14, _⟩ => ⟨S512x512, .bf16⟩
  | .local _ .vmem, ⟨15, _⟩ => ⟨S3x128x512, .bf16⟩
  | .local _ .vmem, ⟨16, _⟩ => ⟨S3x128x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S512x128, .f32⟩
  | .local _ .vmem, ⟨30, _⟩ => ⟨S512x128, .f32⟩
  | .local _ .vmem, ⟨31, _⟩ => ⟨S512x2048, .bf16⟩
  | .local _ .vmem, ⟨32, _⟩ => ⟨S512x2048, .bf16⟩
  | .local _ .vmem, ⟨33, _⟩ => ⟨S1x128, .f32⟩
  | .local _ .vmem, ⟨34, _⟩ => ⟨S3x512x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== QkvRefIdeal.lean ====
abbrev S8192x2048 : Shape := ⟨2, ![8192, 2048]⟩
abbrev S1x2048 : Shape := ⟨2, ![1, 2048]⟩
abbrev S2048x2048 : Shape := ⟨2, ![2048, 2048]⟩
abbrev S1x128 : Shape := ⟨2, ![1, 128]⟩
abbrev S2048x128 : Shape := ⟨2, ![2048, 128]⟩
abbrev S512x512 : Shape := ⟨2, ![512, 512]⟩
abbrev S3x128x2048 : Shape := ⟨3, ![3, 128, 2048]⟩
abbrev S_ : Shape := ⟨0, ![]⟩
abbrev S8192 : Shape := ⟨1, ![8192]⟩
abbrev S8192x1 : Shape := ⟨2, ![8192, 1]⟩
abbrev S8192x16x128 : Shape := ⟨3, ![8192, 16, 128]⟩
abbrev S128 : Shape := ⟨1, ![128]⟩
abbrev S8192x16 : Shape := ⟨2, ![8192, 16]⟩
abbrev S8192x16x1 : Shape := ⟨3, ![8192, 16, 1]⟩
abbrev S1x1x128 : Shape := ⟨3, ![1, 1, 128]⟩
abbrev S8192x128 : Shape := ⟨2, ![8192, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x128, .f32⟩
  | .hbm, ⟨7, _⟩ => ⟨S1x128, .f32⟩
  | .hbm, ⟨8, _⟩ => ⟨S2048x128, .f32⟩
  | .hbm, ⟨9, _⟩ => ⟨S1x128, .f32⟩
  | .hbm, ⟨10, _⟩ => ⟨S512x512, .bf16⟩
  | .hbm, ⟨11, _⟩ => ⟨S3x128x2048, .bf16⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x16x128, .f32⟩
  | .hbm, ⟨29, _⟩ => ⟨S128, .f32⟩
  | .hbm, ⟨30, _⟩ => ⟨S8192x16x128, .f32⟩
  | .hbm, ⟨31, _⟩ => ⟨S_, .f32⟩
  | .hbm, ⟨32, _⟩ => ⟨S8192x16, .f32⟩
  | .hbm, ⟨33, _⟩ => ⟨S8192x16x1, .f32⟩
  | .hbm, ⟨34, _⟩ => ⟨S_, .f32⟩
  | .hbm, ⟨35, _⟩ => ⟨S8192x16x1, .f32⟩
  | .hbm, ⟨36, _⟩ => ⟨S8192x16x1, .f32⟩
  | .hbm, ⟨37, _⟩ => ⟨S_, .f32⟩
  | .hbm, ⟨38, _⟩ => ⟨S8192x16x1, .f32⟩
  | .hbm, ⟨39, _⟩ => ⟨S8192x16x1, .f32⟩
  | .hbm, ⟨40, _⟩ => ⟨S8192x16x1, .f32⟩
  | .hbm, ⟨41, _⟩ => ⟨S8192x16x128, .f32⟩
  | .hbm, ⟨42, _⟩ => ⟨S8192x16x128, .f32⟩
  | .hbm, ⟨43, _⟩ => ⟨S1x1x128, .f32⟩
  | .hbm, ⟨44, _⟩ => ⟨S8192x16x128, .f32⟩
  | .hbm, ⟨45, _⟩ => ⟨S8192x16x128, .f32⟩
  | .hbm, ⟨46, _⟩ => ⟨S8192x128, .f32⟩
  | .hbm, ⟨47, _⟩ => ⟨S128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .i1⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]
-- ==== PleSample.lean ====
abbrev S64x2048 : Shape := ⟨2, ![64, 2048]⟩
abbrev S1x2048 : Shape := ⟨2, ![1, 2048]⟩
abbrev S64x256 : Shape := ⟨2, ![64, 256]⟩
abbrev S2x2048x2048 : Shape := ⟨3, ![2, 2048, 2048]⟩
abbrev S2x256x2048 : Shape := ⟨3, ![2, 256, 2048]⟩
abbrev S1x2048x2048 : Shape := ⟨3, ![1, 2048, 2048]⟩
abbrev S1x256x2048 : Shape := ⟨3, ![1, 256, 2048]⟩
abbrev S64 : Shape := ⟨1, ![64]⟩
abbrev S64x1 : Shape := ⟨2, ![64, 1]⟩
abbrev S2048x2048 : Shape := ⟨2, ![2048, 2048]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S64x256, .f32⟩
  | .hbm, ⟨3, _⟩ => ⟨S2x2048x2048, .f32⟩
  | .hbm, ⟨4, _⟩ => ⟨S2x256x2048, .f32⟩
  | .hbm, ⟨5, _⟩ => ⟨S2x2048x2048, .bf16⟩
  | .hbm, ⟨6, _⟩ => ⟨S2x256x2048, .bf16⟩
  | .hbm, ⟨7, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x256, .f32⟩
  | .local _ .vmem, ⟨3, _⟩ => ⟨S1x2048x2048, .bf16⟩
  | .local _ .vmem, ⟨4, _⟩ => ⟨S1x256x2048, .bf16⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== PleSampleRefIdeal.lean ====
abbrev S64x2048 : Shape := ⟨2, ![64, 2048]⟩
abbrev S1x2048 : Shape := ⟨2, ![1, 2048]⟩
abbrev S64x256 : Shape := ⟨2, ![64, 256]⟩
abbrev S2x2048x2048 : Shape := ⟨3, ![2, 2048, 2048]⟩
abbrev S2x256x2048 : Shape := ⟨3, ![2, 256, 2048]⟩
abbrev S_ : Shape := ⟨0, ![]⟩
abbrev S64 : Shape := ⟨1, ![64]⟩
abbrev S64x1 : Shape := ⟨2, ![64, 1]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 36
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S64x256, .f32⟩
  | .hbm, ⟨3, _⟩ => ⟨S2x2048x2048, .f32⟩
  | .hbm, ⟨4, _⟩ => ⟨S2x256x2048, .f32⟩
  | .hbm, ⟨5, _⟩ => ⟨S64x2048, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x2048, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S1x2048x2048, .f32⟩
  | .hbm, ⟨21, _⟩ => ⟨S2048x2048, .f32⟩
  | .hbm, ⟨22, _⟩ => ⟨S64x2048, .f32⟩
  | .hbm, ⟨23, _⟩ => ⟨S64x2048, .f32⟩
  | .hbm, ⟨24, _⟩ => ⟨S64x2048, .f32⟩
  | .hbm, ⟨25, _⟩ => ⟨S_, .f32⟩
  | .hbm, ⟨26, _⟩ => ⟨S64x2048, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S1x256x2048, .f32⟩
  | .hbm, ⟨32, _⟩ => ⟨S256x2048, .f32⟩
  | .hbm, ⟨33, _⟩ => ⟨S64x2048, .f32⟩
  | .hbm, ⟨34, _⟩ => ⟨S64x2048, .f32⟩
  | .hbm, ⟨35, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== QkvSample.lean ====
abbrev S64x2048 : Shape := ⟨2, ![64, 2048]⟩
abbrev S1x2048 : Shape := ⟨2, ![1, 2048]⟩
abbrev S2048x2048 : Shape := ⟨2, ![2048, 2048]⟩
abbrev S1x128 : Shape := ⟨2, ![1, 128]⟩
abbrev S2048x128 : Shape := ⟨2, ![2048, 128]⟩
abbrev S64x64 : Shape := ⟨2, ![64, 64]⟩
abbrev S3x128x2048 : Shape := ⟨3, ![3, 128, 2048]⟩
abbrev S64x128 : Shape := ⟨2, ![64, 128]⟩
abbrev S2048x512 : Shape := ⟨2, ![2048, 512]⟩
abbrev S3x128x512 : Shape := ⟨3, ![3, 128, 512]⟩
abbrev S64x512 : Shape := ⟨2, ![64, 512]⟩
abbrev S64 : Shape := ⟨1, ![64]⟩
abbrev S64x1 : Shape := ⟨2, ![64, 1]⟩

abbrev nBuf : Space → Nat
  | .hbm => 23
  | .vmem => 31
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x128, .f32⟩
  | .hbm, ⟨7, _⟩ => ⟨S1x128, .f32⟩
  | .hbm, ⟨8, _⟩ => ⟨S2048x128, .f32⟩
  | .hbm, ⟨9, _⟩ => ⟨S1x128, .f32⟩
  | .hbm, ⟨10, _⟩ => ⟨S64x64, .bf16⟩
  | .hbm, ⟨11, _⟩ => ⟨S3x128x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x128, .bf16⟩
  | .hbm, ⟨16, _⟩ => ⟨S64x2048, .f32⟩
  | .hbm, ⟨17, _⟩ => ⟨S64x2048, .f32⟩
  | .hbm, ⟨18, _⟩ => ⟨S64x2048, .bf16⟩
  | .hbm, ⟨19, _⟩ => ⟨S64x2048, .bf16⟩
  | .hbm, ⟨20, _⟩ => ⟨S64x2048, .bf16⟩
  | .hbm, ⟨21, _⟩ => ⟨S64x128, .f32⟩
  | .hbm, ⟨22, _⟩ => ⟨S64x128, .f32⟩
  | .local _ .vmem, ⟨0, _⟩ => ⟨S64x2048, .f32⟩
  | .local _ .vmem, ⟨1, _⟩ => ⟨S1x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x128, .f32⟩
  | .local _ .vmem, ⟨10, _⟩ => ⟨S1x128, .f32⟩
  | .local _ .vmem, ⟨11, _⟩ => ⟨S2048x128, .bf16⟩
  | .local _ .vmem, ⟨12, _⟩ => ⟨S1x128, .f32⟩
  | .local _ .vmem, ⟨13, _⟩ => ⟨S64x64, .bf16⟩
  | .local _ .vmem, ⟨14, _⟩ => ⟨S3x128x512, .bf16⟩
  | .local _ .vmem, ⟨15, _⟩ => ⟨S3x128x512, .bf16⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .bf16⟩
  | .local _ .vmem, ⟨21, _⟩ => ⟨S64x512, .bf16⟩
  | .local _ .vmem, ⟨22, _⟩ => ⟨S64x512, .bf16⟩
  | .local _ .vmem, ⟨23, _⟩ => ⟨S64x512, .bf16⟩
  | .local _ .vmem, ⟨24, _⟩ => ⟨S64x512, .bf16⟩
  | .local _ .vmem, ⟨25, _⟩ => ⟨S64x512, .bf16⟩
  | .local _ .vmem, ⟨26, _⟩ => ⟨S64x128, .f32⟩
  | .local _ .vmem, ⟨27, _⟩ => ⟨S64x128, .f32⟩
  | .local _ .vmem, ⟨28, _⟩ => ⟨S64x2048, .bf16⟩
  | .local _ .vmem, ⟨29, _⟩ => ⟨S64x2048, .bf16⟩
  | .local _ .vmem, ⟨30, _⟩ => ⟨S1x128, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S3x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S64x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S64x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== QkvSampleRefIdeal.lean ====
abbrev S64x2048 : Shape := ⟨2, ![64, 2048]⟩
abbrev S1x2048 : Shape := ⟨2, ![1, 2048]⟩
abbrev S2048x2048 : Shape := ⟨2, ![2048, 2048]⟩
abbrev S1x128 : Shape := ⟨2, ![1, 128]⟩
abbrev S2048x128 : Shape := ⟨2, ![2048, 128]⟩
abbrev S64x64 : Shape := ⟨2, ![64, 64]⟩
abbrev S3x128x2048 : Shape := ⟨3, ![3, 128, 2048]⟩
abbrev S_ : Shape := ⟨0, ![]⟩
abbrev S64 : Shape := ⟨1, ![64]⟩
abbrev S64x1 : Shape := ⟨2, ![64, 1]⟩
abbrev S64x16x128 : Shape := ⟨3, ![64, 16, 128]⟩
abbrev S128 : Shape := ⟨1, ![128]⟩
abbrev S64x16 : Shape := ⟨2, ![64, 16]⟩
abbrev S64x16x1 : Shape := ⟨3, ![64, 16, 1]⟩
abbrev S1x1x128 : Shape := ⟨3, ![1, 1, 128]⟩
abbrev S64x128 : Shape := ⟨2, ![64, 128]⟩

abbrev nBuf : Space → Nat
  | .hbm => 69
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x128, .f32⟩
  | .hbm, ⟨7, _⟩ => ⟨S1x128, .f32⟩
  | .hbm, ⟨8, _⟩ => ⟨S2048x128, .f32⟩
  | .hbm, ⟨9, _⟩ => ⟨S1x128, .f32⟩
  | .hbm, ⟨10, _⟩ => ⟨S64x64, .bf16⟩
  | .hbm, ⟨11, _⟩ => ⟨S3x128x2048, .bf16⟩
  | .hbm, ⟨12, _⟩ => ⟨S64x2048, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x16x128, .f32⟩
  | .hbm, ⟨29, _⟩ => ⟨S128, .f32⟩
  | .hbm, ⟨30, _⟩ => ⟨S64x16x128, .f32⟩
  | .hbm, ⟨31, _⟩ => ⟨S_, .f32⟩
  | .hbm, ⟨32, _⟩ => ⟨S64x16, .f32⟩
  | .hbm, ⟨33, _⟩ => ⟨S64x16x1, .f32⟩
  | .hbm, ⟨34, _⟩ => ⟨S_, .f32⟩
  | .hbm, ⟨35, _⟩ => ⟨S64x16x1, .f32⟩
  | .hbm, ⟨36, _⟩ => ⟨S64x16x1, .f32⟩
  | .hbm, ⟨37, _⟩ => ⟨S_, .f32⟩
  | .hbm, ⟨38, _⟩ => ⟨S64x16x1, .f32⟩
  | .hbm, ⟨39, _⟩ => ⟨S64x16x1, .f32⟩
  | .hbm, ⟨40, _⟩ => ⟨S64x16x1, .f32⟩
  | .hbm, ⟨41, _⟩ => ⟨S64x16x128, .f32⟩
  | .hbm, ⟨42, _⟩ => ⟨S64x16x128, .f32⟩
  | .hbm, ⟨43, _⟩ => ⟨S1x1x128, .f32⟩
  | .hbm, ⟨44, _⟩ => ⟨S64x16x128, .f32⟩
  | .hbm, ⟨45, _⟩ => ⟨S64x16x128, .f32⟩
  | .hbm, ⟨46, _⟩ => ⟨S64x128, .f32⟩
  | .hbm, ⟨47, _⟩ => ⟨S128, .f32⟩
  | .hbm, ⟨48, _⟩ => ⟨S1x128, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S_, .f32⟩
  | .hbm, ⟨53, _⟩ => ⟨S64x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .i1⟩
  | .hbm, ⟨58, _⟩ => ⟨S64x128, .f32⟩
  | .hbm, ⟨59, _⟩ => ⟨S64x128, .f32⟩
  | .hbm, ⟨60, _⟩ => ⟨S64x128, .f32⟩
  | .hbm, ⟨61, _⟩ => ⟨S64x128, .f32⟩
  | .hbm, ⟨62, _⟩ => ⟨S64x128, .f32⟩
  | .hbm, ⟨63, _⟩ => ⟨S64x128, .f32⟩
  | .hbm, ⟨64, _⟩ => ⟨S64x128, .f32⟩
  | .hbm, ⟨65, _⟩ => ⟨S64x128, .f32⟩
  | .hbm, ⟨66, _⟩ => ⟨S64x128, .f32⟩
  | .hbm, ⟨67, _⟩ => ⟨S64x2048, .f32⟩
  | .hbm, ⟨68, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]
-- ==== Proof.Online.lean ====
/- The softmax-weighted mean on the extended reals, as a sum of values times real weights: what a running sum with a
   running reference point keeps, how it moves to another reference point, and the quotient at the end, which is the
   same whatever the reference point was. No program is mentioned here. -/
module

public import Idealize.ShloMosaic.Lib.Pointwise

@[expose] public section

noncomputable section

open Idealize.ShloMosaic
open scoped BigOperators

namespace Cert.Online

/-- Position `j`'s score for the query at position `t`: minus infinity if the position comes after the query. -/
def masked (s : ℕ → ℝ) (t j : ℕ) : EReal := if j ≤ t then ((s j : ℝ) : EReal) else ⊥

/-- Position `j`'s weight for the query at position `t`, in base two and relative to the reference point `μ`. -/
def weight (s : ℕ → ℝ) (t : ℕ) (μ : ℝ) (j : ℕ) : ℝ := if j ≤ t then (2 : ℝ) ^ (s j - μ) else 0

/-- Two to the power of a masked score less the reference point is the weight. -/
theorem exp2_masked (s : ℕ → ℝ) (t : ℕ) (μ : ℝ) (j : ℕ) : Ideal.exp2 (masked s t j - (μ : EReal)) = ((weight s t μ j : ℝ) : EReal) := by
  unfold masked weight
  split
  · rw [← EReal.coe_sub]; rfl
  · rw [EReal.bot_sub]; rfl

/-- Two to the power of a difference of two reals. -/
theorem exp2_coe_sub (a b : ℝ) : Ideal.exp2 ((a : EReal) - (b : EReal)) = (((2 : ℝ) ^ (a - b) : ℝ) : EReal) := by
  rw [← EReal.coe_sub]; rfl

theorem weight_nonneg (s : ℕ → ℝ) (t : ℕ) (μ : ℝ) (j : ℕ) : 0 ≤ weight s t μ j := by
  unfold weight; split
  · positivity
  · exact le_rfl

/-- A position after the query has no weight. -/
theorem weight_of_lt (s : ℕ → ℝ) (t : ℕ) (μ : ℝ) {j : ℕ} (h : t < j) : weight s t μ j = 0 := if_neg (by omega)

/-- Moving the reference point multiplies every weight by one power of two. -/
theorem weight_shift (s : ℕ → ℝ) (t : ℕ) (μ μ' : ℝ) (j : ℕ) : (2 : ℝ) ^ (μ - μ') * weight s t μ j = weight s t μ' j := by
  unfold weight; split
  · rw [← Real.rpow_add (by norm_num)]; congr 1; ring
  · exact mul_zero _

/-- A nonnegative real factor goes into a sum of extended reals. -/
theorem coe_mul_sum {ι : Type*} (a : ℝ) (ha : 0 ≤ a) (S : Finset ι) (f : ι → EReal) :
    (a : EReal) * ∑ j ∈ S, f j = ∑ j ∈ S, (a : EReal) * f j := by
  classical
  induction S using Finset.induction_on with
  | empty => simp
  | insert x S hx ih =>
    rw [Finset.sum_insert hx, Finset.sum_insert hx, ← ih]
    exact EReal.left_distrib_of_nonneg_of_ne_top (by exact_mod_cast ha) (EReal.coe_ne_top a) _ _

theorem coe_sum {ι : Type*} (S : Finset ι) (f : ι → ℝ) : ((∑ j ∈ S, f j : ℝ) : EReal) = ∑ j ∈ S, ((f j : ℝ) : EReal) := by
  classical
  induction S using Finset.induction_on with
  | empty => simp
  | insert x S hx ih => rw [Finset.sum_insert hx, Finset.sum_insert hx, EReal.coe_add, ih]

/-- The running sum over the first `N` positions of the values `v`, weighted relative to `μ`. -/
def run (v : ℕ → EReal) (s : ℕ → ℝ) (t : ℕ) (μ : ℝ) (N : ℕ) : EReal := ∑ j ∈ Finset.range N, v j * ((weight s t μ j : ℝ) : EReal)

/-- Taking in `n` more positions: the old sum is moved to the new reference point and the new terms are added. -/
theorem run_add (v : ℕ → EReal) (s : ℕ → ℝ) (t : ℕ) (μ μ' : ℝ) (N n : ℕ) :
    Ideal.exp2 ((μ : EReal) - (μ' : EReal)) * run v s t μ N
        + ∑ j ∈ Finset.range n, v (N + j) * Ideal.exp2 (masked s t (N + j) - (μ' : EReal))
      = run v s t μ' (N + n) := by
  unfold run
  rw [exp2_coe_sub, coe_mul_sum _ (by positivity), Finset.sum_range_add]
  congr 1
  · refine Finset.sum_congr rfl fun j _ => ?_
    rw [mul_left_comm, ← EReal.coe_mul, weight_shift]
  · exact Finset.sum_congr rfl fun j _ => by rw [exp2_masked]

/-- The first positions, taken in at a reference point of their own. -/
theorem run_first (v : ℕ → EReal) (s : ℕ → ℝ) (t : ℕ) (μ : ℝ) (n : ℕ) :
    ∑ j ∈ Finset.range n, v j * Ideal.exp2 (masked s t j - (μ : EReal)) = run v s t μ n := by
  unfold run
  exact Finset.sum_congr rfl fun j _ => by rw [exp2_masked]

/-- The positions after the query add nothing. -/
theorem run_eq_of_lt (v : ℕ → EReal) (s : ℕ → ℝ) (t : ℕ) (μ : ℝ) {N M : ℕ} (hN : t < N) (hM : N ≤ M) :
    run v s t μ M = run v s t μ N := by
  unfold run
  refine (Finset.sum_subset (Finset.range_mono hM) fun j _ hj => ?_).symm
  rw [weight_of_lt s t μ (by have := Finset.mem_range.not.mp hj; omega)]
  simp

/-- A position's share of the whole weight of the first `N` positions. -/
def share (s : ℕ → ℝ) (t N : ℕ) (μ : ℝ) (j : ℕ) : ℝ := weight s t μ j / ∑ k ∈ Finset.range N, weight s t μ k

theorem weight_sum_pos (s : ℕ → ℝ) (t : ℕ) (μ : ℝ) {N : ℕ} (hN : 0 < N) : 0 < ∑ k ∈ Finset.range N, weight s t μ k := by
  refine Finset.sum_pos' (fun j _ => weight_nonneg s t μ j) ⟨0, Finset.mem_range.mpr hN, ?_⟩
  unfold weight
  rw [if_pos (Nat.zero_le t)]
  positivity

/-- A sum divided by a positive real is the sum with each term's weight divided. -/
theorem div_coe (x : EReal) {D : ℝ} (hD : 0 < D) : Ideal.div x (D : EReal) = ((D⁻¹ : ℝ) : EReal) * x := by
  unfold Ideal.div
  rw [if_neg (by exact_mod_cast hD.ne'), mul_comm, EReal.coe_inv]

/-- The quotient of the running sum of the values by the running sum of ones: the mean of the values by their shares. -/
theorem run_div (v : ℕ → EReal) (s : ℕ → ℝ) (t : ℕ) (μ : ℝ) {N : ℕ} (hN : 0 < N) :
    Ideal.div (run v s t μ N) (run (fun _ => 1) s t μ N) = ∑ j ∈ Finset.range N, v j * ((share s t N μ j : ℝ) : EReal) := by
  have hD := weight_sum_pos s t μ hN
  have h1 : run (fun _ => 1) s t μ N = ((∑ k ∈ Finset.range N, weight s t μ k : ℝ) : EReal) := by
    unfold run; rw [coe_sum]; exact Finset.sum_congr rfl fun j _ => one_mul _
  rw [h1, div_coe _ hD]
  unfold run
  rw [coe_mul_sum _ (inv_nonneg.mpr hD.le)]
  refine Finset.sum_congr rfl fun j _ => ?_
  rw [mul_left_comm, ← EReal.coe_mul]
  unfold share
  rw [div_eq_inv_mul]

/-- Weights that are proportional at the positions up to the query have the same shares. -/
theorem share_eq (s : ℕ → ℝ) (t N : ℕ) (μ : ℝ) (u : ℕ → ℝ) (c : ℝ) (hc : 0 < c) (h : ∀ j, weight s t μ j = c * u j) (j : ℕ) :
    share s t N μ j = u j / ∑ k ∈ Finset.range N, u k := by
  unfold share
  simp only [h, ← Finset.mul_sum]
  exact mul_div_mul_left _ _ hc.ne'

/-- The shares do not depend on the reference point. -/
theorem share_zero (s : ℕ → ℝ) (t N : ℕ) (μ : ℝ) (j : ℕ) : share s t N μ j = share s t N 0 j :=
  share_eq s t N μ (weight s t 0) ((2 : ℝ) ^ (0 - μ)) (by positivity) (fun k => (weight_shift s t 0 μ k).symm) j

/-- The greatest of finitely many masked scores, one of which is a number, is a number. -/
theorem fold_max_real {ι : Type*} (S : Finset ι) (f : ι → EReal) (hf : ∀ i ∈ S, f i ≠ ⊤) {i : ι} (hi : i ∈ S) (hb : f i ≠ ⊥) :
    ∃ b : ℝ, S.fold max ⊥ f = (b : EReal) := by
  have htop : S.fold max ⊥ f ≠ ⊤ := by
    refine ne_of_lt ((Finset.fold_max_lt _).mpr ⟨bot_lt_top, fun x hx => lt_of_le_of_ne le_top (hf x hx)⟩)
  have hbot : S.fold max ⊥ f ≠ ⊥ := by
    refine ne_of_gt ((Finset.lt_fold_max _).mpr (Or.inr ⟨i, hi, bot_lt_iff_ne_bot.mpr hb⟩))
  exact ⟨_, (EReal.coe_toReal htop hbot).symm⟩

theorem masked_ne_top (s : ℕ → ℝ) (t j : ℕ) : masked s t j ≠ ⊤ := by
  unfold masked; split
  · exact EReal.coe_ne_top _
  · exact bot_ne_top

theorem masked_ne_bot (s : ℕ → ℝ) {t j : ℕ} (h : j ≤ t) : masked s t j ≠ ⊥ := by
  unfold masked; rw [if_pos h]; exact EReal.coe_ne_bot _

/-- A finite sum of finite products is finite. -/
theorem sum_mul_finite {ι : Type*} (S : Finset ι) (f g : ι → EReal) (hf : ∀ i, ∃ x : ℝ, f i = x) (hg : ∀ i, ∃ x : ℝ, g i = x) :
    ∃ x : ℝ, ∑ i ∈ S, f i * g i = (x : EReal) := by
  choose a ha using hf
  choose b hb using hg
  exact ⟨∑ i ∈ S, a i * b i, by rw [coe_sum]; exact Finset.sum_congr rfl fun i _ => by rw [ha, hb, EReal.coe_mul]⟩

/-- Position `j`'s weight in the natural base, relative to the reference point `M`. -/
def natural (s : ℕ → ℝ) (t : ℕ) (M : ℝ) (j : ℕ) : ℝ := if j ≤ t then Real.exp (s j - M) else 0

/-- The exponential of a masked score less the reference point is the weight in the natural base. -/
theorem exp_masked (s : ℕ → ℝ) (t : ℕ) (M : ℝ) (j : ℕ) : Ideal.exp (masked s t j - (M : EReal)) = ((natural s t M j : ℝ) : EReal) := by
  unfold masked natural
  split
  · rw [← EReal.coe_sub]; rfl
  · rw [EReal.bot_sub]; rfl

/-- The weights of two score functions are proportional where the scores in base two, turned to the natural base, differ by one number. -/
theorem weight_natural (s₂ s : ℕ → ℝ) (t : ℕ) (a M : ℝ) (h : ∀ j, s₂ j * Real.log 2 = s j - a) (j : ℕ) :
    weight s₂ t 0 j = Real.exp (M - a) * natural s t M j := by
  unfold weight natural
  split
  · rw [Real.rpow_def_of_pos (by norm_num), ← Real.exp_add, sub_zero, mul_comm, h]
    congr 1; ring
  · exact (mul_zero _).symm

/-- A masked softmax in the natural base is the share in base two. -/
theorem softmax_share (s₂ s : ℕ → ℝ) (t N : ℕ) (hN : t < N) (a : ℝ) (h : ∀ j, s₂ j * Real.log 2 = s j - a) (j : Fin N) :
    Ideal.div (Ideal.exp (masked s t j.val - max ⊥ (Finset.univ.fold max ⊥ fun k : Fin N => masked s t k.val)))
        (∑ k : Fin N, Ideal.exp (masked s t k.val - max ⊥ (Finset.univ.fold max ⊥ fun k : Fin N => masked s t k.val)))
      = ((share s₂ t N 0 j.val : ℝ) : EReal) := by
  obtain ⟨M, hM⟩ := fold_max_real Finset.univ (fun k : Fin N => masked s t k.val) (fun k _ => masked_ne_top s t k.val)
    (Finset.mem_univ (⟨t, hN⟩ : Fin N)) (masked_ne_bot s le_rfl)
  rw [hM, max_eq_right bot_le]
  simp only [exp_masked]
  have hw := weight_natural s₂ s t a M h
  have hD : 0 < ∑ k ∈ Finset.range N, natural s t M k := by
    refine (pos_iff_pos_of_mul_pos (?_ : 0 < Real.exp (M - a) * _)).mp (Real.exp_pos _)
    rw [Finset.mul_sum]
    simp only [← hw]
    exact weight_sum_pos s₂ t 0 (by omega)
  have hs : ∑ k : Fin N, ((natural s t M k.val : ℝ) : EReal) = ((∑ k ∈ Finset.range N, natural s t M k : ℝ) : EReal) := by
    rw [coe_sum, Fin.sum_univ_eq_sum_range (fun k => ((natural s t M k : ℝ) : EReal)) N]
  rw [hs, div_coe _ hD, share_eq s₂ t N 0 (natural s t M) (Real.exp (M - a)) (Real.exp_pos _) hw, ← EReal.coe_mul]
  congr 1
  rw [div_eq_inv_mul]

end Cert.Online
-- ==== Proof.Vectors.lean ====
/- The attention call's block computations read at one element: the scores of a block of keys against a half of a block
   of queries, their greatest value per query, and the weighted sums of a block of values. -/
module

public import proofs.«01_k».proof.Proof.Gen.KernelIdeal.Skeleton
public import proofs.«01_k».proof.Proof.Online
public import Idealize.ShloMosaic.Lib.Pointwise

@[expose] public section

set_option maxRecDepth 16384

noncomputable section

open Idealize.ShloMosaic Idealize.ShloMosaic.TcCoe
open scoped BigOperators

namespace Cert.KernelIdeal.Attn

open Cert.KernelIdeal Cert.KernelIdeal.Gen Cert.Online

/-- Element (block `i`, feature `d`, column `R`) of a transposed block array. -/
def qv (x : Vec Ideal S8x128x512 .bf16) (i d R : ℕ) : EReal :=
  x (ix3 (⟨i % 8, Nat.mod_lt _ (by norm_num)⟩ : Fin 8) (⟨d % 128, Nat.mod_lt _ (by norm_num)⟩ : Fin 128)
    (⟨R % 512, Nat.mod_lt _ (by norm_num)⟩ : Fin 512))

/-- Element (row `j`, lane `d`) of a row array. -/
def kv (x : Vec Ideal S4096x128 .bf16) (j d : ℕ) : EReal :=
  x (ix2 (⟨j % 4096, Nat.mod_lt _ (by norm_num)⟩ : Fin 4096) (⟨d % 128, Nat.mod_lt _ (by norm_num)⟩ : Fin 128))

/-- Key `j`'s score for query `R` of block `i`: the product over the features and the key's three bias pieces. -/
def score (x0 : Vec Ideal S8x128x512 .bf16) (x1 x2 : Vec Ideal S4096x128 .bf16) (i R j : ℕ) : EReal :=
  (∑ d : Fin 128, kv x1 j d * qv x0 i d R) + (kv x2 j 0 + kv x2 j 1 + kv x2 j 2)

/-- Row `d` of the values extended by rows of ones, at key `j`. -/
def value (x3 : Vec Ideal S8x128x512 .bf16) (d j : ℕ) : EReal := if d < 128 then qv x3 (j / 512) d (j % 512) else 1

/-- A product of extended rows: 128 products and the first three bias pieces. -/
theorem dot_aug (f g h : Fin 128 → EReal) :
    (∑ x : Fin 256, (if hx : x.val < 128 then f ⟨x.val, hx⟩ else h ⟨x.val - 128, by omega⟩)
        * (if hx : x.val < 128 then g ⟨x.val, hx⟩ else if x.val - 128 < 3 then (1 : EReal) else 0))
      = ∑ d, f d * g d + (h 0 + h 1 + h 2) := by
  refine (Fin.sum_univ_add (a := 128) (b := 128) _).trans ?_
  congr 1
  refine (Fin.sum_univ_add (a := 3) (b := 125) _).trans ?_
  rw [Finset.sum_eq_zero (s := (Finset.univ : Finset (Fin 125))) (fun x _ => by simp), add_zero, Fin.sum_univ_three]
  simp

/-- The rows of ones under the query block: a row is one below row 3 and zero from there on. -/
theorem ones_apply (a : Fin 128) (r : Fin 512) :
    k0_pay2 (F := Ideal) (ix2 a r) = if a.val < 3 then (1 : EReal) else 0 := by
  have word : ∀ a : Fin 128, BitVec.setWidth 32 (IntOp.cmpi CmpIPredicate.slt (BitVec.ofNat 32 a.val) 3#32)
      = if a.val < 3 then 1#32 else 0#32 := by decide +kernel
  pointwise [k0_pay2]
  rw [word]
  split
  · show (((1#32).toInt : ℝ) : EReal) = 1
    simp
  · show (((0#32).toInt : ℝ) : EReal) = 0
    simp

/-- The signed comparison of two small words is the comparison of the numbers. -/
theorem sle_word (a b : ℕ) (ha : a < 1024) (hb : b < 1024) :
    IntOp.cmpi .sle (BitVec.ofNat 32 a) (BitVec.ofNat 32 b) = BitVec.ofBool (decide (a ≤ b)) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp [IntOp.cmpi, BitVec.sle, h1, h2]

/-- The masking constant stands for minus infinity. -/
theorem mask_eq : (Named.named κ "mask" 0xF149F2CA#32 : Ideal .f32) = (⊥ : EReal) :=
  IdealRules.named_const.ideal_named_scalar _ _ _ _ rfl

section Scores

variable {x0 : Vec Ideal S8x128x512 .bf16} {x1 x2 : Vec Ideal S4096x128 .bf16} {i o : ℕ}
  {q : Vec Ideal S1x128x512 .bf16} {k kx : Vec Ideal S512x128 .bf16}
  (hq : ∀ (d : Fin 128) (r : Fin 512), q (ix3 0 d r) = qv x0 i d.val r.val)
  (hk : ∀ (j : Fin 512) (d : Fin 128), k (ix2 j d) = kv x1 (o + j.val) d.val)
  (hx : ∀ (j : Fin 512) (d : Fin 128), kx (ix2 j d) = kv x2 (o + j.val) d.val)

include hq hk hx

/-- The extended product of a loaded key row and a loaded query column is the score. -/
theorem score_eq (j : Fin 512) (R : Fin 512) :
    (∑ d : Fin 128, k (ix2 j d) * q (ix3 0 d R)) + (kx (ix2 j 0) + kx (ix2 j 1) + kx (ix2 j 2)) = score x0 x1 x2 i R.val (o + j.val) := by
  unfold score
  simp only [hq, hk, hx]
  rfl

/-- The scores of the first half of the queries. -/
theorem payA0 (j : Fin 512) (r : Fin 256) :
    k0_pay15 (F := Ideal) k0_pay2 q k kx (ix2 j r) = score x0 x1 x2 i r.val (o + j.val) := by
  rw [← score_eq hq hk hx j ⟨r.val, by omega⟩]
  pointwise [k0_pay15, k0_pay13, k0_pay14, ones_apply]
  exact dot_aug (fun d => k (ix2 j d)) (fun d => q (ix3 0 d ⟨r.val, by omega⟩)) (fun d => kx (ix2 j d))

/-- The scores of the second half of the queries. -/
theorem payA1 (j : Fin 512) (r : Fin 256) :
    k0_pay18 (F := Ideal) k0_pay2 q k kx (ix2 j r) = score x0 x1 x2 i (256 + r.val) (o + j.val) := by
  rw [← score_eq hq hk hx j ⟨256 + r.val, by omega⟩]
  pointwise [k0_pay18, k0_pay13, k0_pay14, ones_apply]
  exact dot_aug (fun d => k (ix2 j d)) (fun d => q (ix3 0 d ⟨256 + r.val, by omega⟩)) (fun d => kx (ix2 j d))

/-- The scores of the first half of the queries against the first half of their own block of keys. -/
theorem payD0 (j : Fin 256) (r : Fin 256) :
    k0_pay29 (F := Ideal) k0_pay2 q k kx (ix2 j r) = if j.val ≤ r.val then score x0 x1 x2 i r.val (o + j.val) else ⊥ := by
  rw [show j.val = (⟨j.val, by omega⟩ : Fin 512).val from rfl, ← score_eq hq hk hx ⟨j.val, by omega⟩ ⟨r.val, by omega⟩]
  pointwise [k0_pay29, k0_pay27, k0_pay28, ones_apply]
  rw [show IntOp.addi (BitVec.ofNat 32 r.val) 0#32 = BitVec.ofNat 32 r.val by simp [IntOp.addi],
    sle_word _ _ (by omega) (by omega), mask_eq,
    dot_aug (fun d => k (ix2 ⟨j.val, by omega⟩ d)) (fun d => q (ix3 0 d ⟨r.val, by omega⟩)) (fun d => kx (ix2 ⟨j.val, by omega⟩ d))]
  by_cases h : j.val ≤ r.val <;> simp [h, Scalar.select]

/-- The scores of the second half of the queries against their own block of keys. -/
theorem payD1 (j : Fin 512) (r : Fin 256) :
    k0_pay33 (F := Ideal) (k0_pay27 k0_pay2 q) (k0_pay28 k kx) (ix2 j r)
      = if j.val ≤ 256 + r.val then score x0 x1 x2 i (256 + r.val) (o + j.val) else ⊥ := by
  rw [← score_eq hq hk hx j ⟨256 + r.val, by omega⟩]
  pointwise [k0_pay33, k0_pay27, k0_pay28, ones_apply]
  rw [show IntOp.addi (BitVec.ofNat 32 r.val) 256#32 = BitVec.ofNat 32 (256 + r.val) by
      rw [BitVec.ofNat_add, BitVec.add_comm]; rfl,
    sle_word _ _ (by omega) (by omega), mask_eq,
    dot_aug (fun d => k (ix2 j d)) (fun d => q (ix3 0 d ⟨256 + r.val, by omega⟩)) (fun d => kx (ix2 j d))]
  by_cases h : j.val ≤ 256 + r.val <;> simp [h, Scalar.select]

end Scores

/-- The word that a greatest value starts from is minus infinity. -/
theorem neg_inf : Ideal.ofBits .f32 4286578688#32 = (⊥ : EReal) := by
  simp [Ideal.ofBits, Ideal.ieee]

section Sums

variable {x3 : Vec Ideal S8x128x512 .bf16} {kb : ℕ} {v : Vec Ideal S1x128x512 .bf16}
  (hv : ∀ (d : Fin 128) (r : Fin 512), v (ix3 0 d r) = qv x3 kb d.val r.val)

include hv

/-- A loaded block of values, extended by the rows of ones, at its keys' places. -/
theorem value_eq (d : Fin 144) (j : Fin 512) :
    (if h : d.val < 128 then v (ix3 0 ⟨d.val, h⟩ j) else 1) = value x3 d.val (512 * kb + j.val) := by
  unfold value
  split
  · rw [hv, show (512 * kb + j.val) / 512 = kb by omega, show (512 * kb + j.val) % 512 = j.val by omega]
  · rfl

/-- The weighted sums of the first half of a block of values, added to nothing. -/
theorem first256 (m : Vec Ideal S1x256 .f32) (s : Vec Ideal S256x256 .f32) (d : Fin 144) (r : Fin 256) :
    k0_pay22 (F := Ideal) k0_pay3 v m s (ix2 d r)
      = ∑ j : Fin 256, value x3 d.val (512 * kb + j.val) * Ideal.exp2 (s (ix2 j r) - m (ix2 0 r)) := by
  pointwise [k0_pay22, k0_pay21, k0_pay3]
  exact Finset.sum_congr rfl fun j _ => congrArg (· * _) (value_eq hv d ⟨j.val, by omega⟩)

/-- The weighted sums of a block of values, added to nothing. -/
theorem first512 (m : Vec Ideal S1x256 .f32) (s : Vec Ideal S512x256 .f32) (d : Fin 144) (r : Fin 256) :
    k0_pay37 (F := Ideal) k0_pay3 v m s (ix2 d r)
      = ∑ j : Fin 512, value x3 d.val (512 * kb + j.val) * Ideal.exp2 (s (ix2 j r) - m (ix2 0 r)) := by
  pointwise [k0_pay37, k0_pay36, k0_pay3]
  exact Finset.sum_congr rfl fun j _ => congrArg (· * _) (value_eq hv d j)

/-- The weighted sums of the first half of a block of values, added to the old sums moved to the new reference point. -/
theorem next256 (m b : Vec Ideal S1x256 .f32) (s : Vec Ideal S256x256 .f32) (a : Vec Ideal S144x256 .f32) (d : Fin 144) (r : Fin 256) :
    k0_pay52 (F := Ideal) k0_pay3 v m b s a (ix2 d r)
      = Ideal.exp2 (m (ix2 0 r) - max (m (ix2 0 r)) (b (ix2 0 r))) * a (ix2 d r)
        + ∑ j : Fin 256, value x3 d.val (512 * kb + j.val) * Ideal.exp2 (s (ix2 j r) - max (m (ix2 0 r)) (b (ix2 0 r))) := by
  pointwise [k0_pay52, k0_pay51, k0_pay50, k0_pay3]
  exact congrArg (_ + ·) (Finset.sum_congr rfl fun j _ => congrArg (· * _) (value_eq hv d ⟨j.val, by omega⟩))

/-- The weighted sums of a block of values, added to the old sums moved to the new reference point. -/
theorem next512 (m b : Vec Ideal S1x256 .f32) (s : Vec Ideal S512x256 .f32) (a : Vec Ideal S144x256 .f32) (d : Fin 144) (r : Fin 256) :
    k0_pay55 (F := Ideal) (k0_pay50 k0_pay3 v) m b s a (ix2 d r)
      = Ideal.exp2 (m (ix2 0 r) - max (m (ix2 0 r)) (b (ix2 0 r))) * a (ix2 d r)
        + ∑ j : Fin 512, value x3 d.val (512 * kb + j.val) * Ideal.exp2 (s (ix2 j r) - max (m (ix2 0 r)) (b (ix2 0 r))) := by
  pointwise [k0_pay55, k0_pay54, k0_pay50, k0_pay3]
  exact congrArg (_ + ·) (Finset.sum_congr rfl fun j _ => congrArg (· * _) (value_eq hv d j))

end Sums

/-- The greatest score per query, as stored. -/
theorem max512 (s : FVec Ideal S512x256 .f32) (r : Fin 256) :
    k0_pay20 (F := Ideal) s (ix2 0 r) = Finset.univ.fold max (⊥ : EReal) fun j : Fin 512 => s (ix2 j r) := by
  pointwise [k0_pay20]
  rw [neg_inf]

/-- The greatest score per query over the first half of a block of keys, as stored. -/
theorem max256 (q : Vec Ideal S1x128x512 .bf16) (k kx : Vec Ideal S512x128 .bf16) (r : Fin 256) :
    k0_pay32 (F := Ideal) (k0_pay31 k0_pay2 q k kx) (ix2 0 r)
      = Finset.univ.fold max (⊥ : EReal) fun j : Fin 256 => k0_pay29 (F := Ideal) k0_pay2 q k kx (ix2 j r) := by
  pointwise [k0_pay31, k0_pay32]
  rw [neg_inf]

/-- The quotient that leaves the call: the weighted sum of values over the sum of weights. -/
theorem quot_apply (a : Vec Ideal S128x512 .f32) (l : Vec Ideal S1x512 .f32) (R : Fin 512) (d : Fin 128) :
    k0_pay1 (F := Ideal) a l (ix2 R d) = Ideal.div (a (ix2 d R)) (l (ix2 0 R)) := by
  pointwise [k0_pay1]

/-- The reference point of a first block of keys, as stored. -/
theorem point_first (b : Vec Ideal S1x256 .f32) (r : Fin 256) : k0_pay23 (F := Ideal) b (ix2 0 r) = b (ix2 0 r) := by
  pointwise [k0_pay23]

/-- The reference point after one more block of keys, as stored. -/
theorem point_next (m b : Vec Ideal S1x256 .f32) (r : Fin 256) :
    k0_pay53 (F := Ideal) m b (ix2 0 r) = max (m (ix2 0 r)) (b (ix2 0 r)) := by
  pointwise [k0_pay53, k0_pay51]

end Cert.KernelIdeal.Attn
-- ==== Proof.Steps.lean ====
/- What the attention call's scratch buffers hold: a buffer of scores and of greatest scores, and the running reference
   points and weighted sums, each told from the list of stores made so far, and how one pair of a block of queries and a
   block of keys takes one such state to the next. -/
module

public import proofs.«01_k».proof.Proof.Vectors
public import Idealize.ShloMosaic.Lib.Pipeline.Value
public import Idealize.ShloMosaic.Lib.WholeRead

@[expose] public section

set_option maxRecDepth 16384

noncomputable section

open Idealize.ShloMosaic Idealize.ShloMosaic.TcCoe
open scoped BigOperators

namespace Cert.KernelIdeal.Attn

open Cert.KernelIdeal Cert.KernelIdeal.Gen Cert.Online

/-! ## Stores and loads of a block of columns, read at one element -/

section Blocks

variable {n0 n1 a b o : ℕ} {e : EltTy}

theorem emb_eq (h : ∀ ax, (![0, o] : Fin 2 → ℕ) ax + (![a, b] : Fin 2 → ℕ) ax ≤ (⟨2, ![n0, n1]⟩ : Shape).size ax)
    (y : (⟨2, ![n0, n1]⟩ : Shape).Idx) (j : Fin a) (r : Fin b) (h0 : (y 0).val = j.val) (h1 : (y 1).val = o + r.val) :
    y = (Rect.unit (s := ⟨2, ![n0, n1]⟩) ![0, o] ![a, b] h).toLoadRect.idx (ix2 j r) := by
  funext ax
  apply Fin.ext
  match ax with
  | ⟨0, _⟩ =>
    show (y 0).val = 0 + 1 * j.val
    omega
  | ⟨1, _⟩ =>
    show (y 1).val = o + 1 * r.val
    omega

/-- Inside the columns of the last store, its payload. -/
theorem canon_new (h : ∀ ax, (![0, o] : Fin 2 → ℕ) ax + (![a, b] : Fin 2 → ℕ) ax ≤ (⟨2, ![n0, n1]⟩ : Shape).size ax)
    (p : (⟨2, ![a, b]⟩ : Shape).Idx → Elt Ideal e) (L : List (View.Piece (Elt Ideal) ⟨2, ![n0, n1]⟩ e))
    (y : (⟨2, ![n0, n1]⟩ : Shape).Idx) (j : Fin a) (r : Fin b) (h0 : (y 0).val = j.val) (h1 : (y 1).val = o + r.val) :
    View.canon (⟨Rect.unit (s := ⟨2, ![n0, n1]⟩) ![0, o] ![a, b] h, p⟩ :: L) y = p (ix2 j r) := by
  rw [emb_eq h y j r h0 h1]
  exact View.canon_cons_emb (Rect.unit (s := ⟨2, ![n0, n1]⟩) ![0, o] ![a, b] h) p L (ix2 j r)

/-- Outside the columns of the last store, what was there before. -/
theorem canon_old (h : ∀ ax, (![0, o] : Fin 2 → ℕ) ax + (![a, b] : Fin 2 → ℕ) ax ≤ (⟨2, ![n0, n1]⟩ : Shape).size ax)
    (p : (⟨2, ![a, b]⟩ : Shape).Idx → Elt Ideal e) (L : List (View.Piece (Elt Ideal) ⟨2, ![n0, n1]⟩ e))
    (y : (⟨2, ![n0, n1]⟩ : Shape).Idx) (h1 : (y 1).val < o ∨ o + b ≤ (y 1).val) :
    View.canon (⟨Rect.unit (s := ⟨2, ![n0, n1]⟩) ![0, o] ![a, b] h, p⟩ :: L) y = View.canon L y := by
  refine View.canon_cons_of_not_mem _ L fun hm => ?_
  have hm' : y ∈ (Rect.unit (s := ⟨2, ![n0, n1]⟩) ![0, o] ![a, b] h).set := hm
  have := Rect.mem_set_unit.mp hm' 1
  have hlo : o ≤ (y 1).val := this.1
  have hhi : (y 1).val < o + b := this.2
  omega

/-- A load of a block of columns. -/
theorem readCov_at (m : Memref sig .tc .vmem ⟨2, ![n0, n1]⟩ e) (L : List (View.Piece (Elt Ideal) ⟨2, ![n0, n1]⟩ e))
    (h : ∀ ax, (![0, o] : Fin 2 → ℕ) ax + (![a, b] : Fin 2 → ℕ) ax ≤ (⟨2, ![n0, n1]⟩ : Shape).size ax)
    (y : (⟨2, ![n0, n1]⟩ : Shape).Idx) (j : Fin a) (r : Fin b) (h0 : (y 0).val = j.val) (h1 : (y 1).val = o + r.val) :
    m.view.readCov L (Rect.unit (s := ⟨2, ![n0, n1]⟩) ![0, o] ![a, b] h).toLoadRect (ix2 j r) = View.canon L y := by
  rw [View.readCov_eq_canon', emb_eq h y j r h0 h1]

end Blocks

/-- A load of block `i` of a transposed block array. -/
theorem load_block (m : Memref sig .tc .vmem S8x128x512 .bf16) (hm : m.IsWhole) (x : Vec Ideal S8x128x512 .bf16) (i : ℕ) (hi : i < 8)
    (h : ∀ ax, (![i, 0, 0] : Fin 3 → ℕ) ax + S1x128x512.size ax ≤ S8x128x512.size ax) (d : Fin 128) (r : Fin 512) :
    View.readAt (Elt Ideal) m.view (Rect.unit (s := S8x128x512) ![i, 0, 0] S1x128x512.size h).toLoadRect (hm.unread x) (ix3 0 d r)
      = qv x i d.val r.val := by
  rw [Memref.IsWhole.readAt_unread]
  unfold qv
  congr 1
  funext ax
  apply Fin.ext
  match ax with
  | ⟨0, _⟩ =>
    show i + 1 * 0 = i % 8
    omega
  | ⟨1, _⟩ =>
    show 0 + 1 * d.val = d.val % 128
    omega
  | ⟨2, _⟩ =>
    show 0 + 1 * r.val = r.val % 512
    omega

/-- A load of 512 rows of a row array. -/
theorem load_rows (m : Memref sig .tc .vmem S4096x128 .bf16) (hm : m.IsWhole) (x : Vec Ideal S4096x128 .bf16) (o : ℕ) (ho : o ≤ 3584)
    (h : ∀ ax, (![o, 0] : Fin 2 → ℕ) ax + S512x128.size ax ≤ S4096x128.size ax) (j : Fin 512) (d : Fin 128) :
    View.readAt (Elt Ideal) m.view (Rect.unit (s := S4096x128) ![o, 0] S512x128.size h).toLoadRect (hm.unread x) (ix2 j d)
      = kv x (o + j.val) d.val := by
  rw [Memref.IsWhole.readAt_unread]
  unfold kv
  congr 1
  funext ax
  apply Fin.ext
  match ax with
  | ⟨0, _⟩ =>
    show o + 1 * j.val = (o + j.val) % 4096
    omega
  | ⟨1, _⟩ =>
    show 0 + 1 * d.val = d.val % 128
    omega

/-! ## The two states -/

section States

variable (x0 : Vec Ideal S8x128x512 .bf16) (x1 x2 : Vec Ideal S4096x128 .bf16) (x3 : Vec Ideal S8x128x512 .bf16)

/-- The scores as real numbers. -/
def sc (i R j : ℕ) : ℝ := (score x0 x1 x2 i R j).toReal

/-- Every score is a number. -/
def Finite : Prop := ∀ i R j, score x0 x1 x2 i R j = ((sc x0 x1 x2 i R j : ℝ) : EReal)

/-- What a buffer of scores and a buffer of greatest scores hold of the pair (block of queries `i`, block of keys `kb`) in
    the 256 columns from `o` on: the masked scores of the first `nk` keys, and numbers. -/
def ScC (i kb o nk : ℕ) (Ls : List (View.Piece (Elt Ideal) S512x512 .f32)) (Lb : List (View.Piece (Elt Ideal) S1x512 .f32)) : Prop :=
  (∀ y : S512x512.Idx, (y 0).val < nk → o ≤ (y 1).val → (y 1).val < o + 256 →
      View.canon Ls y = masked (sc x0 x1 x2 i (y 1).val) (512 * i + (y 1).val) (512 * kb + (y 0).val))
    ∧ ∀ y : S1x512.Idx, o ≤ (y 1).val → (y 1).val < o + 256 → ∃ b : ℝ, View.canon Lb y = (b : EReal)

/-- The same of both halves of the columns, the first half with its first `nk` keys. -/
def ScP (i kb nk : ℕ) (Ls : List (View.Piece (Elt Ideal) S512x512 .f32)) (Lb : List (View.Piece (Elt Ideal) S1x512 .f32)) : Prop :=
  ScC x0 x1 x2 i kb 0 nk Ls Lb ∧ ScC x0 x1 x2 i kb 256 512 Ls Lb

/-- What the running buffers hold in the 256 columns from `o` on after block of keys `kb`: in each column some reference
    point, and relative to it the weighted sums over the keys so far of the values' rows and of the rows of ones. -/
def AccC (i kb o : ℕ) (L4 : List (View.Piece (Elt Ideal) S1x512 .f32)) (L5 : List (View.Piece (Elt Ideal) S144x512 .f32)) : Prop :=
  ∀ R, o ≤ R → R < o + 256 → ∃ μ : ℝ, (∀ y : S1x512.Idx, (y 1).val = R → View.canon L4 y = (μ : EReal))
    ∧ ∀ y : S144x512.Idx, (y 1).val = R →
        View.canon L5 y = run (value x3 (y 0).val) (sc x0 x1 x2 i R) (512 * i + R) μ (512 * (kb + 1))

/-- The same of both halves of the columns. -/
def AccP (i kb : ℕ) (L4 : List (View.Piece (Elt Ideal) S1x512 .f32)) (L5 : List (View.Piece (Elt Ideal) S144x512 .f32)) : Prop :=
  AccC x0 x1 x2 x3 i kb 0 L4 L5 ∧ AccC x0 x1 x2 x3 i kb 256 L4 L5

variable {x0 x1 x2 x3} {i kb o nk : ℕ}

section Scores

variable {Ls : List (View.Piece (Elt Ideal) S512x512 .f32)} {Lb : List (View.Piece (Elt Ideal) S1x512 .f32)}

/-- A store of a half's scores and of their greatest values. -/
theorem ScC.new (p : (⟨2, ![nk, 256]⟩ : Shape).Idx → Elt Ideal .f32) (pb : S1x256.Idx → Elt Ideal .f32)
    (h : ∀ ax, (![0, o] : Fin 2 → ℕ) ax + (![nk, 256] : Fin 2 → ℕ) ax ≤ S512x512.size ax)
    (h' : ∀ ax, (![0, o] : Fin 2 → ℕ) ax + S1x256.size ax ≤ S1x512.size ax)
    (hp : ∀ (j : Fin nk) (r : Fin 256), p (ix2 j r) = masked (sc x0 x1 x2 i (o + r.val)) (512 * i + (o + r.val)) (512 * kb + j.val))
    (hb : ∀ r : Fin 256, ∃ b : ℝ, pb (ix2 0 r) = (b : EReal)) :
    ScC x0 x1 x2 i kb o nk (⟨Rect.unit (s := S512x512) ![0, o] ![nk, 256] h, p⟩ :: Ls)
      (⟨Rect.unit (s := S1x512) ![0, o] S1x256.size h', pb⟩ :: Lb) := by
  refine ⟨fun y h0 h1 h2 => ?_, fun y h1 h2 => ?_⟩
  · have e1 : (y 1).val = o + ((y 1).val - o) := by omega
    refine (canon_new h p Ls y ⟨(y 0).val, h0⟩ ⟨(y 1).val - o, by omega⟩ rfl e1).trans ?_
    rw [hp]
    show masked (sc x0 x1 x2 i (o + ((y 1).val - o))) (512 * i + (o + ((y 1).val - o))) (512 * kb + (y 0).val) = _
    rw [← e1]
  · have e1 : (y 1).val = o + ((y 1).val - o) := by omega
    obtain ⟨b, hb⟩ := hb ⟨(y 1).val - o, by omega⟩
    have y0 : (y 0).val < 1 := (y 0).isLt
    exact ⟨b, (canon_new h' pb Lb y 0 ⟨(y 1).val - o, by omega⟩ (by show (y 0).val = 0; omega) e1).trans hb⟩

/-- A store of the other half's scores leaves a half as it was. -/
theorem ScC.old (hs : ScC x0 x1 x2 i kb 0 nk Ls Lb) (p : S512x256.Idx → Elt Ideal .f32) (pb : S1x256.Idx → Elt Ideal .f32)
    (h : ∀ ax, (![0, 256] : Fin 2 → ℕ) ax + S512x256.size ax ≤ S512x512.size ax)
    (h' : ∀ ax, (![0, 256] : Fin 2 → ℕ) ax + S1x256.size ax ≤ S1x512.size ax) :
    ScC x0 x1 x2 i kb 0 nk (⟨Rect.unit (s := S512x512) ![0, 256] S512x256.size h, p⟩ :: Ls)
      (⟨Rect.unit (s := S1x512) ![0, 256] S1x256.size h', pb⟩ :: Lb) :=
  ⟨fun y h0 h1 h2 => (canon_old h p Ls y (Or.inl (by omega))).trans (hs.1 y h0 h1 h2),
    fun y h1 h2 => by rw [show View.canon _ y = View.canon Lb y from canon_old h' pb Lb y (Or.inl (by omega))]; exact hs.2 y h1 h2⟩

variable (hS : Finite x0 x1 x2) {a2 : Memref sig .tc .vmem S8x128x512 .bf16} {w2 : a2.IsWhole}
  {a3 : Memref sig .tc .vmem S4096x128 .bf16} {w3 : a3.IsWhole} {a4 : Memref sig .tc .vmem S4096x128 .bf16} {w4 : a4.IsWhole}

include hS

theorem masked_before (R j : ℕ) (h : j ≤ 512 * i + R) :
    score x0 x1 x2 i R j = masked (sc x0 x1 x2 i R) (512 * i + R) j := by
  unfold masked; rw [if_pos h]; exact hS i R j

theorem masked_own (R j : ℕ) :
    (if j ≤ R then score x0 x1 x2 i R (512 * i + j) else ⊥) = masked (sc x0 x1 x2 i R) (512 * i + R) (512 * i + j) := by
  unfold masked
  by_cases h : j ≤ R
  · rw [if_pos h, if_pos (by omega)]; exact hS i R _
  · rw [if_neg h, if_neg (by omega)]

/-- The scores of a block of queries against an earlier block of keys. -/
theorem scBefore (kb o : ℕ) (hi : i < 8) (hkb : kb < i) (ho : o = 512 * kb) {h1 h1' h1'' h3 h4 h5 h6} :
    ScP x0 x1 x2 i kb 512
      (⟨Rect.unit (s := S512x512) ![0, 256] S512x256.size h3, k0_pay19 (F := Ideal) (k0_pay18 k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2)))⟩ ::
       ⟨Rect.unit (s := S512x512) ![0, 0] S512x256.size h4, k0_pay16 (F := Ideal) k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2))⟩ :: Ls)
      (⟨Rect.unit (s := S1x512) ![0, 256] S1x256.size h5, k0_pay20 (F := Ideal) (k0_pay18 k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2)))⟩ ::
       ⟨Rect.unit (s := S1x512) ![0, 0] S1x256.size h6, k0_pay17 (F := Ideal) k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2))⟩ :: Lb) := by
  have hq := load_block a2 w2 x0 i hi h1
  have hk := load_rows a3 w3 x1 o (by omega) h1'
  have hx := load_rows a4 w4 x2 o (by omega) h1''
  generalize View.readAt (Elt Ideal) a2.view _ _ = q at hq ⊢
  generalize View.readAt (Elt Ideal) a3.view _ _ = k at hk ⊢
  generalize View.readAt (Elt Ideal) a4.view _ _ = kx at hx ⊢
  have s0 : ∀ (j : Fin 512) (r : Fin 256), k0_pay15 (F := Ideal) k0_pay2 q k kx (ix2 j r)
      = masked (sc x0 x1 x2 i (0 + r.val)) (512 * i + (0 + r.val)) (512 * kb + j.val) := fun j r => by
    rw [payA0 hq hk hx j r, ho, zero_add, masked_before hS _ _ (by omega)]
  have s1 : ∀ (j : Fin 512) (r : Fin 256), k0_pay18 (F := Ideal) k0_pay2 q k kx (ix2 j r)
      = masked (sc x0 x1 x2 i (256 + r.val)) (512 * i + (256 + r.val)) (512 * kb + j.val) := fun j r => by
    rw [payA1 hq hk hx j r, ho, masked_before hS _ _ (by omega)]
  have big : ∀ (s : FVec Ideal S512x256 .f32) (o' : ℕ), (∀ (j : Fin 512) (r : Fin 256), s (ix2 j r)
      = masked (sc x0 x1 x2 i (o' + r.val)) (512 * i + (o' + r.val)) (512 * kb + j.val)) →
      ∀ r : Fin 256, ∃ b : ℝ, k0_pay20 (F := Ideal) s (ix2 0 r) = (b : EReal) := fun s o' hs r => by
    rw [max512]
    refine fold_max_real _ _ (fun j _ => ?_) (Finset.mem_univ (0 : Fin 512)) ?_
    · rw [hs]; exact masked_ne_top _ _ _
    · rw [hs]; exact masked_ne_bot _ (by show 512 * kb + 0 ≤ _; omega)
  refine ⟨ScC.old (ScC.new _ _ h4 h6 (fun j r => ?_) (big (k0_pay15 (F := Ideal) k0_pay2 q k kx) 0 s0)) _ _ h3 h5,
    ScC.new _ _ h3 h5 (fun j r => ?_) (big _ 256 s1)⟩
  · rw [← s0 j r]; pointwise [k0_pay16]
  · rw [← s1 j r]; pointwise [k0_pay19]

/-- The scores of a block of queries against its own block of keys. -/
theorem scOwn (i o : ℕ) (hi : i < 8) (ho : o = 512 * i) {h1 h1' h1'' h3 h4 h5 h6} :
    ScP x0 x1 x2 i i 256
      (⟨Rect.unit (s := S512x512) ![0, 256] S512x256.size h3, k0_pay34 (F := Ideal)
          (k0_pay27 k0_pay2 (View.readAt (Elt Ideal) a2.view (Rect.unit (s := S8x128x512) ![i, 0, 0] S1x128x512.size h1).toLoadRect (w2.unread x0)))
          (k0_pay28 (View.readAt (Elt Ideal) a3.view (Rect.unit (s := S4096x128) ![o, 0] S512x128.size h1').toLoadRect (w3.unread x1))
            (View.readAt (Elt Ideal) a4.view (Rect.unit (s := S4096x128) ![o, 0] S512x128.size h1'').toLoadRect (w4.unread x2)))⟩ ::
       ⟨Rect.unit (s := S512x512) ![0, 0] S256x256.size h4, k0_pay30 (F := Ideal) k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2))⟩ :: Ls)
      (⟨Rect.unit (s := S1x512) ![0, 256] S1x256.size h5, k0_pay35 (F := Ideal)
          (k0_pay27 k0_pay2 (View.readAt (Elt Ideal) a2.view (Rect.unit (s := S8x128x512) ![i, 0, 0] S1x128x512.size h1).toLoadRect (w2.unread x0)))
          (k0_pay28 (View.readAt (Elt Ideal) a3.view (Rect.unit (s := S4096x128) ![o, 0] S512x128.size h1').toLoadRect (w3.unread x1))
            (View.readAt (Elt Ideal) a4.view (Rect.unit (s := S4096x128) ![o, 0] S512x128.size h1'').toLoadRect (w4.unread x2)))⟩ ::
       ⟨Rect.unit (s := S1x512) ![0, 0] S1x256.size h6, k0_pay32 (F := Ideal) (k0_pay31 k0_pay2
          (View.readAt (Elt Ideal) a2.view (Rect.unit (s := S8x128x512) ![i, 0, 0] S1x128x512.size h1).toLoadRect (w2.unread x0))
          (View.readAt (Elt Ideal) a3.view (Rect.unit (s := S4096x128) ![o, 0] S512x128.size h1').toLoadRect (w3.unread x1))
          (View.readAt (Elt Ideal) a4.view (Rect.unit (s := S4096x128) ![o, 0] S512x128.size h1'').toLoadRect (w4.unread x2)))⟩ :: Lb) := by
  have hq := load_block a2 w2 x0 i hi h1
  have hk := load_rows a3 w3 x1 o (by omega) h1'
  have hx := load_rows a4 w4 x2 o (by omega) h1''
  generalize View.readAt (Elt Ideal) a2.view _ _ = q at hq ⊢
  generalize View.readAt (Elt Ideal) a3.view _ _ = k at hk ⊢
  generalize View.readAt (Elt Ideal) a4.view _ _ = kx at hx ⊢
  subst ho
  have s0 : ∀ (j : Fin 256) (r : Fin 256), k0_pay29 (F := Ideal) k0_pay2 q k kx (ix2 j r)
      = masked (sc x0 x1 x2 i (0 + r.val)) (512 * i + (0 + r.val)) (512 * i + j.val) := fun j r => by
    rw [payD0 hq hk hx j r, zero_add, masked_own hS]
  have s1 : ∀ (j : Fin 512) (r : Fin 256), k0_pay33 (F := Ideal) (k0_pay27 k0_pay2 q) (k0_pay28 k kx) (ix2 j r)
      = masked (sc x0 x1 x2 i (256 + r.val)) (512 * i + (256 + r.val)) (512 * i + j.val) := fun j r => by
    rw [payD1 hq hk hx j r, masked_own hS]
  refine ⟨ScC.old (ScC.new _ _ h4 h6 (fun j r => ?_) (fun r => ?_)) _ _ h3 h5, ScC.new _ _ h3 h5 (fun j r => ?_) (fun r => ?_)⟩
  · rw [← s0 j r]; pointwise [k0_pay30]
  · rw [max256]
    refine fold_max_real _ _ (fun j _ => ?_) (Finset.mem_univ (0 : Fin 256)) ?_
    · rw [s0]; exact masked_ne_top _ _ _
    · rw [s0]; exact masked_ne_bot _ (by show 512 * i + 0 ≤ _; omega)
  · rw [← s1 j r]; pointwise [k0_pay34]
  · rw [show k0_pay35 (F := Ideal) (k0_pay27 k0_pay2 q) (k0_pay28 k kx) = k0_pay20 (k0_pay33 (k0_pay27 k0_pay2 q) (k0_pay28 k kx)) from rfl, max512]
    refine fold_max_real _ _ (fun j _ => ?_) (Finset.mem_univ (0 : Fin 512)) ?_
    · rw [s1]; exact masked_ne_top _ _ _
    · rw [s1]; exact masked_ne_bot _ (by show 512 * i + 0 ≤ _; omega)

end Scores

section Sums

variable {Ls : List (View.Piece (Elt Ideal) S512x512 .f32)} {Lb : List (View.Piece (Elt Ideal) S1x512 .f32)}
  {L4 : List (View.Piece (Elt Ideal) S1x512 .f32)} {L5 : List (View.Piece (Elt Ideal) S144x512 .f32)}

/-- A store of a half's reference points and weighted sums. -/
theorem AccC.new (pm : S1x256.Idx → Elt Ideal .f32) (pa : S144x256.Idx → Elt Ideal .f32)
    (h : ∀ ax, (![0, o] : Fin 2 → ℕ) ax + S1x256.size ax ≤ S1x512.size ax)
    (h' : ∀ ax, (![0, o] : Fin 2 → ℕ) ax + S144x256.size ax ≤ S144x512.size ax)
    (hp : ∀ r : Fin 256, ∃ μ : ℝ, pm (ix2 0 r) = (μ : EReal) ∧ ∀ d : Fin 144, pa (ix2 d r)
      = run (value x3 d.val) (sc x0 x1 x2 i (o + r.val)) (512 * i + (o + r.val)) μ (512 * (kb + 1))) :
    AccC x0 x1 x2 x3 i kb o (⟨Rect.unit (s := S1x512) ![0, o] S1x256.size h, pm⟩ :: L4)
      (⟨Rect.unit (s := S144x512) ![0, o] S144x256.size h', pa⟩ :: L5) := by
  intro R h1 h2
  obtain ⟨r, rfl⟩ : ∃ r : Fin 256, R = o + r.val := ⟨⟨R - o, by omega⟩, by show R = o + (R - o); omega⟩
  obtain ⟨μ, hm, ha⟩ := hp r
  refine ⟨μ, fun y hy => ?_, fun y hy => ?_⟩
  · have y0 : (y 0).val < 1 := (y 0).isLt
    exact (canon_new h pm L4 y 0 r (by show (y 0).val = 0; omega) hy).trans hm
  · exact (canon_new h' pa L5 y (y 0) r rfl hy).trans (ha (y 0))

/-- A store of the first half's leaves the second half as it was. -/
theorem AccC.old (hs : AccC x0 x1 x2 x3 i kb 256 L4 L5) (pm : S1x256.Idx → Elt Ideal .f32) (pa : S144x256.Idx → Elt Ideal .f32)
    (h : ∀ ax, (![0, 0] : Fin 2 → ℕ) ax + S1x256.size ax ≤ S1x512.size ax)
    (h' : ∀ ax, (![0, 0] : Fin 2 → ℕ) ax + S144x256.size ax ≤ S144x512.size ax) :
    AccC x0 x1 x2 x3 i kb 256 (⟨Rect.unit (s := S1x512) ![0, 0] S1x256.size h, pm⟩ :: L4)
      (⟨Rect.unit (s := S144x512) ![0, 0] S144x256.size h', pa⟩ :: L5) := by
  intro R h1 h2
  obtain ⟨μ, hm, ha⟩ := hs R h1 h2
  exact ⟨μ, fun y hy => (canon_old h pm L4 y (Or.inr (by omega))).trans (hm y hy),
    fun y hy => (canon_old h' pa L5 y (Or.inr (by omega))).trans (ha y hy)⟩

/-- A store of the second half's leaves the first half as it was. -/
theorem AccC.old' (hs : AccC x0 x1 x2 x3 i kb 0 L4 L5) (pm : S1x256.Idx → Elt Ideal .f32) (pa : S144x256.Idx → Elt Ideal .f32)
    (h : ∀ ax, (![0, 256] : Fin 2 → ℕ) ax + S1x256.size ax ≤ S1x512.size ax)
    (h' : ∀ ax, (![0, 256] : Fin 2 → ℕ) ax + S144x256.size ax ≤ S144x512.size ax) :
    AccC x0 x1 x2 x3 i kb 0 (⟨Rect.unit (s := S1x512) ![0, 256] S1x256.size h, pm⟩ :: L4)
      (⟨Rect.unit (s := S144x512) ![0, 256] S144x256.size h', pa⟩ :: L5) := by
  intro R h1 h2
  obtain ⟨μ, hm, ha⟩ := hs R h1 h2
  exact ⟨μ, fun y hy => (canon_old h pm L4 y (Or.inl (by omega))).trans (hm y hy),
    fun y hy => (canon_old h' pa L5 y (Or.inl (by omega))).trans (ha y hy)⟩

/-- A half's column after the first block of keys, whose scores may be known of its first `nk` keys alone when the others
    come after the query. -/
theorem first_core (hnk : nk ≤ 512) {R : ℕ} (hR : 512 * i + R < nk ∨ nk = 512) (d : ℕ) (b : ℝ) (s : ℕ → EReal)
    (hs : ∀ j < nk, s j = masked (sc x0 x1 x2 i R) (512 * i + R) j) :
    ∑ j : Fin nk, value x3 d (512 * 0 + j.val) * Ideal.exp2 (s j.val - (b : EReal))
      = run (value x3 d) (sc x0 x1 x2 i R) (512 * i + R) b (512 * (0 + 1)) := by
  rw [Fin.sum_univ_eq_sum_range (fun j => value x3 d (512 * 0 + j) * Ideal.exp2 (s j - (b : EReal))) nk,
    Finset.sum_congr rfl (g := fun j => value x3 d j * Ideal.exp2 (masked (sc x0 x1 x2 i R) (512 * i + R) j - (b : EReal)))
      (fun j hj => by rw [hs j (Finset.mem_range.mp hj), show 512 * 0 + j = j by omega]), run_first]
  rcases hR with hR | rfl
  · exact (run_eq_of_lt _ _ _ _ hR hnk).symm
  · rfl

/-- A half's column after one more block of keys. -/
theorem next_core (hnk : nk ≤ 512) {R : ℕ} (hR : 512 * i + R < 512 * (kb + 1) + nk ∨ nk = 512) (d : ℕ) (μ μ' : ℝ) (s : ℕ → EReal)
    (hs : ∀ j < nk, s j = masked (sc x0 x1 x2 i R) (512 * i + R) (512 * (kb + 1) + j)) :
    Ideal.exp2 ((μ : EReal) - (μ' : EReal)) * run (value x3 d) (sc x0 x1 x2 i R) (512 * i + R) μ (512 * (kb + 1))
        + ∑ j : Fin nk, value x3 d (512 * (kb + 1) + j.val) * Ideal.exp2 (s j.val - (μ' : EReal))
      = run (value x3 d) (sc x0 x1 x2 i R) (512 * i + R) μ' (512 * (kb + 1 + 1)) := by
  rw [Fin.sum_univ_eq_sum_range (fun j => value x3 d (512 * (kb + 1) + j) * Ideal.exp2 (s j - (μ' : EReal))) nk,
    Finset.sum_congr rfl (g := fun j => value x3 d (512 * (kb + 1) + j)
        * Ideal.exp2 (masked (sc x0 x1 x2 i R) (512 * i + R) (512 * (kb + 1) + j) - (μ' : EReal)))
      (fun j hj => by rw [hs j (Finset.mem_range.mp hj)]), run_add]
  rcases hR with hR | rfl
  · exact (run_eq_of_lt _ _ _ _ hR (by omega)).symm
  · rfl

/-- A half's stores after the first block of keys. -/
theorem first512_new {v : Vec Ideal S1x128x512 .bf16} (hv : ∀ (d : Fin 128) (r : Fin 512), v (ix3 0 d r) = qv x3 0 d.val r.val)
    {b : Vec Ideal S1x256 .f32} {s : Vec Ideal S512x256 .f32} (r : Fin 256)
    (hs : (∃ μ : ℝ, b (ix2 0 r) = (μ : EReal)) ∧ ∀ j : Fin 512, s (ix2 j r)
      = masked (sc x0 x1 x2 i (o + r.val)) (512 * i + (o + r.val)) (512 * 0 + j.val)) :
    ∃ μ : ℝ, k0_pay23 (F := Ideal) b (ix2 0 r) = (μ : EReal) ∧ ∀ d : Fin 144, k0_pay37 (F := Ideal) k0_pay3 v b s (ix2 d r)
      = run (value x3 d.val) (sc x0 x1 x2 i (o + r.val)) (512 * i + (o + r.val)) μ (512 * (0 + 1)) := by
  obtain ⟨⟨μ, hb⟩, hs⟩ := hs
  refine ⟨μ, (point_first b r).trans hb, fun d => ?_⟩
  rw [first512 hv, hb]
  refine (Finset.sum_congr rfl fun j _ => ?_).trans (first_core (x3 := x3) (i := i) (nk := 512) (by omega) (Or.inr rfl) d.val μ
    (fun j => masked (sc x0 x1 x2 i (o + r.val)) (512 * i + (o + r.val)) (512 * 0 + j)) (fun j _ => by rw [show 512 * 0 + j = j by omega]))
  rw [hs]

/-- A half's stores after one more block of keys. -/
theorem next512_new {v : Vec Ideal S1x128x512 .bf16} (hv : ∀ (d : Fin 128) (r : Fin 512), v (ix3 0 d r) = qv x3 (kb + 1) d.val r.val)
    {m b : Vec Ideal S1x256 .f32} {s : Vec Ideal S512x256 .f32} {a : Vec Ideal S144x256 .f32} (r : Fin 256)
    (hs : (∃ μ : ℝ, b (ix2 0 r) = (μ : EReal)) ∧ ∀ j : Fin 512, s (ix2 j r)
      = masked (sc x0 x1 x2 i (o + r.val)) (512 * i + (o + r.val)) (512 * (kb + 1) + j.val))
    (hm : ∃ μ : ℝ, m (ix2 0 r) = (μ : EReal) ∧ ∀ d : Fin 144, a (ix2 d r)
      = run (value x3 d.val) (sc x0 x1 x2 i (o + r.val)) (512 * i + (o + r.val)) μ (512 * (kb + 1))) :
    ∃ μ : ℝ, k0_pay53 (F := Ideal) m b (ix2 0 r) = (μ : EReal) ∧ ∀ d : Fin 144, k0_pay55 (F := Ideal) (k0_pay50 k0_pay3 v) m b s a (ix2 d r)
      = run (value x3 d.val) (sc x0 x1 x2 i (o + r.val)) (512 * i + (o + r.val)) μ (512 * (kb + 1 + 1)) := by
  obtain ⟨⟨β, hb⟩, hs⟩ := hs
  obtain ⟨μ, hm, ha⟩ := hm
  have hx : max (m (ix2 0 r)) (b (ix2 0 r)) = ((max μ β : ℝ) : EReal) := by rw [hm, hb]; exact (EReal.coe_strictMono.monotone.map_max).symm
  refine ⟨max μ β, (point_next m b r).trans hx, fun d => ?_⟩
  rw [next512 hv, hx, hm, ha]
  refine Eq.trans ?_ (next_core (x3 := x3) (i := i) (nk := 512) (by omega) (Or.inr rfl) d.val μ (max μ β)
    (fun j => masked (sc x0 x1 x2 i (o + r.val)) (512 * i + (o + r.val)) (512 * (kb + 1) + j)) (fun j _ => rfl))
  refine congrArg₂ (· + ·) rfl ?_
  exact Finset.sum_congr rfl fun j _ => by rw [hs]

/-- The first half's stores after the first block of keys, when that is the queries' own. -/
theorem first256_new {v : Vec Ideal S1x128x512 .bf16} (hv : ∀ (d : Fin 128) (r : Fin 512), v (ix3 0 d r) = qv x3 0 d.val r.val)
    {b : Vec Ideal S1x256 .f32} {s : Vec Ideal S256x256 .f32} (hR : o = 0) (r : Fin 256)
    (hs : (∃ μ : ℝ, b (ix2 0 r) = (μ : EReal)) ∧ ∀ j : Fin 256, s (ix2 j r)
      = masked (sc x0 x1 x2 0 (o + r.val)) (512 * 0 + (o + r.val)) (512 * 0 + j.val)) :
    ∃ μ : ℝ, k0_pay23 (F := Ideal) b (ix2 0 r) = (μ : EReal) ∧ ∀ d : Fin 144, k0_pay22 (F := Ideal) k0_pay3 v b s (ix2 d r)
      = run (value x3 d.val) (sc x0 x1 x2 0 (o + r.val)) (512 * 0 + (o + r.val)) μ (512 * (0 + 1)) := by
  obtain ⟨⟨μ, hb⟩, hs⟩ := hs
  refine ⟨μ, (point_first b r).trans hb, fun d => ?_⟩
  rw [first256 hv, hb]
  refine (Finset.sum_congr rfl fun j _ => ?_).trans (first_core (x3 := x3) (i := 0) (nk := 256) (by omega) (Or.inl (by omega)) d.val μ
    (fun j => masked (sc x0 x1 x2 0 (o + r.val)) (512 * 0 + (o + r.val)) (512 * 0 + j)) (fun j _ => by rw [show 512 * 0 + j = j by omega]))
  rw [hs]

/-- The first half's stores after the queries' own block of keys. -/
theorem next256_new {v : Vec Ideal S1x128x512 .bf16} (hv : ∀ (d : Fin 128) (r : Fin 512), v (ix3 0 d r) = qv x3 (kb + 1) d.val r.val)
    {m b : Vec Ideal S1x256 .f32} {s : Vec Ideal S256x256 .f32} {a : Vec Ideal S144x256 .f32} (hR : o = 0) (r : Fin 256)
    (hs : (∃ μ : ℝ, b (ix2 0 r) = (μ : EReal)) ∧ ∀ j : Fin 256, s (ix2 j r)
      = masked (sc x0 x1 x2 (kb + 1) (o + r.val)) (512 * (kb + 1) + (o + r.val)) (512 * (kb + 1) + j.val))
    (hm : ∃ μ : ℝ, m (ix2 0 r) = (μ : EReal) ∧ ∀ d : Fin 144, a (ix2 d r)
      = run (value x3 d.val) (sc x0 x1 x2 (kb + 1) (o + r.val)) (512 * (kb + 1) + (o + r.val)) μ (512 * (kb + 1))) :
    ∃ μ : ℝ, k0_pay53 (F := Ideal) m b (ix2 0 r) = (μ : EReal) ∧ ∀ d : Fin 144, k0_pay52 (F := Ideal) k0_pay3 v m b s a (ix2 d r)
      = run (value x3 d.val) (sc x0 x1 x2 (kb + 1) (o + r.val)) (512 * (kb + 1) + (o + r.val)) μ (512 * (kb + 1 + 1)) := by
  obtain ⟨⟨β, hb⟩, hs⟩ := hs
  obtain ⟨μ, hm, ha⟩ := hm
  have hx : max (m (ix2 0 r)) (b (ix2 0 r)) = ((max μ β : ℝ) : EReal) := by rw [hm, hb]; exact (EReal.coe_strictMono.monotone.map_max).symm
  refine ⟨max μ β, (point_next m b r).trans hx, fun d => ?_⟩
  rw [next256 hv, hx, hm, ha]
  refine Eq.trans ?_ (next_core (x3 := x3) (i := (kb + 1)) (nk := 256) (by omega) (Or.inl (by omega)) d.val μ (max μ β)
    (fun j => masked (sc x0 x1 x2 (kb + 1) (o + r.val)) (512 * (kb + 1) + (o + r.val)) (512 * (kb + 1) + j)) (fun j _ => rfl))
  refine congrArg₂ (· + ·) rfl ?_
  exact Finset.sum_congr rfl fun j _ => by rw [hs]

variable {ms : Memref sig .tc .vmem S512x512 .f32} {mb m4 : Memref sig .tc .vmem S1x512 .f32} {m5 : Memref sig .tc .vmem S144x512 .f32}
  {a5 : Memref sig .tc .vmem S8x128x512 .bf16} {w5 : a5.IsWhole}

/-- A half's loads of a pair's scores and greatest scores, at one column. -/
theorem ScC.loads (hs : ScC x0 x1 x2 i kb o nk Ls Lb) (hnk : nk ≤ 512) (ho : o ≤ 256)
    (g1 : ∀ ax, (![0, o] : Fin 2 → ℕ) ax + S1x256.size ax ≤ S1x512.size ax)
    (g3 : ∀ ax, (![0, o] : Fin 2 → ℕ) ax + (![nk, 256] : Fin 2 → ℕ) ax ≤ S512x512.size ax) (r : Fin 256) :
    (∃ b : ℝ, mb.view.readCov Lb (Rect.unit (s := S1x512) ![0, o] S1x256.size g1).toLoadRect (ix2 0 r) = (b : EReal))
      ∧ ∀ j : Fin nk, ms.view.readCov Ls (Rect.unit (s := S512x512) ![0, o] ![nk, 256] g3).toLoadRect (ix2 j r)
        = masked (sc x0 x1 x2 i (o + r.val)) (512 * i + (o + r.val)) (512 * kb + j.val) := by
  constructor
  · obtain ⟨b, hb⟩ := hs.2 (ix2 (0 : Fin 1) (⟨o + r.val, by omega⟩ : Fin 512)) (Nat.le_add_right _ _) (by show o + r.val < _; omega)
    exact ⟨b, (readCov_at mb Lb g1 (ix2 (0 : Fin 1) (⟨o + r.val, by omega⟩ : Fin 512)) 0 r rfl rfl).trans hb⟩
  · intro j
    rw [readCov_at ms Ls g3 (ix2 (⟨j.val, by omega⟩ : Fin 512) (⟨o + r.val, by omega⟩ : Fin 512)) j r rfl rfl]
    exact hs.1 _ j.isLt (Nat.le_add_right _ _) (by show o + r.val < _; omega)

/-- A half's loads of the reference points and of the weighted sums, at one column. -/
theorem AccC.loads (hs : AccC x0 x1 x2 x3 i kb o L4 L5) (ho : o ≤ 256)
    (g5 : ∀ ax, (![0, o] : Fin 2 → ℕ) ax + S1x256.size ax ≤ S1x512.size ax)
    (g7 : ∀ ax, (![0, o] : Fin 2 → ℕ) ax + S144x256.size ax ≤ S144x512.size ax) (r : Fin 256) :
    ∃ μ : ℝ, m4.view.readCov L4 (Rect.unit (s := S1x512) ![0, o] S1x256.size g5).toLoadRect (ix2 0 r) = (μ : EReal)
      ∧ ∀ d : Fin 144, m5.view.readCov L5 (Rect.unit (s := S144x512) ![0, o] S144x256.size g7).toLoadRect (ix2 d r)
        = run (value x3 d.val) (sc x0 x1 x2 i (o + r.val)) (512 * i + (o + r.val)) μ (512 * (kb + 1)) := by
  obtain ⟨μ, hm, ha⟩ := hs (o + r.val) (Nat.le_add_right _ _) (by omega)
  refine ⟨μ, ?_, fun d => ?_⟩
  · rw [readCov_at m4 L4 g5 (ix2 (0 : Fin 1) (⟨o + r.val, by omega⟩ : Fin 512)) 0 r rfl rfl]
    exact hm _ rfl
  · rw [readCov_at m5 L5 g7 (ix2 d (⟨o + r.val, by omega⟩ : Fin 512)) d r rfl rfl]
    exact ha _ rfl

/-- The first block of keys, for a later block of queries. -/
theorem accFirst (hs : ScP x0 x1 x2 i 0 512 Ls Lb) {hv g1 g2 g3 g4 k1 k2 k3 k4} :
    AccP x0 x1 x2 x3 i 0
      (⟨Rect.unit (s := S1x512) ![0, 256] S1x256.size k1, k0_pay23 (F := Ideal) (mb.view.readCov Lb (Rect.unit (s := S1x512) ![0, 256] S1x256.size g2).toLoadRect)⟩ ::
       ⟨Rect.unit (s := S1x512) ![0, 0] S1x256.size k2, k0_pay23 (F := Ideal) (mb.view.readCov Lb (Rect.unit (s := S1x512) ![0, 0] S1x256.size g1).toLoadRect)⟩ :: L4)
      (⟨Rect.unit (s := S144x512) ![0, 256] S144x256.size k3, k0_pay37 (F := Ideal) k0_pay3 (View.readAt (Elt Ideal) a5.view (Rect.unit (s := S8x128x512) ![0, 0, 0] S1x128x512.size hv).toLoadRect (w5.unread x3)) (mb.view.readCov Lb (Rect.unit (s := S1x512) ![0, 256] S1x256.size g2).toLoadRect) (ms.view.readCov Ls (Rect.unit (s := S512x512) ![0, 256] S512x256.size g4).toLoadRect)⟩ ::
       ⟨Rect.unit (s := S144x512) ![0, 0] S144x256.size k4, k0_pay37 (F := Ideal) k0_pay3 (View.readAt (Elt Ideal) a5.view (Rect.unit (s := S8x128x512) ![0, 0, 0] S1x128x512.size hv).toLoadRect (w5.unread x3)) (mb.view.readCov Lb (Rect.unit (s := S1x512) ![0, 0] S1x256.size g1).toLoadRect) (ms.view.readCov Ls (Rect.unit (s := S512x512) ![0, 0] S512x256.size g3).toLoadRect)⟩ :: L5) := by
  have hv' := load_block a5 w5 x3 0 (by omega) hv
  exact ⟨AccC.old' (AccC.new _ _ k2 k4 fun r => first512_new hv' r (hs.1.loads (by omega) (by omega) g1 g3 r)) _ _ k1 k3,
    AccC.new _ _ k1 k3 fun r => first512_new hv' r (hs.2.loads (by omega) (by omega) g2 g4 r)⟩

/-- The first block of keys, for the first block of queries. -/
theorem accFirstOwn (hs : ScP x0 x1 x2 0 0 256 Ls Lb) {hv g1 g2 g3 g4 k1 k2 k3 k4} :
    AccP x0 x1 x2 x3 0 0
      (⟨Rect.unit (s := S1x512) ![0, 256] S1x256.size k1, k0_pay23 (F := Ideal) (mb.view.readCov Lb (Rect.unit (s := S1x512) ![0, 256] S1x256.size g2).toLoadRect)⟩ ::
       ⟨Rect.unit (s := S1x512) ![0, 0] S1x256.size k2, k0_pay23 (F := Ideal) (mb.view.readCov Lb (Rect.unit (s := S1x512) ![0, 0] S1x256.size g1).toLoadRect)⟩ :: L4)
      (⟨Rect.unit (s := S144x512) ![0, 256] S144x256.size k3, k0_pay37 (F := Ideal) k0_pay3 (View.readAt (Elt Ideal) a5.view (Rect.unit (s := S8x128x512) ![0, 0, 0] S1x128x512.size hv).toLoadRect (w5.unread x3)) (mb.view.readCov Lb (Rect.unit (s := S1x512) ![0, 256] S1x256.size g2).toLoadRect) (ms.view.readCov Ls (Rect.unit (s := S512x512) ![0, 256] S512x256.size g4).toLoadRect)⟩ ::
       ⟨Rect.unit (s := S144x512) ![0, 0] S144x256.size k4, k0_pay22 (F := Ideal) k0_pay3 (View.readAt (Elt Ideal) a5.view (Rect.unit (s := S8x128x512) ![0, 0, 0] S1x128x512.size hv).toLoadRect (w5.unread x3)) (mb.view.readCov Lb (Rect.unit (s := S1x512) ![0, 0] S1x256.size g1).toLoadRect) (ms.view.readCov Ls (Rect.unit (s := S512x512) ![0, 0] S256x256.size g3).toLoadRect)⟩ :: L5) := by
  have hv' := load_block a5 w5 x3 0 (by omega) hv
  exact ⟨AccC.old' (AccC.new _ _ k2 k4 fun r => first256_new hv' rfl r (hs.1.loads (by omega) (by omega) g1 g3 r)) _ _ k1 k3,
    AccC.new _ _ k1 k3 fun r => first512_new hv' r (hs.2.loads (by omega) (by omega) g2 g4 r)⟩

/-- One more block of keys, before the queries' own. -/
theorem accNext (hkb : kb + 1 < 8) (hs : ScP x0 x1 x2 i (kb + 1) 512 Ls Lb) (ha : AccP x0 x1 x2 x3 i kb L4 L5)
    {hv g1 g2 g3 g4 g5 g6 g7 g8 k1 k2 k3 k4} :
    AccP x0 x1 x2 x3 i (kb + 1)
      (⟨Rect.unit (s := S1x512) ![0, 256] S1x256.size k1, k0_pay53 (F := Ideal) (m4.view.readCov
          (⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
          (Rect.unit (s := S1x512) ![0, 256] S1x256.size g6).toLoadRect) (mb.view.readCov Lb (Rect.unit (s := S1x512) ![0, 256] S1x256.size g2).toLoadRect)⟩ ::
       ⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
      (⟨Rect.unit (s := S144x512) ![0, 256] S144x256.size k3, k0_pay55 (F := Ideal) (k0_pay50 k0_pay3 (View.readAt (Elt Ideal) a5.view (Rect.unit (s := S8x128x512) ![kb + 1, 0, 0] S1x128x512.size hv).toLoadRect (w5.unread x3)))
          (m4.view.readCov
          (⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
          (Rect.unit (s := S1x512) ![0, 256] S1x256.size g6).toLoadRect) (mb.view.readCov Lb (Rect.unit (s := S1x512) ![0, 256] S1x256.size g2).toLoadRect) (ms.view.readCov Ls (Rect.unit (s := S512x512) ![0, 256] S512x256.size g4).toLoadRect) (m5.view.readCov
          (⟨Rect.unit (s := S144x512) ![0, 0] S144x256.size k4, k0_pay55 (F := Ideal) (k0_pay50 k0_pay3 (View.readAt (Elt Ideal) a5.view (Rect.unit (s := S8x128x512) ![kb + 1, 0, 0] S1x128x512.size hv).toLoadRect (w5.unread x3)))
          (m4.view.readCov L4 (Rect.unit (s := S1x512) ![0, 0] S1x256.size g5).toLoadRect)
          (mb.view.readCov Lb (Rect.unit (s := S1x512) ![0, 0] S1x256.size g1).toLoadRect)
          (ms.view.readCov Ls (Rect.unit (s := S512x512) ![0, 0] S512x256.size g3).toLoadRect)
          (m5.view.readCov L5 (Rect.unit (s := S144x512) ![0, 0] S144x256.size g7).toLoadRect)⟩ :: L5)
          (Rect.unit (s := S144x512) ![0, 256] S144x256.size g8).toLoadRect)⟩ ::
       ⟨Rect.unit (s := S144x512) ![0, 0] S144x256.size k4, k0_pay55 (F := Ideal) (k0_pay50 k0_pay3 (View.readAt (Elt Ideal) a5.view (Rect.unit (s := S8x128x512) ![kb + 1, 0, 0] S1x128x512.size hv).toLoadRect (w5.unread x3)))
          (m4.view.readCov L4 (Rect.unit (s := S1x512) ![0, 0] S1x256.size g5).toLoadRect)
          (mb.view.readCov Lb (Rect.unit (s := S1x512) ![0, 0] S1x256.size g1).toLoadRect)
          (ms.view.readCov Ls (Rect.unit (s := S512x512) ![0, 0] S512x256.size g3).toLoadRect)
          (m5.view.readCov L5 (Rect.unit (s := S144x512) ![0, 0] S144x256.size g7).toLoadRect)⟩ :: L5) := by
  have hv' := load_block a5 w5 x3 (kb + 1) hkb hv
  exact ⟨AccC.old' (AccC.new _ _ k2 k4 fun r => next512_new hv' r (hs.1.loads (by omega) (by omega) g1 g3 r) (ha.1.loads (by omega) g5 g7 r)) _ _ k1 k3,
    AccC.new _ _ k1 k3 fun r => next512_new hv' r (hs.2.loads (by omega) (by omega) g2 g4 r) ((ha.2.old _ _ k2 k4).loads (by omega) g6 g8 r)⟩

/-- The queries' own block of keys, after earlier ones. -/
theorem accOwn (hkb : kb + 1 < 8) (hs : ScP x0 x1 x2 (kb + 1) (kb + 1) 256 Ls Lb) (ha : AccP x0 x1 x2 x3 (kb + 1) kb L4 L5)
    {hv g1 g2 g3 g4 g5 g6 g7 g8 k1 k2 k3 k4} :
    AccP x0 x1 x2 x3 (kb + 1) (kb + 1)
      (⟨Rect.unit (s := S1x512) ![0, 256] S1x256.size k1, k0_pay53 (F := Ideal) (m4.view.readCov
          (⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
          (Rect.unit (s := S1x512) ![0, 256] S1x256.size g6).toLoadRect) (mb.view.readCov Lb (Rect.unit (s := S1x512) ![0, 256] S1x256.size g2).toLoadRect)⟩ ::
       ⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
      (⟨Rect.unit (s := S144x512) ![0, 256] S144x256.size k3, k0_pay55 (F := Ideal) (k0_pay50 k0_pay3 (View.readAt (Elt Ideal) a5.view (Rect.unit (s := S8x128x512) ![kb + 1, 0, 0] S1x128x512.size hv).toLoadRect (w5.unread x3)))
          (m4.view.readCov
          (⟨Rect.unit (s := S1x512) ![0, 0] S1x256.size k2, k0_pay53 (F := Ideal) (m4.view.readCov L4 (Rect.unit (s := S1x512) ![0, 0] S1x256.size g5).toLoadRect) (mb.view.readCov Lb (Rect.unit (s := S1x512) ![0, 0] S1x256.size g1).toLoadRect)⟩ :: L4)
          (Rect.unit (s := S1x512) ![0, 256] S1x256.size g6).toLoadRect) (mb.view.readCov Lb (Rect.unit (s := S1x512) ![0, 256] S1x256.size g2).toLoadRect) (ms.view.readCov Ls (Rect.unit (s := S512x512) ![0, 256] S512x256.size g4).toLoadRect) (m5.view.readCov
          (⟨Rect.unit (s := S144x512) ![0, 0] S144x256.size k4, k0_pay52 (F := Ideal) k0_pay3 (View.readAt (Elt Ideal) a5.view (Rect.unit (s := S8x128x512) ![kb + 1, 0, 0] S1x128x512.size hv).toLoadRect (w5.unread x3))
          (m4.view.readCov L4 (Rect.unit (s := S1x512) ![0, 0] S1x256.size g5).toLoadRect)
          (mb.view.readCov Lb (Rect.unit (s := S1x512) ![0, 0] S1x256.size g1).toLoadRect)
          (ms.view.readCov Ls (Rect.unit (s := S512x512) ![0, 0] S256x256.size g3).toLoadRect)
          (m5.view.readCov L5 (Rect.unit (s := S144x512) ![0, 0] S144x256.size g7).toLoadRect)⟩ :: L5)
          (Rect.unit (s := S144x512) ![0, 256] S144x256.size g8).toLoadRect)⟩ ::
       ⟨Rect.unit (s := S144x512) ![0, 0] S144x256.size k4, k0_pay52 (F := Ideal) k0_pay3 (View.readAt (Elt Ideal) a5.view (Rect.unit (s := S8x128x512) ![kb + 1, 0, 0] S1x128x512.size hv).toLoadRect (w5.unread x3))
          (m4.view.readCov L4 (Rect.unit (s := S1x512) ![0, 0] S1x256.size g5).toLoadRect)
          (mb.view.readCov Lb (Rect.unit (s := S1x512) ![0, 0] S1x256.size g1).toLoadRect)
          (ms.view.readCov Ls (Rect.unit (s := S512x512) ![0, 0] S256x256.size g3).toLoadRect)
          (m5.view.readCov L5 (Rect.unit (s := S144x512) ![0, 0] S144x256.size g7).toLoadRect)⟩ :: L5) := by
  have hv' := load_block a5 w5 x3 (kb + 1) hkb hv
  exact ⟨AccC.old' (AccC.new _ _ k2 k4 fun r => next256_new hv' rfl r (hs.1.loads (by omega) (by omega) g1 g3 r) (ha.1.loads (by omega) g5 g7 r)) _ _ k1 k3,
    AccC.new _ _ k1 k3 fun r => next512_new hv' r (hs.2.loads (by omega) (by omega) g2 g4 r) ((ha.2.old _ _ k2 k4).loads (by omega) g6 g8 r)⟩

/-- The mean of the values' column `d` by the shares of the query at column `R` of block `i`. -/
def mean (x0 : Vec Ideal S8x128x512 .bf16) (x1 x2 : Vec Ideal S4096x128 .bf16) (x3 : Vec Ideal S8x128x512 .bf16) (i R d : ℕ) : EReal :=
  ∑ j ∈ Finset.range 4096, value x3 d j * ((share (sc x0 x1 x2 i R) (512 * i + R) 4096 0 j : ℝ) : EReal)

/-- What leaves the call of one block of queries: each column's weighted sums over its sum of ones. -/
theorem quot_block (hi : i < 8) (ha : AccP x0 x1 x2 x3 i i L4 L5) {g1 g2} (y : S512x128.Idx) :
    k0_pay1 (F := Ideal) (m5.view.readCov L5 (Rect.unit (s := S144x512) ![0, 0] S128x512.size g1).toLoadRect)
        (m5.view.readCov L5 (Rect.unit (s := S144x512) ![128, 0] S1x512.size g2).toLoadRect) y
      = mean x0 x1 x2 x3 i (y 0).val (y 1).val := by
  obtain ⟨R, d, rfl⟩ : ∃ (R : Fin 512) (d : Fin 128), y = ix2 R d := ⟨y 0, y 1, by funext k; fin_cases k <;> rfl⟩
  show _ = mean x0 x1 x2 x3 i R.val d.val
  have h : ∃ μ : ℝ, ∀ y : S144x512.Idx, (y 1).val = R.val →
      View.canon L5 y = run (value x3 (y 0).val) (sc x0 x1 x2 i R.val) (512 * i + R.val) μ 4096 := by
    obtain ⟨μ, -, h⟩ : ∃ μ : ℝ, (∀ y : S1x512.Idx, (y 1).val = R.val → View.canon L4 y = (μ : EReal)) ∧ ∀ y : S144x512.Idx, (y 1).val = R.val →
        View.canon L5 y = run (value x3 (y 0).val) (sc x0 x1 x2 i R.val) (512 * i + R.val) μ (512 * (i + 1)) := by
      by_cases hR : R.val < 256
      · exact ha.1 R.val (Nat.zero_le _) (by omega)
      · exact ha.2 R.val (by omega) (by omega)
    exact ⟨μ, fun y hy => (h y hy).trans (run_eq_of_lt _ _ _ _ (by omega) (by omega)).symm⟩
  obtain ⟨μ, h⟩ := h
  have hl : (Rect.unit (s := S144x512) ![128, 0] S1x512.size g2).toLoadRect.idx (ix2 (0 : Fin 1) R) = ix2 (128 : Fin 144) R := by
    funext ax
    apply Fin.ext
    match ax with
    | ⟨0, _⟩ => rfl
    | ⟨1, _⟩ =>
      show 0 + 1 * R.val = R.val
      omega
  rw [quot_apply, readCov_at m5 L5 g1 (ix2 (⟨d.val, by omega⟩ : Fin 144) R) d R rfl (Nat.zero_add _).symm,
    View.readCov_eq_canon' m5.view L5 (Rect.unit (s := S144x512) ![128, 0] S1x512.size g2).toLoadRect]
  show Ideal.div _ (View.canon L5 ((Rect.unit (s := S144x512) ![128, 0] S1x512.size g2).toLoadRect.idx (ix2 (0 : Fin 1) R))) = _
  rw [hl, h _ rfl, h _ rfl]
  have h1 : value x3 (128 : Fin 144).val = fun _ => 1 := by funext j; exact if_neg (by decide)
  show Ideal.div (run _ _ _ _ _) (run (value x3 (128 : Fin 144).val) _ _ _ _) = _
  rw [h1, run_div _ _ _ _ (by omega)]
  exact Finset.sum_congr rfl fun j _ => by rw [share_zero]; rfl

end Sums

end States

end Cert.KernelIdeal.Attn
-- ==== Proof.Chain.lean ====
module

public import proofs.«01_k».proof.Proof.Gen.KernelIdeal.Frame
public import proofs.«01_k».proof.Proof.Steps

@[expose] public section

set_option maxRecDepth 16384

/-! One call of the kernel: its output block holds, row by row, the means of the values by the shares. -/

noncomputable section

namespace Cert.KernelIdeal.Attn

open Idealize.ShloMosaic Idealize.SL.Sem Cert.KernelIdeal Cert.KernelIdeal.Gen Cert.Online

/-- The output block of one call: at each row the mean of the values' columns by the query's shares. -/
def outMean (x0 : Vec Ideal S8x128x512 .bf16) (x1 x2 : Vec Ideal S4096x128 .bf16) (x3 : Vec Ideal S8x128x512 .bf16) (y : S4096x128.Idx) : EReal :=
  mean x0 x1 x2 x3 ((y 0).val / 512) ((y 0).val % 512) (y 1).val

/-- A store of block `i` of the queries. -/
theorem piece_mean {x0 : Vec Ideal S8x128x512 .bf16} {x1 x2 : Vec Ideal S4096x128 .bf16} {x3 : Vec Ideal S8x128x512 .bf16}
    (i : ℕ) {o : ℕ} (ho : o = 512 * i) (hi : i < 8) {h : ∀ a, (![o, 0] : Fin 2 → ℕ) a + S512x128.size a ≤ S4096x128.size a} {p : S512x128.Idx → EReal}
    {L5 : List (View.Piece (Elt Ideal) S144x512 .f32)}
    {m5 : Memref sig .tc .vmem S144x512 .f32} {g1 g2}
    (ha : ∃ L4, AccP x0 x1 x2 x3 i i L4 L5)
    (hp : p = k0_pay1 (F := Ideal) (m5.view.readCov L5 (Rect.unit (s := S144x512) ![0, 0] S128x512.size g1).toLoadRect)
        (m5.view.readCov L5 (Rect.unit (s := S144x512) ![128, 0] S1x512.size g2).toLoadRect)) (y : S512x128.Idx) :
    p y = outMean x0 x1 x2 x3 ((Rect.unit (s := S4096x128) ![o, 0] S512x128.size h).emb y) := by
  have h0 : ((Rect.unit (s := S4096x128) ![o, 0] S512x128.size h).emb y 0).val = o + (y 0).val := by
    show o + 1 * (y 0).val = _; omega
  have h1 : ((Rect.unit (s := S4096x128) ![o, 0] S512x128.size h).emb y 1).val = (y 1).val := by
    show 0 + 1 * (y 1).val = _; omega
  have hy : (y 0).val < 512 := (y 0).isLt
  obtain ⟨L4, ha⟩ := ha
  rw [hp, quot_block hi ha]
  unfold outMean
  rw [h0, h1, show (o + (y 0).val) / 512 = i by omega, show (o + (y 0).val) % 512 = (y 0).val by omega]

variable (c : Dev nD) (i : grid0.Coords)
    (a2 : Memref sig .tc .vmem S8x128x512 .bf16) (w2 : a2.IsWhole)
    (a3 : Memref sig .tc .vmem S4096x128 .bf16) (w3 : a3.IsWhole)
    (a4 : Memref sig .tc .vmem S4096x128 .bf16) (w4 : a4.IsWhole)
    (a5 : Memref sig .tc .vmem S8x128x512 .bf16) (w5 : a5.IsWhole)
    (a6 : Memref sig .tc .vmem S4096x128 .bf16) (w6 : a6.IsWhole)
    (a7 : Memref sig .tc .vmem S512x512 .f32) (w7 : a7.IsWhole)
    (a8 : Memref sig .tc .vmem S512x512 .f32) (w8 : a8.IsWhole)
    (a9 : Memref sig .tc .vmem S1x512 .f32) (w9 : a9.IsWhole)
    (a10 : Memref sig .tc .vmem S1x512 .f32) (w10 : a10.IsWhole)
    (a11 : Memref sig .tc .vmem S1x512 .f32) (w11 : a11.IsWhole)
    (a12 : Memref sig .tc .vmem S144x512 .f32) (w12 : a12.IsWhole)
    (x0 : Vec Ideal S8x128x512 .bf16) (x1 x2 : Vec Ideal S4096x128 .bf16) (x3 : Vec Ideal S8x128x512 .bf16)

/-- Block 0 of the queries. -/
theorem block0 (hS : Finite x0 x1 x2) : ∃ L4, AccP x0 x1 x2 x3 0 0 L4
    (kernelRun0_A.sl.HS5_2 c a2 w2 a3 w3 a4 w4 a5 w5 a7 a9 x0 x1 x2 x3) := by
  apply Exists.intro
  exact accFirstOwn (L4 := []) (k1 := by decide) (k2 := by decide) (scOwn hS 0 (512 * 0) (by omega) rfl)

/-- Block 1 of the queries. -/
theorem block1 (hS : Finite x0 x1 x2) : ∃ L4, AccP x0 x1 x2 x3 1 1 L4
    (kernelRun0_A.sl.HS5_6 c a2 w2 a3 w3 a4 w4 a5 w5 a7 a8 a9 a10 a11 a12 x0 x1 x2 x3) := by
  apply Exists.intro
  refine accOwn (m4 := a11) (m5 := a12) (g2 := by decide) (g6 := by decide) (k1 := by decide) (kb := 0) (by omega) (scOwn hS 1 (512 * 1) (by omega) rfl) ?_
  exact accFirst (scBefore hS 0 (512 * 0) (by omega) (by omega) rfl)

/-- Block 2 of the queries. -/
theorem block2 (hS : Finite x0 x1 x2) : ∃ L4, AccP x0 x1 x2 x3 2 2 L4
    (kernelRun0_A.sl.HS5_12 c a2 w2 a3 w3 a4 w4 a5 w5 a7 a8 a9 a10 a11 a12 x0 x1 x2 x3) := by
  apply Exists.intro
  refine accOwn (m4 := a11) (m5 := a12) (g2 := by decide) (g6 := by decide) (k1 := by decide) (kb := 1) (by omega) (scOwn hS 2 (512 * 2) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Block 3 of the queries. -/
theorem block3 (hS : Finite x0 x1 x2) : ∃ L4, AccP x0 x1 x2 x3 3 3 L4
    (kernelRun0_A.sl.HS5_20 c a2 w2 a3 w3 a4 w4 a5 w5 a7 a8 a9 a10 a11 a12 x0 x1 x2 x3) := by
  apply Exists.intro
  refine accOwn (m4 := a11) (m5 := a12) (g2 := by decide) (g6 := by decide) (k1 := by decide) (kb := 2) (by omega) (scOwn hS 3 (512 * 3) (by omega) rfl) ?_
  refine accNext (m4 := a11) (m5 := a12) (g2 := by decide) (g6 := by decide) (k1 := by decide) (kb := 1) (by omega) (scBefore hS 2 (512 * 2) (by omega) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Block 4 of the queries. -/
theorem block4 (hS : Finite x0 x1 x2) : ∃ L4, AccP x0 x1 x2 x3 4 4 L4
    (kernelRun0_A.sl.HS5_30 c a2 w2 a3 w3 a4 w4 a5 w5 a7 a8 a9 a10 a11 a12 x0 x1 x2 x3) := by
  apply Exists.intro
  refine accOwn (m4 := a11) (m5 := a12) (g2 := by decide) (g6 := by decide) (k1 := by decide) (kb := 3) (by omega) (scOwn hS 4 (512 * 4) (by omega) rfl) ?_
  refine accNext (m4 := a11) (m5 := a12) (g2 := by decide) (g6 := by decide) (k1 := by decide) (kb := 2) (by omega) (scBefore hS 3 (512 * 3) (by omega) (by omega) rfl) ?_
  refine accNext (m4 := a11) (m5 := a12) (g2 := by decide) (g6 := by decide) (k1 := by decide) (kb := 1) (by omega) (scBefore hS 2 (512 * 2) (by omega) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Block 5 of the queries. -/
theorem block5 (hS : Finite x0 x1 x2) : ∃ L4, AccP x0 x1 x2 x3 5 5 L4
    (kernelRun0_A.sl.HS5_42 c a2 w2 a3 w3 a4 w4 a5 w5 a7 a8 a9 a10 a11 a12 x0 x1 x2 x3) := by
  apply Exists.intro
  refine accOwn (m4 := a11) (m5 := a12) (g2 := by decide) (g6 := by decide) (k1 := by decide) (kb := 4) (by omega) (scOwn hS 5 (512 * 5) (by omega) rfl) ?_
  refine accNext (m4 := a11) (m5 := a12) (g2 := by decide) (g6 := by decide) (k1 := by decide) (kb := 3) (by omega) (scBefore hS 4 (512 * 4) (by omega) (by omega) rfl) ?_
  refine accNext (m4 := a11) (m5 := a12) (g2 := by decide) (g6 := by decide) (k1 := by decide) (kb := 2) (by omega) (scBefore hS 3 (512 * 3) (by omega) (by omega) rfl) ?_
  refine accNext (m4 := a11) (m5 := a12) (g2 := by decide) (g6 := by decide) (k1 := by decide) (kb := 1) (by omega) (scBefore hS 2 (512 * 2) (by omega) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Block 6 of the queries. -/
theorem block6 (hS : Finite x0 x1 x2) : ∃ L4, AccP x0 x1 x2 x3 6 6 L4
    (kernelRun0_A.sl.HS5_56 c a2 w2 a3 w3 a4 w4 a5 w5 a7 a8 a9 a10 a11 a12 x0 x1 x2 x3) := by
  apply Exists.intro
  refine accOwn (m4 := a11) (m5 := a12) (g2 := by decide) (g6 := by decide) (k1 := by decide) (kb := 5) (by omega) (scOwn hS 6 (512 * 6) (by omega) rfl) ?_
  refine accNext (m4 := a11) (m5 := a12) (g2 := by decide) (g6 := by decide) (k1 := by decide) (kb := 4) (by omega) (scBefore hS 5 (512 * 5) (by omega) (by omega) rfl) ?_
  refine accNext (m4 := a11) (m5 := a12) (g2 := by decide) (g6 := by decide) (k1 := by decide) (kb := 3) (by omega) (scBefore hS 4 (512 * 4) (by omega) (by omega) rfl) ?_
  refine accNext (m4 := a11) (m5 := a12) (g2 := by decide) (g6 := by decide) (k1 := by decide) (kb := 2) (by omega) (scBefore hS 3 (512 * 3) (by omega) (by omega) rfl) ?_
  refine accNext (m4 := a11) (m5 := a12) (g2 := by decide) (g6 := by decide) (k1 := by decide) (kb := 1) (by omega) (scBefore hS 2 (512 * 2) (by omega) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Block 7 of the queries. -/
theorem block7 (hS : Finite x0 x1 x2) : ∃ L4, AccP x0 x1 x2 x3 7 7 L4
    (kernelRun0_A.sl.HS5_72 c a2 w2 a3 w3 a4 w4 a5 w5 a7 a8 a9 a10 a11 a12 x0 x1 x2 x3) := by
  apply Exists.intro
  have hs := scOwn (a2 := a2) (w2 := w2) (a3 := a3) (w3 := w3) (a4 := a4) (w4 := w4) hS 7 (512 * 7) (by omega) rfl
    (h1 := by decide) (h1' := by decide) (h1'' := by decide) (h3 := by decide) (h4 := by decide) (h5 := by decide) (h6 := by decide)
    (Ls := kernelRun0_A.sl.HS1_34 c a2 w2 a3 w3 a4 w4 x0 x1 x2) (Lb := kernelRun0_A.sl.HS3_34 c a2 w2 a3 w3 a4 w4 x0 x1 x2)
  refine accOwn (m4 := a11) (m5 := a12) (mb := a10) (ms := a8) (g2 := by decide) (g6 := by decide) (k1 := by decide) (kb := 6)
    (L4 := kernelRun0_A.sl.HS4_70 c a2 w2 a3 w3 a4 w4 a9 a10 a11 x0 x1 x2)
    (L5 := kernelRun0_A.sl.HS5_70 c a2 w2 a3 w3 a4 w4 a5 w5 a7 a8 a9 a10 a11 a12 x0 x1 x2 x3) (by omega) hs ?_
  refine accNext (m4 := a11) (m5 := a12) (g2 := by decide) (g6 := by decide) (k1 := by decide) (kb := 5) (by omega) (scBefore hS 6 (512 * 6) (by omega) (by omega) rfl) ?_
  refine accNext (m4 := a11) (m5 := a12) (g2 := by decide) (g6 := by decide) (k1 := by decide) (kb := 4) (by omega) (scBefore hS 5 (512 * 5) (by omega) (by omega) rfl) ?_
  refine accNext (m4 := a11) (m5 := a12) (g2 := by decide) (g6 := by decide) (k1 := by decide) (kb := 3) (by omega) (scBefore hS 4 (512 * 4) (by omega) (by omega) rfl) ?_
  refine accNext (m4 := a11) (m5 := a12) (g2 := by decide) (g6 := by decide) (k1 := by decide) (kb := 2) (by omega) (scBefore hS 3 (512 * 3) (by omega) (by omega) rfl) ?_
  refine accNext (m4 := a11) (m5 := a12) (g2 := by decide) (g6 := by decide) (k1 := by decide) (kb := 1) (by omega) (scBefore hS 2 (512 * 2) (by omega) (by omega) rfl) ?_
  refine accNext (m4 := a11) (m5 := a12) (g2 := by decide) (g6 := by decide) (k1 := by decide) (kb := 0) (by omega) (scBefore hS 1 (512 * 1) (by omega) (by omega) rfl) ?_
  exact accFirst (scBefore hS 0 (512 * 0) (by omega) (by omega) rfl)

/-- Every store of the output block is a block of those means. -/
theorem pieces_mean (hS : Finite x0 x1 x2) :
    ∀ p ∈ (kernelRun0_A (F := Ideal) c i a2 w2 a3 w3 a4 w4 a5 w5 a6 w6 a7 w7 a8 w8 a9 w9 a10 w10 a11 w11 a12 w12 x0 x1 x2 x3).1, ∀ y : p.1.shape.Idx, p.2 y = outMean x0 x1 x2 x3 (p.1.emb y) := by
  delta kernelRun0_A
  dsimp only
  simp only [List.forall_mem_cons]
  exact ⟨piece_mean 7 rfl (by omega) (m5 := a12) (block7 c a2 w2 a3 w3 a4 w4 a5 w5 a7 a8 a9 a10 a11 a12 x0 x1 x2 x3 hS) rfl,
    piece_mean 6 rfl (by omega) (m5 := a12) (block6 c a2 w2 a3 w3 a4 w4 a5 w5 a7 a8 a9 a10 a11 a12 x0 x1 x2 x3 hS) rfl,
    piece_mean 5 rfl (by omega) (m5 := a12) (block5 c a2 w2 a3 w3 a4 w4 a5 w5 a7 a8 a9 a10 a11 a12 x0 x1 x2 x3 hS) rfl,
    piece_mean 4 rfl (by omega) (m5 := a12) (block4 c a2 w2 a3 w3 a4 w4 a5 w5 a7 a8 a9 a10 a11 a12 x0 x1 x2 x3 hS) rfl,
    piece_mean 3 rfl (by omega) (m5 := a12) (block3 c a2 w2 a3 w3 a4 w4 a5 w5 a7 a8 a9 a10 a11 a12 x0 x1 x2 x3 hS) rfl,
    piece_mean 2 rfl (by omega) (m5 := a12) (block2 c a2 w2 a3 w3 a4 w4 a5 w5 a7 a8 a9 a10 a11 a12 x0 x1 x2 x3 hS) rfl,
    piece_mean 1 rfl (by omega) (m5 := a12) (block1 c a2 w2 a3 w3 a4 w4 a5 w5 a7 a8 a9 a10 a11 a12 x0 x1 x2 x3 hS) rfl,
    piece_mean 0 rfl (by omega) (m5 := a12) (block0 c a2 w2 a3 w3 a4 w4 a5 w5 a7 a9 x0 x1 x2 x3 hS) rfl,
    fun p hp => absurd hp List.not_mem_nil⟩

end Cert.KernelIdeal.Attn
-- ==== Proof.Attention.lean ====
module

public import proofs.«01_k».proof.Proof.Online
public import Idealize.ShloMosaic.Lib.Pointwise

@[expose] public section

set_option maxRecDepth 16384

/-! The attention as one function of the queries, keys, values and cumulative log-forgets. -/

noncomputable section

namespace Cert.Attention

open Idealize.ShloMosaic Cert.Online
open scoped BigOperators

/-- An array of a number for each sequence, position, head and feature. -/
abbrev Quad := (⟨4, ![2, 4096, 16, 128]⟩ : Shape).Idx → EReal

/-- An array of a number for each sequence, position and head. -/
abbrev Trip := (⟨3, ![2, 4096, 16]⟩ : Shape).Idx → EReal

/-- The scale of the scores. -/
def scale : ℝ := (Ideal.ofBits .f32 0x3DB504F3#32).toReal

/-- The scale's word stands for a number. -/
theorem scale_eq : Ideal.ofBits .f32 0x3DB504F3#32 = (scale : EReal) := by
  unfold scale
  obtain ⟨r, hr⟩ : ∃ r : ℝ, Ideal.ofBits .f32 0x3DB504F3#32 = (r : EReal) := by
    simp [Ideal.ofBits, Ideal.ieee]
    exact ⟨_, rfl⟩
  rw [hr, EReal.toReal_coe]

/-- The logarithm of the word for two. -/
theorem log_two : Ideal.log (Ideal.ofBits .f32 0x40000000#32) = (Real.log 2 : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else _) = _
  rw [if_neg (by norm_num)]

/-- The logarithm of two is positive. -/
theorem log_two_pos : 0 < Real.log 2 := Real.log_pos (by norm_num)

/-- Two places of equal coordinates are one. -/
theorem quad_eq {a a' : Fin 2} {b b' : Fin 4096} {c c' : Fin 16} {d d' : Fin 128} (ha : a.val = a'.val) (hb : b.val = b'.val)
    (hc : c.val = c'.val) (hd : d.val = d'.val) : ix4 a b c d = ix4 a' b' c' d' := by
  rw [Fin.ext ha, Fin.ext hb, Fin.ext hc, Fin.ext hd]

/-- Two places of equal coordinates are one. -/
theorem trip_eq {a a' : Fin 2} {b b' : Fin 4096} {c c' : Fin 16} (ha : a.val = a'.val) (hb : b.val = b'.val)
    (hc : c.val = c'.val) : ix3 a b c = ix3 a' b' c' := by
  rw [Fin.ext ha, Fin.ext hb, Fin.ext hc]

variable (q k v : Quad) (g : Trip)

/-- Every query, key and cumulative log-forget is a number. -/
structure Numbers : Prop where
  query : ∀ i, q i = ((q i).toReal : EReal)
  key : ∀ i, k i = ((k i).toReal : EReal)
  gate : ∀ i, g i = ((g i).toReal : EReal)

/-- The scaled product of the query at `t` and the key at `j`. -/
def product (n : Fin 2) (h : Fin 16) (t j : Fin 4096) : ℝ :=
  ∑ d : Fin 128, (q (ix4 n t h d)).toReal * scale * (k (ix4 n j h d)).toReal

/-- The score in the natural base. -/
def inNatural (n : Fin 2) (h : Fin 16) (t : Fin 4096) (j : ℕ) : ℝ :=
  product q k n h t ⟨j % 4096, Nat.mod_lt _ (by norm_num)⟩ + (g (ix3 n t h)).toReal
    - (g (ix3 n ⟨j % 4096, Nat.mod_lt _ (by norm_num)⟩ h)).toReal

/-- The score in base two, without the query's own cumulative log-forget. -/
def inTwo (n : Fin 2) (h : Fin 16) (t : Fin 4096) (j : ℕ) : ℝ :=
  (Real.log 2)⁻¹ * product q k n h t ⟨j % 4096, Nat.mod_lt _ (by norm_num)⟩
    + (Real.log 2)⁻¹ * -(g (ix3 n ⟨j % 4096, Nat.mod_lt _ (by norm_num)⟩ h)).toReal

/-- The two scores, in one base, differ by the query's cumulative log-forget. -/
theorem bases (n : Fin 2) (h : Fin 16) (t : Fin 4096) (j : ℕ) :
    inTwo q k g n h t j * Real.log 2 = inNatural q k g n h t j - (g (ix3 n t h)).toReal := by
  unfold inTwo inNatural
  have := log_two_pos.ne'
  field_simp
  ring

/-- The attention: at each position and feature the mean of the values by the query's shares. -/
def attention (b : Fin 8192) (e : Fin 2048) : EReal :=
  ∑ j : Fin 4096, v (ix4 ⟨b.val / 4096, by omega⟩ j ⟨e.val / 128, by omega⟩ ⟨e.val % 128, by omega⟩)
    * ((share (inTwo q k g ⟨b.val / 4096, by omega⟩ ⟨e.val / 128, by omega⟩ ⟨b.val % 4096, by omega⟩) (b.val % 4096) 4096 0 j.val : ℝ) : EReal)

variable {q k g}

/-- A key's bias, a number: the second and third pieces of its split are zero. -/
theorem bias_eq (x : ℝ) :
    let G := Ideal.div (-(x : EReal)) (Ideal.log (Ideal.ofBits .f32 0x40000000#32))
    G + (G - G) + (G - G - (G - G)) = (((Real.log 2)⁻¹ * -x : ℝ) : EReal) := by
  intro G
  have hG : G = (((Real.log 2)⁻¹ * -x : ℝ) : EReal) := by
    show Ideal.div _ _ = _
    rw [log_two, div_coe _ log_two_pos, ← EReal.coe_neg, ← EReal.coe_mul]
  rw [hG, ← EReal.coe_sub, ← EReal.coe_sub, ← EReal.coe_add, ← EReal.coe_add]
  congr 1
  ring

/-- The score as the call forms it, in base two. -/
theorem score_two (hN : Numbers q k g) (n : Fin 2) (h : Fin 16) (t j : Fin 4096) :
    (∑ d : Fin 128, k (ix4 n j h d)
        * Ideal.div (q (ix4 n t h d) * Ideal.ofBits .f32 0x3DB504F3#32) (Ideal.log (Ideal.ofBits .f32 0x40000000#32)))
      = (((Real.log 2)⁻¹ * product q k n h t j : ℝ) : EReal) := by
  unfold product
  rw [Finset.mul_sum, coe_sum]
  refine Finset.sum_congr rfl fun d _ => ?_
  rw [log_two, div_coe _ log_two_pos, scale_eq, hN.query, hN.key, ← EReal.coe_mul, ← EReal.coe_mul, ← EReal.coe_mul]
  simp only [EReal.toReal_coe]
  congr 1
  ring

/-- The score as the reference forms it, in the natural base. -/
theorem score_natural (hN : Numbers q k g) (n : Fin 2) (h : Fin 16) (t j : Fin 4096) :
    (∑ d : Fin 128, q (ix4 n t h d) * Ideal.ofBits .f32 0x3DB504F3#32 * k (ix4 n j h d)) + g (ix3 n t h) - g (ix3 n j h)
      = ((inNatural q k g n h t j.val : ℝ) : EReal) := by
  unfold inNatural product
  have hj : (⟨j.val % 4096, Nat.mod_lt _ (by norm_num)⟩ : Fin 4096) = j := Fin.ext (Nat.mod_eq_of_lt j.isLt)
  rw [hj, EReal.coe_sub, EReal.coe_add, coe_sum, ← hN.gate, ← hN.gate]
  congr 2
  refine Finset.sum_congr rfl fun d _ => ?_
  rw [scale_eq, EReal.coe_mul, EReal.coe_mul, ← hN.query, ← hN.key]

end Cert.Attention
-- ==== Proof.Host.lean ====
module

public import proofs.«01_k».proof.Proof.Attention
public import proofs.«01_k».proof.Proof.Gen.KernelIdeal.Frame
public import Idealize.ShloMosaic.Lib.Claim
public import Idealize.ShloMosaic.Lib.Pointwise
public import Idealize.ShloMosaic.Lib.Tactic.CleanTypes

@[expose] public section

set_option maxRecDepth 16384

/-! The arrays the host prepares for the call, read at an element. -/

noncomputable section

namespace Cert.KernelIdeal.Attn

open Idealize.ShloMosaic Idealize.SL.Sem Cert.KernelIdeal Cert.KernelIdeal.Gen
open Idealize.ShloMosaic.TcCoe

variable (m : (ℓ : Loc nD τ sig) → Buf (Elt Ideal) ℓ) (c : Dev nD)

/-- The queries the call is launched with. -/
abbrev queries : Attention.Quad := m ((c.tc : Thread nD τ).loc main_arg0)

/-- The keys the call is launched with. -/
abbrev keys : Attention.Quad := m ((c.tc : Thread nD τ).loc main_arg1)

/-- The values the call is launched with. -/
abbrev values : Attention.Quad := m ((c.tc : Thread nD τ).loc main_arg2)

/-- The cumulative log-forgets the call is launched with. -/
abbrev gates : Attention.Trip := m ((c.tc : Thread nD τ).loc main_arg3)

/-- The queries' array: scaled, over the logarithm of two, feature by feature. -/
theorem queries_entry (b : Fin 16) (e : Fin 2048) (r : Fin 512) :
    (V m c main_v7 : Vec Ideal S16x2048x512 .bf16) (ix3 b e r)
      = (Ideal.div (queries m c (ix4 ⟨b.val / 8, by omega⟩ ⟨b.val % 8 * 512 + r.val, by omega⟩ ⟨e.val / 128, by omega⟩ ⟨e.val % 128, by omega⟩) * Ideal.ofBits .f32 0x3DB504F3#32)
          (Ideal.log (Ideal.ofBits .f32 0x40000000#32)) : EReal) := by
  simp only [V, hostOps0, hostOps0_1, hostOps0_2, List.flatten_cons, List.flatten_nil, List.append_nil, List.cons_append, List.nil_append, StableHlo.TRef.ternary, StableHlo.TRef.binary, StableHlo.TRef.unary, StableHlo.TRef.toBuf, StableHlo.TRef.ofBuf, cast_eq]
  after_results_simp
  clean_types
  pointwise []

/-- The values' array, feature by feature. -/
theorem values_entry (b : Fin 16) (e : Fin 2048) (r : Fin 512) :
    (V m c main_v10 : Vec Ideal S16x2048x512 .bf16) (ix3 b e r)
      = (values m c (ix4 ⟨b.val / 8, by omega⟩ ⟨b.val % 8 * 512 + r.val, by omega⟩ ⟨e.val / 128, by omega⟩ ⟨e.val % 128, by omega⟩) : EReal) := by
  simp only [V, hostOps0, hostOps0_1, hostOps0_2, List.flatten_cons, List.flatten_nil, List.append_nil, List.cons_append, List.nil_append, StableHlo.TRef.ternary, StableHlo.TRef.binary, StableHlo.TRef.unary, StableHlo.TRef.toBuf, StableHlo.TRef.ofBuf, cast_eq]
  after_results_simp
  clean_types
  pointwise []

/-- The keys' array. -/
theorem keys_entry (b : Fin 8192) (e : Fin 2048) :
    (V m c main_v12 : Vec Ideal S8192x2048 .bf16) (ix2 b e)
      = (keys m c (ix4 ⟨b.val / 4096, by omega⟩ ⟨b.val % 4096, by omega⟩ ⟨e.val / 128, by omega⟩ ⟨e.val % 128, by omega⟩) : EReal) := by
  simp only [V, hostOps0, hostOps0_1, hostOps0_2, List.flatten_cons, List.flatten_nil, List.append_nil, List.cons_append, List.nil_append, StableHlo.TRef.ternary, StableHlo.TRef.binary, StableHlo.TRef.unary, StableHlo.TRef.toBuf, StableHlo.TRef.ofBuf, cast_eq]
  after_results_simp
  clean_types
  pointwise []

/-- The keys' biases: a negated cumulative log-forget over the logarithm of two, split in three pieces. -/
theorem biases_entry (b : Fin 8192) (e : Fin 2048) (he : e.val % 128 < 3) :
    (V m c main_v28 : Vec Ideal S8192x2048 .bf16) (ix2 b e)
      = let G := (Ideal.div (-gates m c (ix3 ⟨b.val / 4096, by omega⟩ ⟨b.val % 4096, by omega⟩ ⟨e.val / 128, by omega⟩)) (Ideal.log (Ideal.ofBits .f32 0x40000000#32)) : EReal)
        if e.val % 128 < 1 then G else if e.val % 128 - 1 < 1 then G - G else G - G - (G - G) := by
  simp only [V, hostOps0, hostOps0_1, hostOps0_2, List.flatten_cons, List.flatten_nil, List.append_nil, List.cons_append, List.nil_append, StableHlo.TRef.ternary, StableHlo.TRef.binary, StableHlo.TRef.unary, StableHlo.TRef.toBuf, StableHlo.TRef.ofBuf, cast_eq]
  after_results_simp
  clean_types
  pointwise []
  after_results_simp
  clean_types
  pointwise []
  rw [dif_pos (by omega)]
  rfl

end Cert.KernelIdeal.Attn
-- ==== Proof.Block.lean ====
module

public import proofs.«01_k».proof.Proof.Gen.KernelIdeal.Value
public import proofs.«01_k».proof.Proof.Chain
public import proofs.«01_k».proof.Proof.Host
public import Idealize.ShloMosaic.Lib.Pipeline.ValueKit

@[expose] public section

set_option maxRecDepth 16384

/-! The arrays the call's points read and write, block by block. -/

noncomputable section

namespace Cert.KernelIdeal.Attn

open Idealize.ShloMosaic Idealize.SL.Sem Cert.KernelIdeal Cert.KernelIdeal.Gen Cert.Online

open Cert.Attention

variable (c : Dev nD) (i : grid0.Coords)
    (a2 : Memref sig .tc .vmem S8x128x512 .bf16) (w2 : a2.IsWhole)
    (a3 : Memref sig .tc .vmem S4096x128 .bf16) (w3 : a3.IsWhole)
    (a4 : Memref sig .tc .vmem S4096x128 .bf16) (w4 : a4.IsWhole)
    (a5 : Memref sig .tc .vmem S8x128x512 .bf16) (w5 : a5.IsWhole)
    (a6 : Memref sig .tc .vmem S4096x128 .bf16) (w6 : a6.IsWhole)
    (a7 : Memref sig .tc .vmem S512x512 .f32) (w7 : a7.IsWhole)
    (a8 : Memref sig .tc .vmem S512x512 .f32) (w8 : a8.IsWhole)
    (a9 : Memref sig .tc .vmem S1x512 .f32) (w9 : a9.IsWhole)
    (a10 : Memref sig .tc .vmem S1x512 .f32) (w10 : a10.IsWhole)
    (a11 : Memref sig .tc .vmem S1x512 .f32) (w11 : a11.IsWhole)
    (a12 : Memref sig .tc .vmem S144x512 .f32) (w12 : a12.IsWhole)
    (x0 : Vec Ideal S8x128x512 .bf16) (x1 x2 : Vec Ideal S4096x128 .bf16) (x3 : Vec Ideal S8x128x512 .bf16)

/-- What one point leaves in the output's staging buffer. -/
theorem out_eq (hS : Finite x0 x1 x2) :
    out0_A_4 (F := Ideal) c i a2 w2 a3 w3 a4 w4 a5 w5 a6 w6 a7 w7 a8 w8 a9 w9 a10 w10 a11 w11 a12 w12 x0 x1 x2 x3 = outMean x0 x1 x2 x3 := by
  have hp := pieces_mean c i a2 w2 a3 w3 a4 w4 a5 w5 a6 w6 a7 w7 a8 w8 a9 w9 a10 w10 a11 w11 a12 w12 x0 x1 x2 x3 hS
  unfold out0_A_4
  rw [View.read_writes_junk_eq_canon]
  funext y
  exact View.canon_apply_of_pieces (Val := Elt Ideal) (outMean x0 x1 x2 x3) _ hp y
    (cover0_A_4 c i a2 w2 a3 w3 a4 w4 a5 w5 a6 w6 a7 w7 a8 w8 a9 w9 a10 w10 a11 w11 a12 w12 x0 x1 x2 x3 y)

variable (m : (ℓ : Loc nD τ sig) → Buf (Elt Ideal) ℓ)

/-- A grid point's number is below 32. -/
theorem point_lt (t : Fin cfg0.N) : t.val < 32 := (by decide +kernel : ∀ t : Fin grid0.N, t.val < 32) t

/-- The block of queries at a point: the point's sequence and head. -/
theorem index_q : ∀ t : Fin cfg0.N, win0_0.index t = ![t.val / 16, t.val % 16, 0] :=
  (by decide +kernel : ∀ t : Fin grid0.N, win0_0.index t = ![t.val / 16, t.val % 16, 0])

/-- The block of keys at a point. -/
theorem index_k : ∀ t : Fin cfg0.N, win0_1.index t = ![t.val / 16, t.val % 16] :=
  (by decide +kernel : ∀ t : Fin grid0.N, win0_1.index t = ![t.val / 16, t.val % 16])

/-- The block of biases at a point. -/
theorem index_b : ∀ t : Fin cfg0.N, win0_2.index t = ![t.val / 16, t.val % 16] :=
  (by decide +kernel : ∀ t : Fin grid0.N, win0_2.index t = ![t.val / 16, t.val % 16])

/-- The block of values at a point. -/
theorem index_v : ∀ t : Fin cfg0.N, win0_3.index t = ![t.val / 16, t.val % 16, 0] :=
  (by decide +kernel : ∀ t : Fin grid0.N, win0_3.index t = ![t.val / 16, t.val % 16, 0])

/-- The output block at a point. -/
theorem index_o : ∀ t : Fin cfg0.N, win0_4.index t = ![t.val / 16, t.val % 16] :=
  (by decide +kernel : ∀ t : Fin grid0.N, win0_4.index t = ![t.val / 16, t.val % 16])

/-- The sequence of a point. -/
def seq (t : Fin cfg0.N) : Fin 2 := ⟨t.val / 16, by have := point_lt t; omega⟩

/-- The head of a point. -/
def head (t : Fin cfg0.N) : Fin 16 := ⟨t.val % 16, by omega⟩

/-- A query's feature in its block, from the queries the call is launched with. -/
theorem q_block (t : Fin cfg0.N) (b d r : ℕ) (T : Fin 4096) (hT : T.val = b % 8 * 512 + r % 512) (hd : d < 128) :
    qv (iblk m c 0 t) b d r = Ideal.div (queries m c (ix4 (seq t) T (head t) ⟨d, hd⟩) * Ideal.ofBits .f32 0x3DB504F3#32)
      (Ideal.log (Ideal.ofBits .f32 0x40000000#32)) := by
  have ht := point_lt t
  unfold qv
  blk_simp [iblk]
  refine (congrArg (V m c main_v7 : Vec Ideal S16x2048x512 .bf16) (?_ : _ = ix3 (⟨t.val / 16 * 8 + b % 8, by omega⟩ : Fin 16)
    (⟨t.val % 16 * 128 + d, by omega⟩ : Fin 2048) (⟨r % 512, by omega⟩ : Fin 512))).trans ((queries_entry m c _ _ _).trans ?_)
  · funext a
    apply Fin.ext
    fin_cases a <;> blk_simp [index_q] <;> simp <;> omega
  · rw [quad_eq (a' := seq t) (b' := T) (c' := head t) (d' := ⟨d, hd⟩)] <;> (try unfold seq) <;> (try unfold head) <;> dsimp only <;> omega

/-- A value's feature in its block, from the values the call is launched with. -/
theorem v_block (t : Fin cfg0.N) (b d r : ℕ) (T : Fin 4096) (hT : T.val = b % 8 * 512 + r % 512) (hd : d < 128) :
    qv (iblk m c 3 t) b d r = values m c (ix4 (seq t) T (head t) ⟨d, hd⟩) := by
  have ht := point_lt t
  unfold qv
  blk_simp [iblk]
  refine (congrArg (V m c main_v10 : Vec Ideal S16x2048x512 .bf16) (?_ : _ = ix3 (⟨t.val / 16 * 8 + b % 8, by omega⟩ : Fin 16)
    (⟨t.val % 16 * 128 + d, by omega⟩ : Fin 2048) (⟨r % 512, by omega⟩ : Fin 512))).trans ((values_entry m c _ _ _).trans ?_)
  · funext a
    apply Fin.ext
    fin_cases a <;> blk_simp [index_v] <;> simp <;> omega
  · rw [quad_eq (a' := seq t) (b' := T) (c' := head t) (d' := ⟨d, hd⟩)] <;> (try unfold seq) <;> (try unfold head) <;> dsimp only <;> omega

/-- A key's feature in its block, from the keys the call is launched with. -/
theorem k_block (t : Fin cfg0.N) (j d : ℕ) (J : Fin 4096) (hJ : J.val = j % 4096) (hd : d < 128) :
    kv (iblk m c 1 t) j d = keys m c (ix4 (seq t) J (head t) ⟨d, hd⟩) := by
  have ht := point_lt t
  unfold kv
  blk_simp [iblk]
  refine (congrArg (V m c main_v12 : Vec Ideal S8192x2048 .bf16) (?_ : _ = ix2 (⟨t.val / 16 * 4096 + j % 4096, by omega⟩ : Fin 8192)
    (⟨t.val % 16 * 128 + d, by omega⟩ : Fin 2048))).trans ((keys_entry m c _ _).trans ?_)
  · funext a
    apply Fin.ext
    fin_cases a <;> blk_simp [index_k] <;> simp <;> omega
  · rw [quad_eq (a' := seq t) (b' := J) (c' := head t) (d' := ⟨d, hd⟩)] <;> (try unfold seq) <;> (try unfold head) <;> dsimp only <;> omega

/-- The pieces of a key's bias in its block, from the cumulative log-forgets the call is launched with. -/
theorem b_block (t : Fin cfg0.N) (j d : ℕ) (J : Fin 4096) (hJ : J.val = j % 4096) (hd : d < 3) :
    kv (iblk m c 2 t) j d = let G := Ideal.div (-gates m c (ix3 (seq t) J (head t))) (Ideal.log (Ideal.ofBits .f32 0x40000000#32))
      if d < 1 then G else if d - 1 < 1 then G - G else G - G - (G - G) := by
  have ht := point_lt t
  unfold kv
  blk_simp [iblk]
  refine (congrArg (V m c main_v28 : Vec Ideal S8192x2048 .bf16) (?_ : _ = ix2 (⟨t.val / 16 * 4096 + j % 4096, by omega⟩ : Fin 8192)
    (⟨t.val % 16 * 128 + d, by omega⟩ : Fin 2048))).trans ((biases_entry m c _ _ (by dsimp only; omega)).trans ?_)
  · funext a
    apply Fin.ext
    fin_cases a <;> blk_simp [index_b] <;> simp <;> omega
  · rw [trip_eq (a' := seq t) (b' := J) (c' := head t), show (t.val % 16 * 128 + d) % 128 = d by omega] <;> (try unfold seq) <;> (try unfold head) <;> dsimp only <;> omega

variable {m c} (hN : Numbers (queries m c) (keys m c) (gates m c))
include hN

/-- A score of a point's block is the score in base two of its sequence and head. -/
theorem score_block (t : Fin cfg0.N) (b r j : ℕ) (T : Fin 4096) (hT : T.val = b % 8 * 512 + r % 512) :
    score (iblk m c 0 t) (iblk m c 1 t) (iblk m c 2 t) b r j
      = ((inTwo (queries m c) (keys m c) (gates m c) (seq t) (head t) T j : ℝ) : EReal) := by
  unfold score inTwo
  rw [EReal.coe_add]
  congr 1
  · rw [← score_two hN]
    refine Finset.sum_congr rfl fun d _ => ?_
    rw [q_block c m t b d.val r T hT d.isLt, k_block c m t j d.val ⟨j % 4096, Nat.mod_lt _ (by norm_num)⟩ rfl d.isLt]
  · rw [b_block c m t j 0 ⟨j % 4096, Nat.mod_lt _ (by norm_num)⟩ rfl (by omega), b_block c m t j 1 ⟨j % 4096, Nat.mod_lt _ (by norm_num)⟩ rfl (by omega), b_block c m t j 2 ⟨j % 4096, Nat.mod_lt _ (by norm_num)⟩ rfl (by omega), hN.gate]
    exact bias_eq _

/-- Every score of a point's block is a number. -/
theorem finite_block (t : Fin cfg0.N) : Finite (iblk m c 0 t) (iblk m c 1 t) (iblk m c 2 t) := by
  intro b r j
  unfold sc
  rw [score_block hN t b r j ⟨b % 8 * 512 + r % 512, by omega⟩ rfl, EReal.toReal_coe]

/-- Those numbers. -/
theorem sc_block (t : Fin cfg0.N) (b r : ℕ) (T : Fin 4096) (hT : T.val = b % 8 * 512 + r % 512) :
    sc (iblk m c 0 t) (iblk m c 1 t) (iblk m c 2 t) b r = inTwo (queries m c) (keys m c) (gates m c) (seq t) (head t) T := by
  funext j
  unfold sc
  rw [score_block hN t b r j T hT, EReal.toReal_coe]

/-- The kernel's result is the attention. -/
theorem arr_eq : (dats m 0 c).arrAt 4 cfg0.N
    = fun y : S8192x2048.Idx => attention (queries m c) (keys m c) (values m c) (gates m c) (y 0) (y 1) := by
  refine (dats m 0 c).arrAt_eq_of_covers 4 _ (by decide +kernel) fun t hf y => ?_
  have ht := point_lt t
  blk_simp
  rw [after0_4]
  unfold outsAt0
  rw [out_eq (hS := finite_block hN t)]
  have h0 : (y 0).val < 4096 := (y 0).isLt
  have h1 : (y 1).val < 128 := (y 1).isLt
  have e0 : (((win0_4.blk t).view.emb y) 0 : ℕ) = t.val / 16 * 4096 + (y 0).val := by blk_simp [index_o]
  have e1 : (((win0_4.blk t).view.emb y) 1 : ℕ) = t.val % 16 * 128 + (y 1).val := by blk_simp [index_o]
  generalize (win0_4.blk t).view.emb y = z at e0 e1
  show mean _ _ _ _ ((y 0).val / 512) ((y 0).val % 512) (y 1).val = _
  unfold mean attention
  rw [sc_block hN t _ _ ⟨(y 0).val, h0⟩ (by dsimp only; omega),
    ← Fin.sum_univ_eq_sum_range (fun j => value (iblk m c 3 t) (y 1).val j * ((share (inTwo (queries m c) (keys m c) (gates m c) (seq t) (head t)
      ⟨(y 0).val, h0⟩) (512 * ((y 0).val / 512) + (y 0).val % 512) 4096 0 j : ℝ) : EReal)) 4096]
  refine Finset.sum_congr rfl fun j _ => ?_
  unfold value
  rw [if_pos h1, v_block c m t (j.val / 512) _ (j.val % 512) j (by omega) h1]
  have a0 : (⟨(z 0).val / 4096, by have : (z 0).val < 8192 := (z 0).isLt; omega⟩ : Fin 2) = seq t := Fin.ext (by unfold seq; dsimp only; omega)
  have a1 : (⟨(z 1).val / 128, by have : (z 1).val < 2048 := (z 1).isLt; omega⟩ : Fin 16) = head t := Fin.ext (by unfold head; dsimp only; omega)
  have a2 : (⟨(z 1).val % 128, by omega⟩ : Fin 128) = ⟨(y 1).val, h1⟩ := Fin.ext (by dsimp only; omega)
  have a3 : (⟨(z 0).val % 4096, by omega⟩ : Fin 4096) = ⟨(y 0).val, h0⟩ := Fin.ext (by dsimp only; omega)
  rw [a0, a1, a2, a3, show (z 0).val % 4096 = (y 0).val by omega, show 512 * ((y 0).val / 512) + (y 0).val % 512 = (y 0).val by omega]

end Cert.KernelIdeal.Attn
-- ==== Proof.Refer.lean ====
module

public import proofs.«01_k».proof.Proof.Attention
public import proofs.«01_k».proof.Proof.Gen.ReferenceIdeal.Run
public import Idealize.ShloMosaic.Lib.Pointwise
public import Idealize.ShloMosaic.Lib.Tactic.CleanTypes

@[expose] public section

set_option maxRecDepth 16384

/-! The reference's result, read at an element. -/

noncomputable section

namespace Cert.ReferenceIdeal.Attn

open Idealize.ShloMosaic Idealize.SL.Sem Cert.ReferenceIdeal Cert.ReferenceIdeal.Gen
open Idealize.ShloMosaic.TcCoe

/-- The scores of every query against every key, minus infinity where the key comes after the query. -/
def scores (q k : FVec Ideal S2x4096x16x128 .f32) (g : FVec Ideal S2x4096x16 .f32) : FVec Ideal S2x16x4096x4096 .f32 :=
  select (broadcastInDim S2x16x4096x4096 ![0, 1, 2, 3] bcast_S1x1x4096x4096_S2x16x4096x4096_0_1_2_3
      (broadcastInDim S1x1x4096x4096 ![2, 3] bcast_S4096x4096_S1x1x4096x4096_2_3
        (cmpi .sle (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (subf (addf (Host.dotGeneral dot_S2x4096x16x128_S2x4096x16x128_S2x16x4096x4096_3_3_1_1_02_02 none
          (mulf q (broadcastInDim S2x4096x16x128 ![] bcast_S_S2x4096x16x128 (constant S_ .f32 0x3DB504F3#32))) k)
        (broadcastInDim S2x16x4096x4096 ![0, 1, 2, 3] bcast_S2x16x4096x1_S2x16x4096x4096_0_1_2_3
          (broadcastInDim S2x16x4096x1 ![0, 1, 2] bcast_S2x16x4096_S2x16x4096x1_0_1_2 (transpose S2x16x4096 [0, 2, 1] g transposes_S2x4096x16_S2x16x4096_0_2_1))))
      (broadcastInDim S2x16x4096x4096 ![0, 1, 2, 3] bcast_S2x16x1x4096_S2x16x4096x4096_0_1_2_3
        (broadcastInDim S2x16x1x4096 ![0, 1, 3] bcast_S2x16x4096_S2x16x1x4096_0_1_3 (transpose S2x16x4096 [0, 2, 1] g transposes_S2x4096x16_S2x16x4096_0_2_1))))
    (broadcastInDim S2x16x4096x4096 ![] bcast_S_S2x16x4096x4096 (id (constant S_ .f32 0xFF800000#32)))

/-- The greatest score of every query. -/
def greatest (s : FVec Ideal S2x16x4096x4096 .f32) : FVec Ideal S2x16x4096 .f32 :=
  Host.reduce FloatOps.maximumf s (constant S_ .f32 0xFF800000#32) reducesTo_S2x16x4096x4096_S2x16x4096_d3 h_S_

/-- The exponentials of scores less their query's reference point `g`, where that is not minus infinity. -/
def weights (s : FVec Ideal S2x16x4096x4096 .f32) (g : FVec Ideal S2x16x4096 .f32) : FVec Ideal S2x16x4096x4096 .f32 :=
  Host.exp (subf s (broadcastInDim S2x16x4096x4096 ![0, 1, 2, 3] bcast_S2x16x4096x1_S2x16x4096x4096_0_1_2_3
    (broadcastInDim S2x16x4096x1 ![0, 1, 2] bcast_S2x16x4096_S2x16x4096x1_0_1_2
      (maximumf (broadcastInDim S2x16x4096 ![] bcast_S_S2x16x4096 (constant S_ .f32 0xFF800000#32)) g))))

/-- Weights over their query's sum. -/
def shares (w : FVec Ideal S2x16x4096x4096 .f32) : FVec Ideal S2x16x4096x4096 .f32 :=
  Host.divf w (broadcastInDim S2x16x4096x4096 ![0, 1, 2, 3] bcast_S2x16x4096x1_S2x16x4096x4096_0_1_2_3
    (broadcastInDim S2x16x4096x1 ![0, 1, 2] bcast_S2x16x4096_S2x16x4096x1_0_1_2
      (Host.reduceAdd w (constant S_ .f32 0x00000000#32) reducesTo_S2x16x4096x4096_S2x16x4096_d3 h_S_)))

/-- The values weighted by their shares. -/
def attended (v : FVec Ideal S2x4096x16x128 .f32) (p : FVec Ideal S2x16x4096x4096 .f32) : FVec Ideal S8192x2048 .bf16 :=
  truncf .bf16 (shapeCast _ (transpose S2x4096x16x128 [0, 3, 1, 2]
    (Host.dotGeneral dot_S2x4096x16x128_S2x16x4096x4096_S2x16x128x4096_1_3_3_2_02_01 none v p)
    transposes_S2x16x128x4096_S2x4096x16x128_0_3_1_2) shapeCasts_S2x4096x16x128_S8192x2048) bitsLt_bf16_f32

/-- The reference's result, in these terms. -/
theorem result_eq (m : (ℓ : Loc nD τ sig) → Buf (Elt Ideal) ℓ) (c : Dev nD) :
    Value.res_main_v33 m c = attended (m ((c.tc : Thread nD τ).loc main_arg2))
      (shares (weights (scores (m ((c.tc : Thread nD τ).loc main_arg0)) (m ((c.tc : Thread nD τ).loc main_arg1)) (m ((c.tc : Thread nD τ).loc main_arg3)))
        (greatest (scores (m ((c.tc : Thread nD τ).loc main_arg0)) (m ((c.tc : Thread nD τ).loc main_arg1)) (m ((c.tc : Thread nD τ).loc main_arg3)))))) := rfl

/-- The word for minus infinity. -/
theorem neg_inf : Ideal.ofBits .f32 (0xFF800000#32) = (⊥ : EReal) := by
  simp [Ideal.ofBits, Ideal.ieee]

/-- Comparing two positions as words compares them as numbers. -/
theorem sle_word (a b : ℕ) (ha : a < 4096) (hb : b < 4096) :
    IntOp.cmpi .sle (BitVec.ofNat 32 a) (BitVec.ofNat 32 b) = BitVec.ofBool (decide (a ≤ b)) := by
  have h1 : (BitVec.ofNat 32 a).toInt = a := by rw [BitVec.toInt_ofNat']; simp [Int.bmod]; omega
  have h2 : (BitVec.ofNat 32 b).toInt = b := by rw [BitVec.toInt_ofNat']; simp [Int.bmod]; omega
  simp [IntOp.cmpi, BitVec.sle, h1, h2]

/-- A score: the scaled product with the query's and key's cumulative log-forgets, or minus infinity. -/
theorem scores_apply (q k : FVec Ideal S2x4096x16x128 .f32) (g : FVec Ideal S2x4096x16 .f32) (n : Fin 2) (h : Fin 16) (t j : Fin 4096) :
    scores q k g (ix4 n h t j) = if j.val ≤ t.val then
      (∑ d : Fin 128, q (ix4 n t h d) * Ideal.ofBits .f32 (0x3DB504F3#32) * k (ix4 n j h d)) + g (ix3 n t h) - g (ix3 n j h) else ⊥ := by
  pointwise [scores]
  rw [sle_word _ _ (by omega) (by omega)]
  show (if BitVec.ofBool (decide (j.val ≤ t.val)) = 1#1 then _ else Ideal.ofBits .f32 (0xFF800000#32)) = _
  by_cases hjt : j.val ≤ t.val
  · rw [if_pos (by simp [hjt]), if_pos hjt]
  · rw [if_neg (by simp [hjt]), if_neg hjt, neg_inf]

/-- The greatest score of a query. -/
theorem greatest_apply (s : FVec Ideal S2x16x4096x4096 .f32) (n : Fin 2) (h : Fin 16) (t : Fin 4096) :
    greatest s (ix3 n h t) = Finset.univ.fold max ⊥ fun k => s (ix4 n h t k) := by
  unfold greatest
  rw [Host.reduce_eq_fold, Shape.ReducesTo.fold_fiber_r4_a3]
  show Finset.univ.fold max (Ideal.ofBits .f32 (0xFF800000#32)) _ = _
  rw [neg_inf]
  rfl

/-- The exponential of a score less the reference point. -/
theorem weights_apply (s : FVec Ideal S2x16x4096x4096 .f32) (g : FVec Ideal S2x16x4096 .f32) (n : Fin 2) (h : Fin 16) (t j : Fin 4096) :
    weights s g (ix4 n h t j) = Ideal.exp (s (ix4 n h t j) - max ⊥ (g (ix3 n h t))) := by
  pointwise [weights, neg_inf]

/-- A weight over its query's sum. -/
theorem shares_apply (w : FVec Ideal S2x16x4096x4096 .f32) (n : Fin 2) (h : Fin 16) (t j : Fin 4096) :
    shares w (ix4 n h t j) = Ideal.div (w (ix4 n h t j)) (∑ k, w (ix4 n h t k)) := by
  pointwise [shares]

/-- The sum over the keys of a value times its share. -/
theorem attended_apply (v : FVec Ideal S2x4096x16x128 .f32) (p : FVec Ideal S2x16x4096x4096 .f32) (b : Fin 8192) (e : Fin 2048) :
    attended v p (ix2 b e) = ∑ j : Fin 4096, v (ix4 ⟨b.val / 4096, by omega⟩ j ⟨e.val / 128, by omega⟩ ⟨e.val % 128, by omega⟩)
      * p (ix4 ⟨b.val / 4096, by omega⟩ ⟨e.val / 128, by omega⟩ ⟨b.val % 4096, by omega⟩ j) := by
  pointwise [attended]

open Cert.Attention Cert.Online

/-- The reference's result is the attention. -/
theorem result_apply (q k v : FVec Ideal S2x4096x16x128 .f32) (g : FVec Ideal S2x4096x16 .f32) (hN : Numbers q k g) (b : Fin 8192) (e : Fin 2048) :
    attended v (shares (weights (scores q k g) (greatest (scores q k g)))) (ix2 b e) = attention q k v g b e := by
  rw [attended_apply]
  unfold attention
  refine Finset.sum_congr rfl fun j _ => ?_
  refine congrArg (_ * ·) ?_
  have hs : ∀ (n : Fin 2) (h : Fin 16) (t j : Fin 4096), scores q k g (ix4 n h t j) = masked (inNatural q k g n h t) t.val j.val := by
    intro n h t j
    rw [scores_apply, score_natural hN]
    rfl
  simp only [shares_apply, weights_apply, greatest_apply, hs]
  exact softmax_share _ _ _ _ (by omega) _ (bases q k g _ _ _) j

end Cert.ReferenceIdeal.Attn
-- ==== Proof.Buffers.lean ====
/-
What a body's buffers hold, said once for every buffer of every program: loads and stores of boxes as windows of
contents, ownership from what is read, and what a point must leave in a window.
-/
module

public import Idealize.ShloMosaic.Lib.VecWindow
public import Idealize.ShloMosaic.Lib.WholeRead
public import Idealize.ShloMosaic.Lib.Claim
public import Idealize.ShloMosaic.Lib.Pipeline.Kit

@[expose] public section

noncomputable section

namespace Cert.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F] {nD : ℕ} {τ : Topo} {sig : RefSig}

local notation "𝕄" => MT nD τ sig Unit (Elt F) ℕ (UR sig nD τ) ℕ

/-- A load of a box, of any contents, reads a window of what is held. -/
theorem readAt_window {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb :=
  View.readAt_unit v f inb rfl inb

/-- A load of a box that the stores cover reads a window of what the stores leave over anything. -/
theorem readCov_window {sp : Space} {s : Shape} {e : EltTy} (v : View sig .tc sp s e) (L : List (View.Piece (Elt F) s e)) {off size : Fin s.rank → ℕ}
    (inb : ∀ a, off a + size a ≤ s.size a) :
    v.readCov L (Rect.unit off size inb).toLoadRect = VecWindow.window (v.read (Elt F) (v.writes (Elt F) v.junk L)) off size inb :=
  View.readAt_unit v _ inb rfl inb

/-- A store of a box leaves what was there with the payload put over the box. -/
theorem read_put {sp : Space} {s : Shape} {e : EltTy} (v : View sig .tc sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A window of a two-axis array's own sizes is the array. -/
theorem window_whole2 {α : Type} {n m : ℕ} (x : Shape.Idx ⟨2, ![n, m]⟩ → α) (inb : ∀ a, (![0, 0] : Fin 2 → ℕ) a + (![n, m] : Fin 2 → ℕ) a ≤ (⟨2, ![n, m]⟩ : Shape).size a) :
    VecWindow.window (s := ⟨2, ![n, m]⟩) x ![0, 0] ![n, m] inb = x := by
  funext y
  refine congrArg x (funext fun a => Fin.ext ?_)
  fin_cases a
  · show 0 + 1 * (y 0).val = (y 0).val; omega
  · show 0 + 1 * (y 1).val = (y 1).val; omega

/-- A payload put over all of a two-axis array is the payload. -/
theorem put_whole2 {α : Type} {n m : ℕ} (x w : Shape.Idx ⟨2, ![n, m]⟩ → α) :
    VecWindow.put (s := ⟨2, ![n, m]⟩) x ![0, 0] ![n, m] w = w := by
  funext y
  have h : ∀ a, (![0, 0] : Fin 2 → ℕ) a ≤ (y a).val ∧ (y a).val < (![0, 0] : Fin 2 → ℕ) a + (![n, m] : Fin 2 → ℕ) a := by
    intro a
    have := (y a).isLt
    fin_cases a <;> simp_all
  unfold VecWindow.put
  rw [dif_pos h]
  refine congrArg w (funext fun a => Fin.ext ?_)
  fin_cases a <;> rfl

/-- A window of a three-axis array's own sizes is the array. -/
theorem window_whole3 {α : Type} {n m k : ℕ} (x : Shape.Idx ⟨3, ![n, m, k]⟩ → α) (inb : ∀ a, (![0, 0, 0] : Fin 3 → ℕ) a + (![n, m, k] : Fin 3 → ℕ) a ≤ (⟨3, ![n, m, k]⟩ : Shape).size a) :
    VecWindow.window (s := ⟨3, ![n, m, k]⟩) x ![0, 0, 0] ![n, m, k] inb = x := by
  funext y
  refine congrArg x (funext fun a => Fin.ext ?_)
  fin_cases a
  · show 0 + 1 * (y 0).val = (y 0).val; omega
  · show 0 + 1 * (y 1).val = (y 1).val; omega
  · show 0 + 1 * (y 2).val = (y 2).val; omega

/-- A payload put over all of a three-axis array is the payload. -/
theorem put_whole3 {α : Type} {n m k : ℕ} (x w : Shape.Idx ⟨3, ![n, m, k]⟩ → α) :
    VecWindow.put (s := ⟨3, ![n, m, k]⟩) x ![0, 0, 0] ![n, m, k] w = w := by
  funext y
  have h : ∀ a, (![0, 0, 0] : Fin 3 → ℕ) a ≤ (y a).val ∧ (y a).val < (![0, 0, 0] : Fin 3 → ℕ) a + (![n, m, k] : Fin 3 → ℕ) a := by
    intro a
    have := (y a).isLt
    fin_cases a <;> simp_all
  unfold VecWindow.put
  rw [dif_pos h]
  refine congrArg w (funext fun a => Fin.ext ?_)
  fin_cases a <;> rfl

/-- A buffer whose contents read as `X` holds `X`. -/
theorem holds {c : Dev nD} {sp : Space} {s : Shape} {e : EltTy} {v : View sig .tc sp s e} {f : v.ty.Contents (Elt F)} {X : s.Idx → Elt F e}
    (h : v.read (Elt F) f = X) :
    (v.loc (c.tc : Thread nD τ) ↦[v.set]{fullShare} f : sProp 𝕄) ⊢ iprop(∃ f, ⌜v.read (Elt F) f = X⌝ ∗ (v.loc (c.tc : Thread nD τ) ↦[v.set]{fullShare} f)) := by
  iintro H
  iexists f
  isplitr
  · ipureintro; exact h
  iexact H

/-- A buffer holds something. -/
theorem holds_some {c : Dev nD} {sp : Space} {s : Shape} {e : EltTy} {v : View sig .tc sp s e} {f : v.ty.Contents (Elt F)} :
    (v.loc (c.tc : Thread nD τ) ↦[v.set]{fullShare} f : sProp 𝕄) ⊢ iprop(∃ X, ∃ f, ⌜v.read (Elt F) f = X⌝ ∗ (v.loc (c.tc : Thread nD τ) ↦[v.set]{fullShare} f)) := by
  iintro H
  iexists v.read (Elt F) f
  iexists f
  isplitr
  · ipureintro; rfl
  iexact H

/-- A window that a point does not leave alone is left at what the proof data say. -/
theorem leaves_after {Λ₀ : Labels} {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact
  rw [h]

end Cert.Layer

end
-- ==== Proof.FfnRun.lean ====
/-
The feed-forward kernel's body, run once: what it leaves in its output block and in the two scratch buffers that it
keeps from one grid point to the next, as plain functions of what it found there.
-/
module

public import proofs.«01_k».proof.Proof.Gen.FfnIdeal.Skeleton
public import proofs.«01_k».proof.Proof.Gen.FfnIdeal.Frame
public import proofs.«01_k».proof.Proof.Buffers

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer (readAt_window readCov_window read_put put_whole2 put_whole3 window_whole2 window_whole3 holds holds_some)

variable {F : FTy → Type} [FloatOps F]

local notation "𝕄" => MT nD τ sig Unit (Elt F) ℕ (UR sig nD τ) ℕ

/-- The first column block of a row tile: the body starts the tile's output block and its scaled rows. -/
abbrev First (i : grid0.Coords) : Prop := (Scalar.cmpi .ne (Scalar.extui (Scalar.cmpi .eq (BitVec.ofNat 32 (i 1).val) 0#32)) 0#32) = 1#1

/-- The first row tile of all: the body then also clears the rows kept for the next tile. -/
abbrev Clear (i : grid0.Coords) : Prop := (Scalar.cmpi .ne (Scalar.extui (Scalar.cmpi .eq (BitVec.ofNat 32 (i 0).val) 0#32)) 0#32) = 1#1

/-- The last row tile of a sequence: the body then also writes the sequence's last rows out. -/
abbrev Last (i : grid0.Coords) : Prop := k0_cond3 i = 1#1

/-- The ten blocks the body reads. -/
structure Ins (F : FTy → Type) where
  h : Vec F S512x2048 .f32
  g : Vec F S1x2048 .f32
  up : Vec F S1x2048x512 .bf16
  gate : Vec F S1x2048x512 .bf16
  dw : Vec F S3x512 .f32
  b : Vec F S1x512 .f32
  down : Vec F S1x512x2048 .bf16
  a : Vec F S512x2048 .bf16
  wo : Vec F S2048x2048 .bf16
  prev : Vec F S1x2x512 .f32

/-- What the body keeps from one grid point to the next: the output block, the scaled rows of the tile, and of each
column block the last two rows seen. -/
structure St (F : FTy → Type) where
  o : Vec F S512x2048 .f32
  xn : Vec F S512x2048 .bf16
  carry : Vec F S11x2x512 .f32

/-- What the body does first, at the first column block of a tile. -/
def start (i : grid0.Coords) (x : Ins F) (s : St F) : St F :=
  if First i then
    ⟨k0_pay3 x.h x.a x.wo, k0_pay4 x.h x.a x.wo x.g, if Clear i then k0_pay5 else s.carry⟩
  else s

/-- The two rows before the tile, of the point's column block. -/
def two (i : grid0.Coords) (x : Ins F) (s : St F) : Vec F S2x512 .f32 :=
  k0_pay8 i x.prev (VecWindow.window s.carry (k0_off1 i) S1x2x512.size (k0_off1_inb i))

/-- The buffer the body lays its rows in, over anything: the two rows before the tile, then the tile's. -/
def laid (U : Vec F S520x512 .f32) (i : grid0.Coords) (x : Ins F) (s : St F) : Vec F S520x512 .f32 :=
  VecWindow.put (VecWindow.put U ![8, 0] S512x512.size (k0_pay7 s.xn x.up)) ![6, 0] S2x512.size (two i x s)

/-- Nothing, to lay the rows over. -/
def blank : Vec F S520x512 .f32 := fun _ => Scalar.ofBits .f32 0#32

/-- The body after the start: the output block gains the column block's product, and the column block's last two rows
are kept. -/
def rest (i : grid0.Coords) (x : Ins F) (s : St F) : St F :=
  ⟨k0_pay9 s.xn (k0_pay6 s.xn x.up)
      (VecWindow.window (laid blank i x s) ![7, 0] S512x512.size inb_S520x512_S512x512_7_0)
      (VecWindow.window (laid blank i x s) ![6, 0] S512x512.size inb_S520x512_S512x512_6_0)
      (VecWindow.window x.dw ![0, 0] S1x512.size inb_S3x512_S1x512_0_0)
      (VecWindow.window x.dw ![1, 0] S1x512.size inb_S3x512_S1x512_1_0)
      (VecWindow.window x.dw ![2, 0] S1x512.size inb_S3x512_S1x512_2_0)
      x.b x.gate s.o x.down,
    s.xn,
    VecWindow.put s.carry (k0_off1 i) S1x2x512.size
      (k0_pay1 (VecWindow.window (laid blank i x s) ![518, 0] S2x512.size inb_S520x512_S2x512_518_0))⟩

/-- One run of the body. -/
def step (i : grid0.Coords) (x : Ins F) (s : St F) : St F := rest i x (start i x s)

/-- Of the row buffer the body reads only what it laid there: a window from row 6 on is the same over anything. -/
theorem window_laid (U : Vec F S520x512 .f32) (i : grid0.Coords) (x : Ins F) (s : St F) {n o : ℕ} (h : 6 ≤ o)
    (inb : ∀ a, (![o, 0] : Fin 2 → ℕ) a + (![n, 512] : Fin 2 → ℕ) a ≤ S520x512.size a) :
    VecWindow.window (s := S520x512) (laid U i x s) ![o, 0] ![n, 512] inb = VecWindow.window (s := S520x512) (laid blank i x s) ![o, 0] ![n, 512] inb := by
  funext y
  have h0 : o + n ≤ 520 := inb 0
  have y0 : (y 0).val < n := (y 0).isLt
  have y1 : (y 1).val < 512 := (y 1).isLt
  have e0 : ((Rect.unit (s := S520x512) ![o, 0] ![n, 512] inb).emb y 0).val = o + 1 * (y 0).val := rfl
  have e1 : ((Rect.unit (s := S520x512) ![o, 0] ![n, 512] inb).emb y 1).val = 0 + 1 * (y 1).val := rfl
  unfold VecWindow.window laid
  generalize (Rect.unit (s := S520x512) ![o, 0] ![n, 512] inb).emb y = z at e0 e1 ⊢
  unfold VecWindow.put
  split
  · rfl
  · rename_i hz
    split
    · rfl
    · rename_i hz'
      exfalso
      simp only [Fin.forall_fin_two] at hz hz'
      simp [S512x512, S2x512] at hz hz'
      omega

/-- What the body leaves after the start, with the rows laid over anything. -/
theorem rest_over (U : Vec F S520x512 .f32) (i : grid0.Coords) (x : Ins F) (s : St F) :
    rest i x s = ⟨k0_pay9 s.xn (k0_pay6 s.xn x.up)
      (VecWindow.window (laid U i x s) ![7, 0] S512x512.size inb_S520x512_S512x512_7_0)
      (VecWindow.window (laid U i x s) ![6, 0] S512x512.size inb_S520x512_S512x512_6_0)
      (VecWindow.window x.dw ![0, 0] S1x512.size inb_S3x512_S1x512_0_0)
      (VecWindow.window x.dw ![1, 0] S1x512.size inb_S3x512_S1x512_1_0)
      (VecWindow.window x.dw ![2, 0] S1x512.size inb_S3x512_S1x512_2_0)
      x.b x.gate s.o x.down,
    s.xn,
    VecWindow.put s.carry (k0_off1 i) S1x2x512.size
      (k0_pay1 (VecWindow.window (laid U i x s) ![518, 0] S2x512.size inb_S520x512_S2x512_518_0))⟩ := by
  have h7 := window_laid U i x s (n := 512) (o := 7) (by decide) inb_S520x512_S512x512_7_0
  have h6 := window_laid U i x s (n := 512) (o := 6) (by decide) inb_S520x512_S512x512_6_0
  have h518 := window_laid U i x s (n := 2) (o := 518) (by decide) inb_S520x512_S2x512_518_0
  unfold rest
  rw [show VecWindow.window (laid U i x s) ![7, 0] S512x512.size inb_S520x512_S512x512_7_0 = _ from h7,
    show VecWindow.window (laid U i x s) ![6, 0] S512x512.size inb_S520x512_S512x512_6_0 = _ from h6,
    show VecWindow.window (laid U i x s) ![518, 0] S2x512.size inb_S520x512_S2x512_518_0 = _ from h518]

/-- At the very first point the body starts the tile and clears the kept rows. -/
theorem start_clear {i : grid0.Coords} (h0 : First i) (h1 : Clear i) (x : Ins F) (s : St F) :
    start i x s = ⟨k0_pay3 x.h x.a x.wo, k0_pay4 x.h x.a x.wo x.g, k0_pay5⟩ := by
  unfold start; rw [if_pos h0, if_pos h1]

/-- At the first column block of a later tile the body starts the tile and keeps the kept rows. -/
theorem start_keep {i : grid0.Coords} (h0 : First i) (h1 : ¬ Clear i) (x : Ins F) (s : St F) :
    start i x s = ⟨k0_pay3 x.h x.a x.wo, k0_pay4 x.h x.a x.wo x.g, s.carry⟩ := by
  unfold start; rw [if_pos h0, if_neg h1]

/-- At a later column block the body starts nothing. -/
theorem start_skip {i : grid0.Coords} (h0 : ¬ First i) (x : Ins F) (s : St F) : start i x s = s := by
  unfold start; rw [if_neg h0]

set_option maxHeartbeats 4000000 in
/-- The body run on whole memrefs: the blocks read stay as they were, the output block and the kept buffers hold
`step` of what they held; the row buffer and the last-rows block hold anything. -/
theorem run (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512x2048 .bf16) (harg8 : arg8.IsWhole) (arg9 : Memref sig .tc .vmem S512x2048 .bf16) (harg9 : arg9.IsWhole) (arg10 : Memref sig .tc .vmem S2048x2048 .bf16) (harg10 : arg10.IsWhole) (arg11 : Memref sig .tc .vmem S1x2x512 .f32) (harg11 : arg11.IsWhole) (arg12 : Memref sig .tc .vmem S512x2048 .f32) (harg12 : arg12.IsWhole) (arg13 : Memref sig .tc .vmem S2x11x2x512 .f32) (harg13 : arg13.IsWhole) (arg14 : Memref sig .tc .vmem S512x2048 .bf16) (harg14 : arg14.IsWhole) (arg15 : Memref sig .tc .vmem S520x512 .f32) (harg15 : arg15.IsWhole) (arg16 : Memref sig .tc .vmem S11x2x512 .f32) (harg16 : arg16.IsWhole)
    (x : Ins F) (s : St F) (E : Set ℕ) (K : PUnit → sProp 𝕄) :
    iprop(owns (c : Thread nD τ) arg2 fullShare x.h ∗ owns (c : Thread nD τ) arg3 fullShare x.g ∗ owns (c : Thread nD τ) arg4 fullShare x.up ∗ owns (c : Thread nD τ) arg5 fullShare x.gate ∗ owns (c : Thread nD τ) arg6 fullShare x.dw ∗ owns (c : Thread nD τ) arg7 fullShare x.b ∗ owns (c : Thread nD τ) arg8 fullShare x.down ∗ owns (c : Thread nD τ) arg9 fullShare x.a ∗ owns (c : Thread nD τ) arg10 fullShare x.wo ∗ owns (c : Thread nD τ) arg11 fullShare x.prev ∗ owns (c : Thread nD τ) arg12 fullShare s.o ∗ (∃ d, owns (c : Thread nD τ) arg13 fullShare d) ∗ owns (c : Thread nD τ) arg14 fullShare s.xn ∗ (∃ d, owns (c : Thread nD τ) arg15 fullShare d) ∗ owns (c : Thread nD τ) arg16 fullShare s.carry
        ∗ (iprop(owns (c : Thread nD τ) arg2 fullShare x.h ∗ owns (c : Thread nD τ) arg3 fullShare x.g ∗ owns (c : Thread nD τ) arg4 fullShare x.up ∗ owns (c : Thread nD τ) arg5 fullShare x.gate ∗ owns (c : Thread nD τ) arg6 fullShare x.dw ∗ owns (c : Thread nD τ) arg7 fullShare x.b ∗ owns (c : Thread nD τ) arg8 fullShare x.down ∗ owns (c : Thread nD τ) arg9 fullShare x.a ∗ owns (c : Thread nD τ) arg10 fullShare x.wo ∗ owns (c : Thread nD τ) arg11 fullShare x.prev ∗ owns (c : Thread nD τ) arg12 fullShare (step i x s).o ∗ (∃ d, owns (c : Thread nD τ) arg13 fullShare d) ∗ owns (c : Thread nD τ) arg14 fullShare (step i x s).xn ∗ (∃ d, owns (c : Thread nD τ) arg15 fullShare d) ∗ owns (c : Thread nD τ) arg16 fullShare (step i x s).carry) -∗ K ⟨⟩))
      ⊢ wp frame (wpE (defs₀ (F := F)) Variants.none c none) E (cc0_ffn_seq i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_seq_eq_skeleton]; unfold cc0_ffn_seq_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%fs2, %hfs2, HS2⟩, Hk⟩
  by_cases hc2 : Last i <;> by_cases hc0 : First i <;> by_cases hc1 : Clear i
  all_goals
    sl_exec (disch := first | sl_exact hc0 | sl_exact hc1 | sl_exact hc2)
    sl_step
    iapply Hk
    isplitl [H0]; · iapply (holds hf0); iexact H0
    isplitl [H1]; · iapply (holds hf1); iexact H1
    isplitl [H2]; · iapply (holds hf2); iexact H2
    isplitl [H3]; · iapply (holds hf3); iexact H3
    isplitl [H4]; · iapply (holds hf4); iexact H4
    isplitl [H5]; · iapply (holds hf5); iexact H5
    isplitl [H6]; · iapply (holds hf6); iexact H6
    isplitl [H7]; · iapply (holds hf7); iexact H7
    isplitl [H8]; · iapply (holds hf8); iexact H8
    isplitl [H9]; · iapply (holds hf9); iexact H9
    isplitl [H10]
    · iexists _; isplitr; swap; · iexact H10
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hfs0, hfs2]
      unfold step
      first | rw [start_skip hc0] | rw [start_clear hc0 hc1] | rw [start_keep hc0 hc1]
      refine Eq.trans ?_ (congrArg St.o (rest_over (arg15.view.read (Elt F) arg15.view.junk) i x _)).symm
      rfl
    isplitl [H11]; · iapply holds_some; iexact H11
    isplitl [HS0]
    · iexists _; isplitr; swap; · iexact HS0
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hfs0, hfs2]
      unfold step
      first | rw [start_skip hc0] | rw [start_clear hc0 hc1] | rw [start_keep hc0 hc1]
      rfl
    isplitl [HS1]; · iapply holds_some; iexact HS1
    iexists _; isplitr; swap; · iexact HS2
    ipureintro
    sl_unfold_run_names
    simp only [View.read_writes_full, View.readCov_full, readAt_window, readCov_window, read_put, put_whole2, put_whole3, window_whole2, window_whole3, View.writes_nil, hf0, hf1, hf2, hf3, hf4, hf5, hf6, hf7, hf8, hf9, hf10, hfs0, hfs2]
    unfold step
    first | rw [start_skip hc0] | rw [start_clear hc0 hc1] | rw [start_keep hc0 hc1]
    refine Eq.trans ?_ (congrArg St.carry (rest_over (arg15.view.read (Elt F) arg15.view.junk) i x _)).symm
    rfl

end Cert.FfnIdeal.Gen

end
-- ==== Proof.FfnFrame.lean ====
/-
The feed-forward kernel's program, run: what its output array holds at the end, as the points' output blocks, each a
plain function of the blocks read and of what the points before left.
-/
module

public import proofs.«01_k».proof.Proof.FfnRun

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer (leaves_after)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

/-- A point is the first column block of its tile when its number is a multiple of 11. -/
theorem first_iff (t : Fin cfg0.N) : First (grid0.coords t) ↔ t.val % 11 = 0 :=
  (fun t => by
    have ht : t.val < 176 := Nat.lt_of_lt_of_eq t.isLt N_0
    have e1 : (grid0.coords t 1).val = t.val / 1 % 11 := Pipeline.Grid.coords_val t 1 (by decide) rfl
    simp only [First, e1]
    word_cmp
   : ∀ t : Fin grid0.N, First (grid0.coords t) ↔ t.val % 11 = 0) t

/-- A point is in the first row tile when its number is below 11. -/
theorem clear_iff (t : Fin cfg0.N) : Clear (grid0.coords t) ↔ t.val < 11 :=
  (fun t => by
    have ht : t.val < 176 := Nat.lt_of_lt_of_eq t.isLt N_0
    have e0 : (grid0.coords t 0).val = t.val / 11 % 16 := Pipeline.Grid.coords_val t 0 (by decide) rfl
    simp only [Clear, e0]
    word_cmp
   : ∀ t : Fin grid0.N, Clear (grid0.coords t) ↔ t.val < 11) t

/-! ## What the body's buffers are at a point -/

/-- Window 0's buffer at a point. -/
abbrev ms0 (t : Fin cfg0.N) : Memref sig .tc .vmem S512x2048 .f32 := win0_0.stage (cfg0.slots t 0)
/-- Window 1's buffer at a point. -/
abbrev ms1 (t : Fin cfg0.N) : Memref sig .tc .vmem S1x2048 .f32 := win0_1.stage (cfg0.slots t 1)
/-- Window 2's buffer at a point. -/
abbrev ms2 (t : Fin cfg0.N) : Memref sig .tc .vmem S1x2048x512 .bf16 := win0_2.stage (cfg0.slots t 2)
/-- Window 3's buffer at a point. -/
abbrev ms3 (t : Fin cfg0.N) : Memref sig .tc .vmem S1x2048x512 .bf16 := win0_3.stage (cfg0.slots t 3)
/-- Window 4's buffer at a point. -/
abbrev ms4 (t : Fin cfg0.N) : Memref sig .tc .vmem S3x512 .f32 := win0_4.stage (cfg0.slots t 4)
/-- Window 5's buffer at a point. -/
abbrev ms5 (t : Fin cfg0.N) : Memref sig .tc .vmem S1x512 .f32 := win0_5.stage (cfg0.slots t 5)
/-- Window 6's buffer at a point. -/
abbrev ms6 (t : Fin cfg0.N) : Memref sig .tc .vmem S1x512x2048 .bf16 := win0_6.stage (cfg0.slots t 6)
/-- Window 7's buffer at a point. -/
abbrev ms7 (t : Fin cfg0.N) : Memref sig .tc .vmem S512x2048 .bf16 := win0_7.stage (cfg0.slots t 7)
/-- Window 8's buffer at a point. -/
abbrev ms8 (t : Fin cfg0.N) : Memref sig .tc .vmem S2048x2048 .bf16 := win0_8.stage (cfg0.slots t 8)
/-- Window 9's buffer at a point. -/
abbrev ms9 (t : Fin cfg0.N) : Memref sig .tc .vmem S1x2x512 .f32 := win0_9.stage (cfg0.slots t 9)
/-- The output window's buffer at a point. -/
abbrev ms10 (t : Fin cfg0.N) : Memref sig .tc .vmem S512x2048 .f32 := win0_10.stage (cfg0.slots t 10)
/-- The last-rows window's buffer at a point. -/
abbrev ms11 (t : Fin cfg0.N) : Memref sig .tc .vmem S2x11x2x512 .f32 := win0_11.stage (cfg0.slots t 11)
/-- The scratch buffer of the tile's scaled rows. -/
abbrev sc0 : Memref sig .tc .vmem S512x2048 .bf16 := Memref.whole cc0_scratch0
/-- The scratch buffer the rows are laid in. -/
abbrev sc1 : Memref sig .tc .vmem S520x512 .f32 := Memref.whole cc0_scratch1
/-- The scratch buffer of the last two rows kept. -/
abbrev sc2 : Memref sig .tc .vmem S11x2x512 .f32 := Memref.whole cc0_scratch2

/-- What the launch hands the body besides the windows: the three scratch buffers at anything. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What is held after each point -/

/-- The blocks the body reads at a point. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- Nothing kept yet. -/
def empty : St F := ⟨fun _ => Scalar.ofBits .f32 0#32, fun _ => Scalar.ofBits .bf16 0#16, fun _ => Scalar.ofBits .f32 0#32⟩

/-- What the output block and the kept buffers hold after the body at a point. -/
def held (c : Dev nD) : (n : ℕ) → n < cfg0.N → St F
  | 0, hn => step (grid0.coords ⟨0, hn⟩) (ins m c ⟨0, hn⟩) empty
  | n + 1, hn => step (grid0.coords ⟨n + 1, hn⟩) (ins m c ⟨n + 1, hn⟩) (held c n (Nat.lt_of_succ_lt hn))

/-- At the first point what was held before does not matter. -/
theorem held_first (c : Dev nD) (t : Fin cfg0.N) (hz : t.val = 0) (s : St F) :
    step (grid0.coords t) (ins m c t) s = held m c t.val t.isLt := by
  obtain ⟨n, hn⟩ := t
  dsimp only at hz
  subst hz
  have h0 : First (grid0.coords ⟨0, hn⟩) := (first_iff ⟨0, hn⟩).mpr rfl
  have h1 : Clear (grid0.coords ⟨0, hn⟩) := (clear_iff ⟨0, hn⟩).mpr (Nat.zero_lt_succ 10)
  show step _ _ _ = step _ _ _
  unfold step
  rw [start_clear h0 h1, start_clear h0 h1]

/-- At a later point the body goes on from what the point before left. -/
theorem held_later (c : Dev nD) (t : Fin cfg0.N) (hz : t.val ≠ 0) :
    step (grid0.coords t) (ins m c t) (held m c (t.val - 1) (by omega)) = held m c t.val t.isLt := by
  obtain ⟨n, hn⟩ := t
  cases n with
  | zero => exact absurd rfl hz
  | succ n => rfl

/-- At the first column block of a later tile what the output block held before does not matter. -/
theorem held_tile (c : Dev nD) (t : Fin cfg0.N) (hz : t.val ≠ 0) (h : t.val % 11 = 0) (o : Vec F S512x2048 .f32) :
    step (grid0.coords t) (ins m c t) ⟨o, (held m c (t.val - 1) (by omega)).xn, (held m c (t.val - 1) (by omega)).carry⟩
      = held m c t.val t.isLt := by
  rw [← held_later m c t hz]
  have h0 : First (grid0.coords t) := (first_iff t).mpr h
  have h1 : ¬ Clear (grid0.coords t) := fun h1 => by have := (clear_iff t).mp h1; omega
  unfold step
  rw [start_keep h0 h1, start_keep h0 h1]

/-- What the body holds besides its windows before a point: anything at first, then the kept buffers. -/
def Kept (c : Dev nD) : (n : ℕ) → n ≤ cfg0.N → sProp 𝕄
  | 0, _ => Pipeline.ΦA spec0 c
  | n + 1, hn => iprop(iprop(owns (c : Thread nD τ) sc0 fullShare (held m c n hn).xn ∗ (∃ d, owns (c : Thread nD τ) sc1 fullShare d) ∗ owns (c : Thread nD τ) sc2 fullShare (held m c n hn).carry) ∗ (∃ r, prngReg c r))

/-- Before the first point. -/
theorem Kept_zero (c : Dev nD) (n : ℕ) (h : n ≤ cfg0.N) (hz : n = 0) : Kept m c n h = Pipeline.ΦA spec0 c := by
  subst hz; rfl

/-- After a point. -/
theorem Kept_succ (c : Dev nD) (n : ℕ) (hn : n < cfg0.N) :
    Kept m c (n + 1) hn = iprop(iprop(owns (c : Thread nD τ) sc0 fullShare (held m c n hn).xn ∗ (∃ d, owns (c : Thread nD τ) sc1 fullShare d) ∗ owns (c : Thread nD τ) sc2 fullShare (held m c n hn).carry) ∗ (∃ r, prngReg c r)) := rfl

/-- Before a later point. -/
theorem Kept_pos (c : Dev nD) (n : ℕ) (h : n ≤ cfg0.N) (hz : n ≠ 0) :
    Kept m c n h = iprop(iprop(owns (c : Thread nD τ) sc0 fullShare (held m c (n - 1) (by omega)).xn ∗ (∃ d, owns (c : Thread nD τ) sc1 fullShare d) ∗ owns (c : Thread nD τ) sc2 fullShare (held m c (n - 1) (by omega)).carry) ∗ (∃ r, prngReg c r)) := by
  cases n with
  | zero => exact absurd rfl hz
  | succ n => rfl

/-- Of the last-rows block nothing is said: no claim reads it. -/
def unsaid : Fin 12 → Bool := fun w => w.val == 11

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (held m c t.val t.isLt).o
    | ⟨11, h⟩ => Pipeline.Dat.unnamed (cfg := cfg0) ⟨11, h⟩ t
  Φ t := Kept m c t.val (Nat.le_of_lt_succ t.isLt)
  q _ := fullShare
  owed _ := 0

/-- The arrays at the launch are the program's. -/
theorem A_eq (c : Dev nD) (w : Fin cfg0.W) : (dats m 0 c).A w = V m c (Pipeline.arrRef spec0 w) := by
  dsimp only [dats]

/-- What is held before a point, as `Kept` of its number. -/
theorem Kept_castSucc (c : Dev nD) (t : Fin cfg0.N) :
    (dats m 0 c).Φ t.castSucc = Kept m c t.val (Nat.le_of_lt t.isLt) := by
  dsimp only [dats]; exact Pipeline.Dat.Φ_castSucc (Kept m c) t

/-- The output window's buffer after a point. -/
theorem after10 (c : Dev nD) (t : Fin cfg0.N) : (dats m 0 c).after 10 t = (held m c t.val t.isLt).o := by dsimp only [dats]

/-- At a later column block the output buffer still holds what the point before left. -/
theorem before10 (c : Dev nD) (t : Fin cfg0.N) (h : t.val % 11 ≠ 0) (d) :
    (dats m 0 c).before 10 t d = (held m c (t.val - 1) (by omega)).o := by
  have hz : t.val ≠ 0 := fun hz => h (by omega)
  refine ((dats m 0 c).before_out_kept 10 rfl t hz ?_ (fun _ => rfl) (fun _ _ => rfl) d).trans ?_
  · refine Bool.eq_false_iff.mpr fun hf => ?_
    have := (flush0_10 _).mp hf
    dsimp only at this
    omega
  · exact after10 m c _

/-! ## The body at every point -/

/-- Before the body. -/
def before (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare d))

/-- After the body. -/
def after (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms11 t) fullShare d))

/-- What the body finds in the output block and the kept buffers before a point: a state from which it goes on to what
`held` says of the point. -/
theorem enter (c : Dev nD) (t : Fin cfg0.N) :
    iprop((dats m 0 c).Φ t.castSucc ∗ (∃ d, owns (c : Thread nD τ) (ms10 t) fullShare ((dats m 0 c).before 10 t d)))
      ⊢ (iprop(∃ s : St F, ⌜step (grid0.coords t) (ins m c t) s = held m c t.val t.isLt⌝ ∗ owns (c : Thread nD τ) (ms10 t) fullShare s.o ∗ owns (c : Thread nD τ) sc0 fullShare s.xn ∗ (∃ d, owns (c : Thread nD τ) sc1 fullShare d) ∗ owns (c : Thread nD τ) sc2 fullShare s.carry ∗ (∃ r, prngReg c r)) : sProp 𝕄) := by
  rw [Kept_castSucc]
  by_cases hz : t.val = 0
  · rw [Kept_zero m c _ _ hz, scratch_eq]
    iintro ⟨⟨⟨⟨%a, HS0⟩, HS1, ⟨%b, HS2⟩⟩, Hg⟩, ⟨%d, H⟩⟩
    iexists ⟨(dats m 0 c).before 10 t d, a, b⟩
    isplitr
    · ipureintro; exact held_first m c t hz _
    isplitl [H]; · iexact H
    isplitl [HS0]; · iexact HS0
    isplitl [HS1]; · iexact HS1
    isplitl [HS2]; · iexact HS2
    iexact Hg
  · rw [Kept_pos m c _ _ hz]
    iintro ⟨⟨⟨HS0, HS1, HS2⟩, Hg⟩, ⟨%d, H⟩⟩
    iexists ⟨(dats m 0 c).before 10 t d, (held m c (t.val - 1) (by omega)).xn, (held m c (t.val - 1) (by omega)).carry⟩
    isplitr
    · ipureintro
      by_cases h : t.val % 11 = 0
      · exact held_tile m c t hz h _
      · rw [before10 m c t h]
        exact held_later m c t hz
    isplitl [H]; · iexact H
    isplitl [HS0]; · iexact HS0
    isplitl [HS1]; · iexact HS1
    isplitl [HS2]; · iexact HS2
    iexact Hg

set_option maxHeartbeats 4000000 in
/-- The body at any point takes what the windows and the kept buffers held to what they hold after it. -/
theorem sound_body (c : Dev nD) (t : Fin cfg0.N) :
    before m c t ⊢ wp frame (wpE (defs₀ (F := F)) Variants.none c none) Set.univ (bodyAt0 t) (fun _ => after m c t) := by
  unfold before after bodyAt0
  simp only [before0_0_of m _ (A_eq m c 0) (fun _ => rfl),
    before0_1_of m _ (A_eq m c 1) (fun _ => rfl),
    before0_2_of m _ (A_eq m c 2) (fun _ => rfl),
    before0_3_of m _ (A_eq m c 3) (fun _ => rfl),
    before0_4_of m _ (A_eq m c 4) (fun _ => rfl),
    before0_5_of m _ (A_eq m c 5) (fun _ => rfl),
    before0_6_of m _ (A_eq m c 6) (fun _ => rfl),
    before0_7_of m _ (A_eq m c 7) (fun _ => rfl),
    before0_8_of m _ (A_eq m c 8) (fun _ => rfl),
    before0_9_of m _ (A_eq m c 9) (fun _ => rfl)]
  rw [show (dats m 0 c).owesAt () t.succ = (dats m 0 c).owesAt () t.castSucc from rfl]
  rw [show (dats m 0 c).Φ t.succ = Kept m c (t.val + 1) t.isLt from rfl, Kept_succ]
  rw [leaves_after _ 0 t rfl, leaves_after _ 1 t rfl, leaves_after _ 2 t rfl, leaves_after _ 3 t rfl, leaves_after _ 4 t rfl, leaves_after _ 5 t rfl, leaves_after _ 6 t rfl, leaves_after _ 7 t rfl, leaves_after _ 8 t rfl, leaves_after _ 9 t rfl]
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  ihave HE := (enter m c t) $$ [HK H10]
  · isplitl [HK]; · iexact HK
    iexact H10
  icases HE with ⟨%s, %hs, H10, HS0, HS1, HS2, Hg⟩
  iapply (run c (grid0.coords t) _ _ _ _ _ _ _ _ _ _ _ _ _ _ _ _ _ _ _ _ _ _ _ _ _ _ _ _ _ _ (ins m c t) s Set.univ _)
  iframe H0 H1 H2 H3 H4 H5 H6 H7 H8 H9 H10 H11 HS0 HS1 HS2
  rw [hs]
  iintro ⟨H0, H1, H2, H3, H4, H5, H6, H7, H8, H9, H10, H11, HS0, HS1, HS2⟩
  isplitl [HS0 HS1 HS2 Hg]
  · isplitl [HS0 HS1 HS2]
    · isplitl [HS0]; · iexact HS0
      isplitl [HS1]; · iexact HS1
      iexact HS2
    iexact Hg
  iframe Ho H0 H1 H2 H3 H4 H5 H6 H7 H8 H9 H10
  iexact H11

/-- The program's body at a point is the kernel's body on the point's buffers. -/
theorem body_row (t : Fin cfg0.N) :
    defs₀ (F := F) .tc cfg0.body (cfg0.bodyArgs t (cfg0.slots t)) = bodyAt0 t := by
  unfold defs₀; rw [Defs.onTc_tc]

/-- The body meets what is said of every point. -/
theorem body_obligation (c : Dev nD) : BodyObligation (dats (F := F) m 0 c) (defs₀ (F := F)) Variants.none () Set.univ unsaid := fun t => by
  rw [bigSep_W0, bigSep_W0, body_row]
  exact triple_restated (sound_body m c t) rfl .rfl fun _ => .rfl

/-- What the launch hands over is what is held before the first point. -/
theorem hin (c : Dev nD) : Pipeline.ΦA spec0 c ⊢ (dats m 0 c).Φ 0 := by
  rw [show (dats m 0 c).Φ 0 = Kept m c 0 (Nat.zero_le _) from rfl, Kept_zero m c 0 _ rfl]
  try exact Idealize.SL.BI.Entails.refl _

/-- What is held after the last point gives back what the launch handed over. -/
theorem hout (c : Dev nD) : (dats m 0 c).Φ (Fin.last cfg0.N) ⊢ Pipeline.ΦA spec0 c := by
  have hl : (Fin.last cfg0.N).val ≠ 0 := by rw [Fin.val_last]; have : cfg0.N = 176 := N_0; omega
  rw [show (dats m 0 c).Φ (Fin.last cfg0.N) = Kept m c (Fin.last cfg0.N).val (Nat.le_of_lt_succ (Fin.last cfg0.N).isLt) from rfl, Kept_pos m c _ _ hl, scratch_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-! ## The program -/

set_option backward.isDefEq.respectTransparency.types false in
/-- The program run from any memory: every array holds what the points wrote, every other buffer what it held, and no
semaphore is left raised. -/
theorem run_main : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program run from any memory: its arguments hold what they held, no semaphore is left raised, and the output
array holds the output blocks of the points that wrote it. -/
theorem result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((cfg0.win 10).arr.view.loc (c.tc : Thread nD τ)) = (dats m 0 c).arrAt 10 cfg0.N)
      ∧ r.2.sem = fun _ => 0) :=
  (θ_run defs _ _).mono (fun _ hr => ⟨fun c => ⟨⟨(Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      (Pipeline.RDat.FramePost.arr_in hr.1 c 4 rfl).trans ((A_eq m c 4).trans (V_main_arg4 m c)),
      (Pipeline.RDat.FramePost.arr_in hr.1 c 5 rfl).trans ((A_eq m c 5).trans (V_main_arg5 m c)),
      ((hr.1 c).2 main_arg6 (Pipeline.mem_restRefs_of main_arg6 (by decide) (by decide))).trans (V_main_arg6 m c),
      (Pipeline.RDat.FramePost.arr_in hr.1 c 7 rfl).trans ((A_eq m c 7).trans (V_main_arg7 m c)),
      ((hr.1 c).2 main_arg8 (Pipeline.mem_restRefs_of main_arg8 (by decide) (by decide))).trans (V_main_arg8 m c),
      (Pipeline.RDat.FramePost.arr_in hr.1 c 9 rfl).trans ((A_eq m c 9).trans (V_main_arg9 m c))⟩,
      ((dats m 0 c).toRForget_arrAt_iff (fgt := unsaid) (w := 10) rfl cfg0.N _).mp ((hr.1 c).1 10)⟩, hr.2⟩) (run_main m ρ)

end Cert.FfnIdeal.Gen

end
-- ==== Proof.Norm.lean ====
module

public import Idealize.ShloMosaic.Lib.Claim
public import Idealize.ShloMosaic.Lib.Pointwise

@[expose] public section

/-! Rows scaled by their root mean square, and the logistic function: the terms of the layers outside the attention. -/

noncomputable section

namespace Cert.Layer

open Idealize.ShloMosaic

/-- The factor that brings a row's root mean square to one. -/
def factor (x : Fin 2048 → EReal) : EReal :=
  Ideal.rsqrt (Ideal.div (∑ k, x k * x k) (Ideal.ofBits .f32 0x45000000#32) + Ideal.ofBits .f32 0x358637BD#32)

/-- A row scaled by that factor and by a gain. -/
def scaled (x g : Fin 2048 → EReal) (k : Fin 2048) : EReal := x k * factor x * g k

/-- The word for one. -/
theorem one : Ideal.ofBits .f32 (0x3F800000#32) = (1 : EReal) := by
  simp [Ideal.ofBits, Ideal.ieee]
  rw [← EReal.coe_mul]
  norm_num

end Cert.Layer
-- ==== Proof.FfnSpec.lean ====
module

public import proofs.«01_k».proof.Proof.Norm

@[expose] public section

/-! The feed-forward layer in plain arithmetic: the residual rows, the scaled rows, the products with the first weights,
the three-row convolution along each sequence, the gate, the product with the last weights. -/

noncomputable section

namespace Cert.Layer

open Idealize.ShloMosaic

/-- The arrays a feed-forward layer works from. -/
structure Feed where
  h : (⟨2, ![8192, 2048]⟩ : Shape).Idx → EReal
  g : (⟨2, ![1, 2048]⟩ : Shape).Idx → EReal
  up : (⟨3, ![2, 2048, 5632]⟩ : Shape).Idx → EReal
  gate : (⟨3, ![2, 2048, 5632]⟩ : Shape).Idx → EReal
  dw : (⟨2, ![3, 5632]⟩ : Shape).Idx → EReal
  b : (⟨2, ![1, 5632]⟩ : Shape).Idx → EReal
  down : (⟨3, ![2, 5632, 2048]⟩ : Shape).Idx → EReal
  a : (⟨2, ![8192, 2048]⟩ : Shape).Idx → EReal
  wo : (⟨2, ![2048, 2048]⟩ : Shape).Idx → EReal
  prev : (⟨3, ![2, 2, 5632]⟩ : Shape).Idx → EReal

namespace Feed

variable (d : Feed)

/-- The residual stream plus the projected attention output. -/
def row (r : Fin 8192) (e : Fin 2048) : EReal := d.h (ix2 r e) + ∑ k, d.a (ix2 r k) * d.wo (ix2 k e)

/-- The scaled rows. -/
def norm (r : Fin 8192) (k : Fin 2048) : EReal := scaled (d.row r) (fun k => d.g (ix2 0 k)) k

/-- The products with the first weights. -/
def mid (r : Fin 8192) (f : Fin 5632) : EReal := ∑ k, d.norm r k * d.up (ix3 1 k f)

/-- The products with the gate's weights. -/
def side (r : Fin 8192) (f : Fin 5632) : EReal := ∑ k, d.norm r k * d.gate (ix3 1 k f)

/-- A sequence's two rows from before, then its products. -/
def full (s : Fin 2) (p : Fin 4098) (f : Fin 5632) : EReal :=
  if h : p.val < 2 then d.prev (ix3 s ⟨p.val, h⟩ f) else d.mid ⟨s.val * 4096 + (p.val - 2), by omega⟩ f

/-- The convolution over a row and the two before it. -/
def conv (r : Fin 8192) (f : Fin 5632) : EReal :=
  d.full ⟨r.val / 4096, by omega⟩ ⟨r.val % 4096, by omega⟩ f * d.dw (ix2 0 f)
    + d.full ⟨r.val / 4096, by omega⟩ ⟨r.val % 4096 + 1, by omega⟩ f * d.dw (ix2 1 f)
    + d.full ⟨r.val / 4096, by omega⟩ ⟨r.val % 4096 + 2, by omega⟩ f * d.dw (ix2 2 f)
    + d.b (ix2 0 f)

/-- The gated activation. -/
def act (r : Fin 8192) (f : Fin 5632) : EReal := d.conv r f * Ideal.logistic (d.conv r f) * d.side r f

/-- The layer's result. -/
def out (r : Fin 8192) (e : Fin 2048) : EReal := d.row r e + ∑ f, d.act r f * d.down (ix3 1 f e)

end Feed

end Cert.Layer
-- ==== Proof.FfnBody.lean ====
module

public import proofs.«01_k».proof.Proof.FfnFrame
public import proofs.«01_k».proof.Proof.FfnSpec
public import Idealize.ShloMosaic.Lib.Pointwise
public import Idealize.ShloMosaic.Lib.Pipeline.ValueKit
public import Idealize.ShloMosaic.Lib.Tactic.CleanTypes

@[expose] public section

set_option maxRecDepth 16384

/-! One run of the feed-forward body, at an element of what it leaves. -/

noncomputable section

namespace Cert.FfnIdeal.Feed

open Idealize.ShloMosaic Idealize.SL.Sem Cert.FfnIdeal Cert.FfnIdeal.Gen Cert.Layer
open Idealize.ShloMosaic.TcCoe

/-! ## The stored terms -/

/-- A residual row the body starts its output block with. -/
theorem row_apply (h : Vec Ideal S512x2048 .f32) (a : Vec Ideal S512x2048 .bf16) (wo : Vec Ideal S2048x2048 .bf16) (r : Fin 512) (e : Fin 2048) :
    (k0_pay3 h a wo (ix2 r e) : EReal) = h (ix2 r e) + ∑ k : Fin 2048, (a (ix2 r k) : EReal) * wo (ix2 k e) := by
  pointwise [k0_pay3]

/-- A scaled row the body keeps. -/
theorem norm_apply (h : Vec Ideal S512x2048 .f32) (a : Vec Ideal S512x2048 .bf16) (wo : Vec Ideal S2048x2048 .bf16) (g : Vec Ideal S1x2048 .f32) (r : Fin 512) (k : Fin 2048) :
    (k0_pay4 h a wo g (ix2 r k) : EReal) = scaled (fun e => k0_pay3 h a wo (ix2 r e)) (fun k => g (ix2 0 k)) k := by
  pointwise [k0_pay4]
  rfl

/-- A product of the scaled rows with the first weights. -/
theorem mid_apply (xn : Vec Ideal S512x2048 .bf16) (up : Vec Ideal S1x2048x512 .bf16) (r : Fin 512) (f : Fin 512) :
    (k0_pay6 xn up (ix2 r f) : EReal) = ∑ k : Fin 2048, (xn (ix2 r k) : EReal) * up (ix3 0 k f) := by
  pointwise [k0_pay6]

/-- The same product, as it is laid. -/
theorem laid_apply (xn : Vec Ideal S512x2048 .bf16) (up : Vec Ideal S1x2048x512 .bf16) (r : Fin 512) (f : Fin 512) :
    (k0_pay7 xn up (ix2 r f) : EReal) = ∑ k : Fin 2048, (xn (ix2 r k) : EReal) * up (ix3 0 k f) := by
  pointwise [k0_pay7, mid_apply]

/-- The rows kept. -/
theorem tail_apply (v : Vec Ideal S2x512 .f32) (q : Fin 2) (f : Fin 512) : (k0_pay1 v (ix3 0 q f) : EReal) = v (ix2 q f) := by
  pointwise [k0_pay1]

/-- The two rows before a tile: of the sequence at its first tile, else those kept. -/
theorem two_apply (i : grid0.Coords) (p v : Vec Ideal S1x2x512 .f32) (q : Fin 2) (f : Fin 512) :
    (k0_pay8 i p v (ix2 q f) : EReal) = if (i 0).val % 8 = 0 then p (ix3 0 q f) else v (ix3 0 q f) := by
  pointwise [k0_pay8]
  generalize p (ix3 0 q f) = A
  generalize v (ix3 0 q f) = B
  generalize i 0 = n
  change Fin 16 at n
  fin_cases n <;> rfl

/-- The output block after a column block. -/
theorem out_apply (xn : Vec Ideal S512x2048 .bf16) (u u1 u2 : Vec Ideal S512x512 .f32) (w0 w1 w2 b : Vec Ideal S1x512 .f32) (gate : Vec Ideal S1x2048x512 .bf16)
    (o : Vec Ideal S512x2048 .f32) (down : Vec Ideal S1x512x2048 .bf16) (cv : Fin 512 → Fin 512 → EReal)
    (hcv : ∀ r f, cv r f = u2 (ix2 r f) * w0 (ix2 0 f) + u1 (ix2 r f) * w1 (ix2 0 f) + u (ix2 r f) * w2 (ix2 0 f) + b (ix2 0 f)) (r : Fin 512) (e : Fin 2048) :
    (k0_pay9 xn u u1 u2 w0 w1 w2 b gate o down (ix2 r e) : EReal)
      = o (ix2 r e) + ∑ f : Fin 512, (cv r f * Ideal.logistic (cv r f) * ∑ k : Fin 2048, (xn (ix2 r k) : EReal) * gate (ix3 0 k f)) * (down (ix3 0 f e) : EReal) := by
  pointwise [k0_pay9]
  simp only [hcv, mul_comm]

/-! ## Boxes at an element -/

/-- A window of a matrix, at an element. -/
theorem window2_apply {α : Type} {n m n' m' : ℕ} (x : Shape.Idx ⟨2, ![n, m]⟩ → α) (o p : ℕ)
    (inb : ∀ a, (![o, p] : Fin 2 → ℕ) a + (![n', m'] : Fin 2 → ℕ) a ≤ (⟨2, ![n, m]⟩ : Shape).size a)
    (r : Fin n') (e : Fin m') (r' : Fin n) (e' : Fin m) (hr : r'.val = o + r.val) (he : e'.val = p + e.val) :
    VecWindow.window (s := ⟨2, ![n, m]⟩) x ![o, p] ![n', m'] inb (ix2 r e) = x (ix2 r' e') := by
  refine congrArg x (funext fun a => Fin.ext ?_)
  fin_cases a
  · show o + 1 * r.val = r'.val; omega
  · show p + 1 * e.val = e'.val; omega

/-- A slab of the kept rows, at an element. -/
theorem slab_apply (x : Vec Ideal S11x2x512 .f32) (i : grid0.Coords) (q : Fin 2) (f : Fin 512) :
    VecWindow.window x (k0_off1 i) S1x2x512.size (k0_off1_inb i) (ix3 0 q f) = x (ix3 (i 1) q f) := by
  refine congrArg x (funext fun a => Fin.ext ?_)
  have h : k0_off1 i = ![(i 1).val, 0, 0] := k0_off1_eq i
  have h0 : k0_off1 i 0 = (i 1).val := congrFun h 0
  have h1 : k0_off1 i 1 = 0 := congrFun h 1
  have h2 : k0_off1 i 2 = 0 := congrFun h 2
  fin_cases a
  · show k0_off1 i 0 + 1 * 0 = (i 1).val; omega
  · show k0_off1 i 1 + 1 * q.val = q.val; omega
  · show k0_off1 i 2 + 1 * f.val = f.val; omega

/-- The kept rows with a slab put over them, at an element. -/
theorem put_slab (x : Vec Ideal S11x2x512 .f32) (w : Vec Ideal S1x2x512 .f32) (i : grid0.Coords) (j : Fin 11) (q : Fin 2) (f : Fin 512) :
    (VecWindow.put x (k0_off1 i) S1x2x512.size w (ix3 j q f) : EReal) = if j.val = (i 1).val then w (ix3 0 q f) else x (ix3 j q f) := by
  have h : k0_off1 i = ![(i 1).val, 0, 0] := k0_off1_eq i
  unfold VecWindow.put
  rw [h]
  by_cases hj : j.val = (i 1).val
  · rw [if_pos hj, dif_pos]
    · refine congrArg w (funext fun a => Fin.ext ?_)
      fin_cases a
      · show j.val - (i 1).val = 0; omega
      · show q.val - 0 = q.val; omega
      · show f.val - 0 = f.val; omega
    · intro a
      fin_cases a
      · show (i 1).val ≤ j.val ∧ j.val < (i 1).val + 1; omega
      · show 0 ≤ q.val ∧ q.val < 0 + 2; omega
      · show 0 ≤ f.val ∧ f.val < 0 + 512; omega
  · rw [if_neg hj, dif_neg]
    intro ha
    have : (i 1).val ≤ j.val ∧ j.val < (i 1).val + 1 := ha 0
    omega

/-- The row buffer at the two rows before the tile. -/
theorem laid_two (i : grid0.Coords) (x : Ins Ideal) (s : St Ideal) (q : Fin 2) (f : Fin 512) (p : Fin 520) (hp : p.val = 6 + q.val) :
    (laid blank i x s (ix2 p f) : EReal) = if (i 0).val % 8 = 0 then x.prev (ix3 0 q f) else s.carry (ix3 (i 1) q f) := by
  unfold laid
  unfold VecWindow.put
  rw [dif_pos]
  · refine Eq.trans ?_ (Eq.trans (two_apply i x.prev (VecWindow.window s.carry (k0_off1 i) S1x2x512.size (k0_off1_inb i)) q f) ?_)
    · refine congrArg (two i x s) (funext fun a => Fin.ext ?_)
      fin_cases a
      · show p.val - 6 = q.val; omega
      · show f.val - 0 = f.val; omega
    · rw [slab_apply]
  · intro a
    fin_cases a
    · show 6 ≤ p.val ∧ p.val < 6 + 2; omega
    · show 0 ≤ f.val ∧ f.val < 0 + 512; omega

/-- The row buffer at the tile's rows. -/
theorem laid_rows (i : grid0.Coords) (x : Ins Ideal) (s : St Ideal) (r : Fin 512) (f : Fin 512) (p : Fin 520) (hp : p.val = 8 + r.val) :
    (laid blank i x s (ix2 p f) : EReal) = ∑ k : Fin 2048, (s.xn (ix2 r k) : EReal) * x.up (ix3 0 k f) := by
  unfold laid
  unfold VecWindow.put
  rw [dif_neg, dif_pos]
  · refine Eq.trans ?_ (laid_apply s.xn x.up r f)
    refine congrArg (k0_pay7 s.xn x.up) (funext fun a => Fin.ext ?_)
    fin_cases a
    · show p.val - 8 = r.val; omega
    · show f.val - 0 = f.val; omega
  · intro a
    fin_cases a
    · show 8 ≤ p.val ∧ p.val < 8 + 512; omega
    · show 0 ≤ f.val ∧ f.val < 0 + 512; omega
  · intro ha
    have : 6 ≤ p.val ∧ p.val < 6 + 2 := ha 0
    omega

end Cert.FfnIdeal.Feed
-- ==== Proof.FfnRefer.lean ====
module

public import proofs.«01_k».proof.Defs
public import proofs.«01_k».proof.Proof.FfnSpec
public import proofs.«01_k».proof.Proof.Gen.FfnRefIdeal.Run
public import Idealize.ShloMosaic.Lib.Quiescent
public import Idealize.ShloMosaic.Lib.Pointwise

@[expose] public section

set_option maxRecDepth 16384

/-! The feed-forward layer's reference, at an element. -/

noncomputable section

namespace Cert.FfnRefIdeal.Feed

open Idealize.ShloMosaic Idealize.SL.Sem Cert.FfnRefIdeal Cert.FfnRefIdeal.Gen Cert.Layer
open Idealize.ShloMosaic.TcCoe

variable (h : FVec Ideal S8192x2048 .f32) (g : FVec Ideal S1x2048 .f32) (up : FVec Ideal S2x2048x5632 .f32) (gate : FVec Ideal S2x2048x5632 .f32)
  (dw : FVec Ideal S3x5632 .f32) (b : FVec Ideal S1x5632 .f32) (down : FVec Ideal S2x5632x2048 .f32) (a : FVec Ideal S8192x2048 .bf16)
  (wo : FVec Ideal S2048x2048 .f32) (prev : FVec Ideal S2x2x5632 .f32)

/-- The reference's residual rows. -/
def rows : FVec Ideal S8192x2048 .f32 :=
  addf h (Host.dotGeneral dot_S8192x2048_S2048x2048_S8192x2048_1_0_0_1_n_n none (extf .f32 a bitsLt_bf16_f32) wo)

/-- The reference's scaled rows. -/
def norms : FVec Ideal S8192x2048 .f32 :=
  mulf (mulf (rows h a wo) (broadcastInDim S8192x2048 ![0, 1] bcast_S8192x1_S8192x2048_0_1 (Host.rsqrt (addf (Host.divf (broadcastInDim S8192x1 ![0] bcast_S8192_S8192x1_0
      (Host.reduceAdd (mulf (rows h a wo) (rows h a wo)) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 g)

/-- The reference's products of the scaled rows with layer one's part of some weights. -/
def times (w : FVec Ideal S2x2048x5632 .f32) : FVec Ideal S8192x5632 .f32 :=
  Host.dotGeneral dot_S8192x2048_S2048x5632_S8192x5632_1_0_0_1_n_n none (norms h g a wo)
    (shapeCast _ (extractStridedSlice S1x2048x5632 ![1, 0, 0] w slices_S2x2048x5632_S1x2048x5632_1_0_0) shapeCasts_S1x2048x5632_S2048x5632)

/-- The reference's rows along each sequence, the two from before first. -/
def fulls : FVec Ideal S2x4098x5632 .f32 :=
  concatenate S2x4098x5632 1 [⟨S2x2x5632, prev⟩, ⟨S2x4096x5632, (shapeCast _ (times h g a wo up) shapeCasts_S8192x5632_S2x4096x5632)⟩] concatenates_S2x2x5632_S2x4096x5632_S2x4098x5632_d1

/-- The reference's convolution, from the rows along each sequence. -/
def convs (v : FVec Ideal S2x4098x5632 .f32) : FVec Ideal S8192x5632 .f32 :=
  shapeCast _ (addf (addf (addf
      (mulf (extractStridedSlice S2x4096x5632 ![0, 0, 0] v slices_S2x4098x5632_S2x4096x5632_0_0_0) (broadcastInDim S2x4096x5632 ![0, 1, 2] bcast_S1x1x5632_S2x4096x5632_0_1_2 (broadcastInDim S1x1x5632 ![2] bcast_S5632_S1x1x5632_2 (shapeCast _ (extractStridedSlice S1x5632 ![0, 0] dw slices_S3x5632_S1x5632_0_0) shapeCasts_S1x5632_S5632))))
      (mulf (extractStridedSlice S2x4096x5632 ![0, 1, 0] v slices_S2x4098x5632_S2x4096x5632_0_1_0) (broadcastInDim S2x4096x5632 ![0, 1, 2] bcast_S1x1x5632_S2x4096x5632_0_1_2 (broadcastInDim S1x1x5632 ![2] bcast_S5632_S1x1x5632_2 (shapeCast _ (extractStridedSlice S1x5632 ![1, 0] dw slices_S3x5632_S1x5632_1_0) shapeCasts_S1x5632_S5632)))))
      (mulf (extractStridedSlice S2x4096x5632 ![0, 2, 0] v slices_S2x4098x5632_S2x4096x5632_0_2_0) (broadcastInDim S2x4096x5632 ![0, 1, 2] bcast_S1x1x5632_S2x4096x5632_0_1_2 (broadcastInDim S1x1x5632 ![2] bcast_S5632_S1x1x5632_2 (shapeCast _ (extractStridedSlice S1x5632 ![2, 0] dw slices_S3x5632_S1x5632_2_0) shapeCasts_S1x5632_S5632)))))
      (broadcastInDim S2x4096x5632 ![0, 1, 2] bcast_S1x1x5632_S2x4096x5632_0_1_2 (broadcastInDim S1x1x5632 ![2] bcast_S5632_S1x1x5632_2 (shapeCast _ b shapeCasts_S1x5632_S5632)))) shapeCasts_S2x4096x5632_S8192x5632

/-- The reference's gated activation, from the convolution and the gate. -/
def acts (v s : FVec Ideal S8192x5632 .f32) : FVec Ideal S8192x5632 .f32 :=
  mulf (mulf v (Host.divf (broadcastInDim S8192x5632 ![] bcast_S_S8192x5632 (constant S_ .f32 0x3F800000#32))
    (addf (broadcastInDim S8192x5632 ![] bcast_S_S8192x5632 (constant S_ .f32 0x3F800000#32)) (Host.exp (Host.negf v))))) s

/-- The reference's result. -/
def result : FVec Ideal S8192x2048 .f32 :=
  addf (rows h a wo) (Host.dotGeneral dot_S8192x5632_S5632x2048_S8192x2048_1_0_0_1_n_n none
    (acts (convs dw b (fulls h g up a wo prev)) (times h g a wo gate))
    (shapeCast _ (extractStridedSlice S1x5632x2048 ![1, 0, 0] down slices_S2x5632x2048_S1x5632x2048_1_0_0) shapeCasts_S1x5632x2048_S5632x2048))

/-- The arrays as the plain layer takes them. -/
abbrev feed : Cert.Layer.Feed := ⟨h, g, up, gate, dw, b, down, a, wo, prev⟩

/-- A residual row. -/
theorem rows_apply (r : Fin 8192) (e : Fin 2048) : (rows h a wo (ix2 r e) : EReal) = (feed h g up gate dw b down a wo prev).row r e := by
  pointwise [rows]
  rfl

/-- A scaled row. -/
theorem norms_apply (r : Fin 8192) (k : Fin 2048) : (norms h g a wo (ix2 r k) : EReal) = (feed h g up gate dw b down a wo prev).norm r k := by
  pointwise [norms, rows_apply h g up gate dw b down a wo prev]
  rfl

/-- A product of the scaled rows with some weights. -/
theorem times_apply (w : FVec Ideal S2x2048x5632 .f32) (r : Fin 8192) (f : Fin 5632) :
    (times h g a wo w (ix2 r f) : EReal) = ∑ k, (feed h g up gate dw b down a wo prev).norm r k * w (ix3 1 k f) := by
  pointwise [times, norms_apply h g up gate dw b down a wo prev]

/-- A row along a sequence. -/
theorem fulls_apply (s : Fin 2) (p : Fin 4098) (f : Fin 5632) :
    (fulls h g up a wo prev (ix3 s p f) : EReal) = (feed h g up gate dw b down a wo prev).full s p f := by
  unfold Cert.Layer.Feed.full
  pointwise [fulls, times_apply h g up gate dw b down a wo prev]
  rfl

/-- The convolution. -/
theorem convs_apply (r : Fin 8192) (f : Fin 5632) :
    (convs dw b (fulls h g up a wo prev) (ix2 r f) : EReal) = (feed h g up gate dw b down a wo prev).conv r f := by
  pointwise [convs, fulls_apply h g up gate dw b down a wo prev]
  simp only [Nat.add_comm 1, Nat.add_comm 2]
  rfl

/-- The gated activation. -/
theorem acts_apply (v s : FVec Ideal S8192x5632 .f32) (r : Fin 8192) (f : Fin 5632) :
    (acts v s (ix2 r f) : EReal) = v (ix2 r f) * Ideal.logistic (v (ix2 r f)) * s (ix2 r f) := by
  pointwise [acts]
  congr 1

/-- The reference's result, at an element. -/
theorem result_apply (r : Fin 8192) (e : Fin 2048) :
    (result h g up gate dw b down a wo prev (ix2 r e) : EReal) = (feed h g up gate dw b down a wo prev).out r e := by
  pointwise [result, rows_apply h g up gate dw b down a wo prev, acts_apply, convs_apply h g up gate dw b down a wo prev, times_apply h g up gate dw b down a wo prev]
  rfl

/-- What the reference leaves is that result. -/
theorem res_eq (m : (ℓ : Loc nD τ sig) → Buf (Elt Ideal) ℓ) (c : Dev nD) : Cert.FfnRefIdeal.Value.res_main_v53 m c
    = result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Cert.FfnRefIdeal.Feed
-- ==== Proof.Ffn.lean ====
module

public import proofs.«01_k».proof.Proof.FfnBody
public import proofs.«01_k».proof.Proof.FfnRefer

@[expose] public section

set_option maxRecDepth 16384

/-! The feed-forward layer: what is held after each point, the array, the claim. -/

noncomputable section

namespace Cert.Layer.Feed

open Idealize.ShloMosaic

variable (d : Feed)

/-- One term of a result's sum over the middle columns, nothing past the last. -/
def term (r : Fin 8192) (e : Fin 2048) (x : ℕ) : EReal := if h : x < 5632 then d.act r ⟨x, h⟩ * d.down (ix3 1 ⟨x, h⟩ e) else 0

/-- The terms of all columns make the result. -/
theorem out_eq (r : Fin 8192) (e : Fin 2048) : d.out r e = d.row r e + ∑ x ∈ Finset.range 5632, d.term r e x := by
  rw [Finset.sum_range]
  unfold out term
  simp only [Fin.is_lt, dif_pos]

/-- The terms up to the end of a column block. -/
theorem term_add (r : Fin 8192) (e : Fin 2048) (j : ℕ) (hj : j < 11) :
    ∑ x ∈ Finset.range ((j + 1) * 512), d.term r e x
      = ∑ x ∈ Finset.range (j * 512), d.term r e x + ∑ f : Fin 512, d.act r ⟨j * 512 + f.val, by omega⟩ * d.down (ix3 1 ⟨j * 512 + f.val, by omega⟩ e) := by
  rw [Nat.add_mul, Nat.one_mul, Finset.sum_range_add, Finset.sum_range (n := 512)]
  refine congrArg _ (Finset.sum_congr rfl fun f _ => ?_)
  unfold term
  rw [dif_pos]

end Cert.Layer.Feed

namespace Cert.FfnIdeal.Feed

open Idealize.ShloMosaic Idealize.SL.Sem Cert.FfnIdeal Cert.FfnIdeal.Gen Cert.Layer
open Idealize.ShloMosaic.TcCoe

variable (m : (ℓ : Loc nD τ sig) → Buf (Elt Ideal) ℓ) (c : Dev nD)

/-- The arrays the kernel is called on, as the plain layer takes them. -/
abbrev feed : Cert.Layer.Feed :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9)⟩

/-! ## The blocks at a point -/

/-- The grid has 176 points. -/
theorem points (t : Fin cfg0.N) : t.val < 176 := Nat.lt_of_lt_of_eq t.isLt N_0

/-- The row tile of a point. -/
theorem tile_eq (t : Fin cfg0.N) : (grid0.coords t 0).val = t.val / 11 := by
  have ht := points t
  have e : (grid0.coords t 0).val = t.val / 11 % 16 := Pipeline.Grid.coords_val t 0 (by decide) rfl
  omega

/-- The column block of a point. -/
theorem col_eq (t : Fin cfg0.N) : (grid0.coords t 1).val = t.val % 11 := by
  have e : (grid0.coords t 1).val = t.val / 1 % 11 := Pipeline.Grid.coords_val t 1 (by decide) rfl
  omega

/-- The block of the residual stream at a point. -/
theorem index_h : ∀ t : Fin cfg0.N, win0_0.index t = ![t.val / 11, 0] := (by decide +kernel : ∀ t : Fin grid0.N, win0_0.index t = ![t.val / 11, 0])

/-- The gain's block at a point. -/
theorem index_g : ∀ t : Fin cfg0.N, win0_1.index t = ![0, 0] := (by decide +kernel : ∀ t : Fin grid0.N, win0_1.index t = ![0, 0])

/-- The block of the first weights at a point. -/
theorem index_up : ∀ t : Fin cfg0.N, win0_2.index t = ![1, 0, t.val % 11] := (by decide +kernel : ∀ t : Fin grid0.N, win0_2.index t = ![1, 0, t.val % 11])

/-- The block of the gate's weights at a point. -/
theorem index_gate : ∀ t : Fin cfg0.N, win0_3.index t = ![1, 0, t.val % 11] := (by decide +kernel : ∀ t : Fin grid0.N, win0_3.index t = ![1, 0, t.val % 11])

/-- The block of the convolution's weights at a point. -/
theorem index_dw : ∀ t : Fin cfg0.N, win0_4.index t = ![0, t.val % 11] := (by decide +kernel : ∀ t : Fin grid0.N, win0_4.index t = ![0, t.val % 11])

/-- The bias's block at a point. -/
theorem index_b : ∀ t : Fin cfg0.N, win0_5.index t = ![0, t.val % 11] := (by decide +kernel : ∀ t : Fin grid0.N, win0_5.index t = ![0, t.val % 11])

/-- The block of the last weights at a point. -/
theorem index_down : ∀ t : Fin cfg0.N, win0_6.index t = ![1, t.val % 11, 0] := (by decide +kernel : ∀ t : Fin grid0.N, win0_6.index t = ![1, t.val % 11, 0])

/-- The block of the attention output at a point. -/
theorem index_a : ∀ t : Fin cfg0.N, win0_7.index t = ![t.val / 11, 0] := (by decide +kernel : ∀ t : Fin grid0.N, win0_7.index t = ![t.val / 11, 0])

/-- The block of the output weights at a point. -/
theorem index_wo : ∀ t : Fin cfg0.N, win0_8.index t = ![0, 0] := (by decide +kernel : ∀ t : Fin grid0.N, win0_8.index t = ![0, 0])

/-- The block of the rows before a sequence at a point. -/
theorem index_prev : ∀ t : Fin cfg0.N, win0_9.index t = ![t.val / 88, 0, t.val % 11] := (by decide +kernel : ∀ t : Fin grid0.N, win0_9.index t = ![t.val / 88, 0, t.val % 11])

/-- The output block at a point. -/
theorem index_o : ∀ t : Fin cfg0.N, win0_10.index t = ![t.val / 11, 0] := (by decide +kernel : ∀ t : Fin grid0.N, win0_10.index t = ![t.val / 11, 0])

/-- The residual stream's block, at an element. -/
theorem h_block (t : Fin cfg0.N) (r : Fin 512) (e : Fin 2048) (b : Fin 8192) (hb : b.val = t.val / 11 * 512 + r.val) :
    (iblk m c 0 t (ix2 r e) : EReal) = (feed m c).h (ix2 b e) := by
  show _ = m ((c.tc : Thread nD τ).loc main_arg0) (ix2 b e)
  rw [← V_main_arg0 m c]
  blk_simp [iblk]
  refine congrArg (V m c main_arg0) ?_
  funext a
  apply Fin.ext
  fin_cases a <;> blk_simp [index_h] <;> simp <;> omega

/-- The gain's block, at an element. -/
theorem g_block (t : Fin cfg0.N) (e : Fin 2048) : (iblk m c 1 t (ix2 0 e) : EReal) = (feed m c).g (ix2 0 e) := by
  show _ = m ((c.tc : Thread nD τ).loc main_arg1) (ix2 0 e)
  rw [← V_main_arg1 m c]
  blk_simp [iblk]
  refine congrArg (V m c main_arg1) ?_
  funext a
  apply Fin.ext
  fin_cases a <;> blk_simp [index_g] <;> simp

/-- The first weights the call is launched with. -/
theorem up_cast (y : S2x2048x5632.Idx) : (V m c main_v0 y : EReal) = (feed m c).up y := by
  simp only [V, hostOps0, List.flatten_cons, List.flatten_nil, List.append_nil, List.cons_append, List.nil_append]
  after_results_simp
  rfl

/-- The gate's weights the call is launched with. -/
theorem gate_cast (y : S2x2048x5632.Idx) : (V m c main_v1 y : EReal) = (feed m c).gate y := by
  simp only [V, hostOps0, List.flatten_cons, List.flatten_nil, List.append_nil, List.cons_append, List.nil_append]
  after_results_simp
  rfl

/-- The last weights the call is launched with. -/
theorem down_cast (y : S2x5632x2048.Idx) : (V m c main_v2 y : EReal) = (feed m c).down y := by
  simp only [V, hostOps0, List.flatten_cons, List.flatten_nil, List.append_nil, List.cons_append, List.nil_append]
  after_results_simp
  rfl

/-- The output weights the call is launched with. -/
theorem wo_cast (y : S2048x2048.Idx) : (V m c main_v3 y : EReal) = (feed m c).wo y := by
  simp only [V, hostOps0, List.flatten_cons, List.flatten_nil, List.append_nil, List.cons_append, List.nil_append]
  after_results_simp
  rfl

/-- A block of the first weights, at an element. -/
theorem up_block (t : Fin cfg0.N) (k : Fin 2048) (f : Fin 512) (F : Fin 5632) (hF : F.val = t.val % 11 * 512 + f.val) :
    (iblk m c 2 t (ix3 0 k f) : EReal) = (feed m c).up (ix3 1 k F) := by
  rw [← up_cast m c]
  blk_simp [iblk]
  refine congrArg (V m c main_v0) ?_
  funext a
  apply Fin.ext
  fin_cases a <;> blk_simp [index_up] <;> simp <;> omega

/-- A block of the gate's weights, at an element. -/
theorem gate_block (t : Fin cfg0.N) (k : Fin 2048) (f : Fin 512) (F : Fin 5632) (hF : F.val = t.val % 11 * 512 + f.val) :
    (iblk m c 3 t (ix3 0 k f) : EReal) = (feed m c).gate (ix3 1 k F) := by
  rw [← gate_cast m c]
  blk_simp [iblk]
  refine congrArg (V m c main_v1) ?_
  funext a
  apply Fin.ext
  fin_cases a <;> blk_simp [index_gate] <;> simp <;> omega

/-- A block of the convolution's weights, at an element. -/
theorem dw_block (t : Fin cfg0.N) (k : Fin 3) (f : Fin 512) (F : Fin 5632) (hF : F.val = t.val % 11 * 512 + f.val) :
    (iblk m c 4 t (ix2 k f) : EReal) = (feed m c).dw (ix2 k F) := by
  show _ = m ((c.tc : Thread nD τ).loc main_arg4) (ix2 k F)
  rw [← V_main_arg4 m c]
  blk_simp [iblk]
  refine congrArg (V m c main_arg4) ?_
  funext a
  apply Fin.ext
  fin_cases a <;> blk_simp [index_dw] <;> simp <;> omega

/-- A block of the bias, at an element. -/
theorem b_block (t : Fin cfg0.N) (f : Fin 512) (F : Fin 5632) (hF : F.val = t.val % 11 * 512 + f.val) :
    (iblk m c 5 t (ix2 0 f) : EReal) = (feed m c).b (ix2 0 F) := by
  show _ = m ((c.tc : Thread nD τ).loc main_arg5) (ix2 0 F)
  rw [← V_main_arg5 m c]
  blk_simp [iblk]
  refine congrArg (V m c main_arg5) ?_
  funext a
  apply Fin.ext
  fin_cases a <;> blk_simp [index_b] <;> simp <;> omega

/-- A block of the last weights, at an element. -/
theorem down_block (t : Fin cfg0.N) (f : Fin 512) (e : Fin 2048) (F : Fin 5632) (hF : F.val = t.val % 11 * 512 + f.val) :
    (iblk m c 6 t (ix3 0 f e) : EReal) = (feed m c).down (ix3 1 F e) := by
  rw [← down_cast m c]
  blk_simp [iblk]
  refine congrArg (V m c main_v2) ?_
  funext a
  apply Fin.ext
  fin_cases a <;> blk_simp [index_down] <;> simp <;> omega

/-- The attention output's block, at an element. -/
theorem a_block (t : Fin cfg0.N) (r : Fin 512) (k : Fin 2048) (b : Fin 8192) (hb : b.val = t.val / 11 * 512 + r.val) :
    (iblk m c 7 t (ix2 r k) : EReal) = (feed m c).a (ix2 b k) := by
  show _ = m ((c.tc : Thread nD τ).loc main_arg7) (ix2 b k)
  rw [← V_main_arg7 m c]
  blk_simp [iblk]
  refine congrArg (V m c main_arg7) ?_
  funext a
  apply Fin.ext
  fin_cases a <;> blk_simp [index_a] <;> simp <;> omega

/-- The output weights' block, at an element. -/
theorem wo_block (t : Fin cfg0.N) (k e : Fin 2048) : (iblk m c 8 t (ix2 k e) : EReal) = (feed m c).wo (ix2 k e) := by
  rw [← wo_cast m c]
  blk_simp [iblk]
  refine congrArg (V m c main_v3) ?_
  funext a
  apply Fin.ext
  fin_cases a <;> blk_simp [index_wo] <;> simp

/-- The block of the rows before a sequence, at an element. -/
theorem prev_block (t : Fin cfg0.N) (q : Fin 2) (f : Fin 512) (s : Fin 2) (hs : s.val = t.val / 88) (F : Fin 5632) (hF : F.val = t.val % 11 * 512 + f.val) :
    (iblk m c 9 t (ix3 0 q f) : EReal) = (feed m c).prev (ix3 s q F) := by
  show _ = m ((c.tc : Thread nD τ).loc main_arg9) (ix3 s q F)
  rw [← V_main_arg9 m c]
  blk_simp [iblk]
  refine congrArg (V m c main_arg9) ?_
  funext a
  apply Fin.ext
  fin_cases a <;> blk_simp [index_prev] <;> simp <;> omega

/-! ## What is held -/

/-- What is held at a point before its column block's product: the tile's scaled rows, the output block's sum over the
column blocks before, and of each column block the last two rows of the tile before. -/
structure Ready (n : ℕ) (s : St Ideal) : Prop where
  xn : ∀ (r : Fin 512) (k : Fin 2048) (b : Fin 8192), b.val = n / 11 * 512 + r.val → (s.xn (ix2 r k) : EReal) = (feed m c).norm b k
  o : ∀ (r : Fin 512) (e : Fin 2048) (b : Fin 8192), b.val = n / 11 * 512 + r.val →
    (s.o (ix2 r e) : EReal) = (feed m c).row b e + ∑ x ∈ Finset.range (n % 11 * 512), (feed m c).term b e x
  carry : ∀ (T : ℕ) (j : Fin 11) (q : Fin 2) (f : Fin 512) (b : Fin 8192) (F : Fin 5632), T * 11 + j.val < n → n ≤ (T + 1) * 11 + j.val →
    b.val = T * 512 + 510 + q.val → F.val = j.val * 512 + f.val → (s.carry (ix3 j q f) : EReal) = (feed m c).mid b F

/-- What is held after a point. -/
structure Done (n : ℕ) (s : St Ideal) : Prop where
  xn : ∀ (r : Fin 512) (k : Fin 2048) (b : Fin 8192), b.val = n / 11 * 512 + r.val → (s.xn (ix2 r k) : EReal) = (feed m c).norm b k
  o : ∀ (r : Fin 512) (e : Fin 2048) (b : Fin 8192), b.val = n / 11 * 512 + r.val →
    (s.o (ix2 r e) : EReal) = (feed m c).row b e + ∑ x ∈ Finset.range ((n % 11 + 1) * 512), (feed m c).term b e x
  carry : ∀ (T : ℕ) (j : Fin 11) (q : Fin 2) (f : Fin 512) (b : Fin 8192) (F : Fin 5632), T * 11 + j.val ≤ n → n < (T + 1) * 11 + j.val →
    b.val = T * 512 + 510 + q.val → F.val = j.val * 512 + f.val → (s.carry (ix3 j q f) : EReal) = (feed m c).mid b F

/-- The residual rows a tile starts with. -/
theorem started_row (t : Fin cfg0.N) (r : Fin 512) (e : Fin 2048) (b : Fin 8192) (hb : b.val = t.val / 11 * 512 + r.val) :
    (k0_pay3 (iblk m c 0 t) (iblk m c 7 t) (iblk m c 8 t) (ix2 r e) : EReal) = (feed m c).row b e := by
  rw [row_apply]
  simp only [h_block m c t r _ b hb, a_block m c t r _ b hb, wo_block]
  rfl

/-- The scaled rows a tile starts with. -/
theorem started_norm (t : Fin cfg0.N) (r : Fin 512) (k : Fin 2048) (b : Fin 8192) (hb : b.val = t.val / 11 * 512 + r.val) :
    (k0_pay4 (iblk m c 0 t) (iblk m c 7 t) (iblk m c 8 t) (iblk m c 1 t) (ix2 r k) : EReal) = (feed m c).norm b k := by
  rw [norm_apply]
  simp only [started_row m c t r _ b hb, g_block]
  rfl

/-- A tile's start makes ready for its first column block. -/
theorem ready_first (t : Fin cfg0.N) (h : t.val % 11 = 0) (v : Vec Ideal S11x2x512 .f32)
    (hv : ∀ (T : ℕ) (j : Fin 11) (q : Fin 2) (f : Fin 512) (b : Fin 8192) (F : Fin 5632), T * 11 + j.val < t.val → t.val ≤ (T + 1) * 11 + j.val →
      b.val = T * 512 + 510 + q.val → F.val = j.val * 512 + f.val → (v (ix3 j q f) : EReal) = (feed m c).mid b F) :
    Ready m c t.val ⟨k0_pay3 (iblk m c 0 t) (iblk m c 7 t) (iblk m c 8 t), k0_pay4 (iblk m c 0 t) (iblk m c 7 t) (iblk m c 8 t) (iblk m c 1 t), v⟩ where
  xn r k b hb := started_norm m c t r k b hb
  o r e b hb := by
    dsimp only
    rw [started_row m c t r e b hb, h]
    simp
  carry := hv

/-- After the point before, a point's start makes ready for its column block. -/
theorem ready_next (t : Fin cfg0.N) (hz : t.val ≠ 0) (s : St Ideal) (hs : Done m c (t.val - 1) s) :
    Ready m c t.val (start (grid0.coords t) (ins m c t) s) := by
  have hc : ¬ Clear (grid0.coords t) ∨ ¬ First (grid0.coords t) := by
    by_contra hn
    push_neg at hn
    have h0 := (first_iff t).mp hn.2
    have h1 := (clear_iff t).mp hn.1
    omega
  have hcarry : ∀ (T : ℕ) (j : Fin 11) (q : Fin 2) (f : Fin 512) (b : Fin 8192) (F : Fin 5632), T * 11 + j.val < t.val → t.val ≤ (T + 1) * 11 + j.val →
      b.val = T * 512 + 510 + q.val → F.val = j.val * 512 + f.val → (s.carry (ix3 j q f) : EReal) = (feed m c).mid b F :=
    fun T j q f b F h1 h2 hb hF => hs.carry T j q f b F (by omega) (by omega) hb hF
  by_cases h : t.val % 11 = 0
  · have h0 := (first_iff t).mpr h
    rw [start_keep h0 (hc.resolve_right (not_not.mpr h0))]
    exact ready_first m c t h s.carry hcarry
  · have h0 : ¬ First (grid0.coords t) := fun h0 => h ((first_iff t).mp h0)
    rw [start_skip h0]
    have e1 : (t.val - 1) / 11 = t.val / 11 := by omega
    have e2 : (t.val - 1) % 11 + 1 = t.val % 11 := by omega
    refine ⟨fun r k b hb => hs.xn r k b (by omega), fun r e b hb => ?_, hcarry⟩
    rw [hs.o r e b (by omega), e2]

/-- A product of the kept rows is the layer's. -/
theorem mid_eq (t : Fin cfg0.N) (s : St Ideal) (hs : Ready m c t.val s) (r : Fin 512) (f : Fin 512) (b : Fin 8192) (hb : b.val = t.val / 11 * 512 + r.val)
    (F : Fin 5632) (hF : F.val = t.val % 11 * 512 + f.val) :
    (∑ k : Fin 2048, (s.xn (ix2 r k) : EReal) * (ins m c t).up (ix3 0 k f)) = (feed m c).mid b F := by
  show (∑ k : Fin 2048, (s.xn (ix2 r k) : EReal) * iblk m c 2 t (ix3 0 k f)) = _
  simp only [hs.xn r _ b hb, up_block m c t _ f F hF]
  rfl

/-- A product of the kept rows with the gate's weights is the layer's. -/
theorem side_eq (t : Fin cfg0.N) (s : St Ideal) (hs : Ready m c t.val s) (r : Fin 512) (f : Fin 512) (b : Fin 8192) (hb : b.val = t.val / 11 * 512 + r.val)
    (F : Fin 5632) (hF : F.val = t.val % 11 * 512 + f.val) :
    (∑ k : Fin 2048, (s.xn (ix2 r k) : EReal) * (ins m c t).gate (ix3 0 k f)) = (feed m c).side b F := by
  show (∑ k : Fin 2048, (s.xn (ix2 r k) : EReal) * iblk m c 3 t (ix3 0 k f)) = _
  simp only [hs.xn r _ b hb, gate_block m c t _ f F hF]
  rfl

/-- The row buffer holds the sequence's rows from two before the tile on. -/
theorem laid_full (t : Fin cfg0.N) (s : St Ideal) (hs : Ready m c t.val s) (n : ℕ) (hn : n < 514) (p : Fin 520) (hp : p.val = 6 + n) (f : Fin 512) (F : Fin 5632)
    (hF : F.val = t.val % 11 * 512 + f.val) (q : Fin 2) (hq : q.val = t.val / 88) (P : Fin 4098) (hP : P.val = t.val / 11 % 8 * 512 + n) :
    (laid blank (grid0.coords t) (ins m c t) s (ix2 p f) : EReal) = (feed m c).full q P F := by
  have ht := points t
  have hi := tile_eq t
  have hj := col_eq t
  unfold Cert.Layer.Feed.full
  by_cases h2 : n < 2
  · rw [laid_two _ _ _ ⟨n, h2⟩ f p hp, hi]
    by_cases h8 : t.val / 11 % 8 = 0
    · rw [if_pos h8, dif_pos (by omega)]
      refine (prev_block m c t ⟨n, h2⟩ f q hq F hF).trans ?_
      refine congrArg (fun z : Fin 2 => (feed m c).prev (ix3 q z F)) (Fin.ext ?_)
      show n = P.val
      omega
    · rw [if_neg h8, dif_neg (by omega)]
      refine hs.carry (t.val / 11 - 1) (grid0.coords t 1) ⟨n, h2⟩ f _ F ?_ ?_ ?_ ?_
      · rw [hj]; omega
      · rw [hj]; omega
      · show q.val * 4096 + (P.val - 2) = (t.val / 11 - 1) * 512 + 510 + n
        omega
      · rw [hj]; omega
  · rw [laid_rows _ _ _ ⟨n - 2, by omega⟩ f p (by show p.val = 8 + (n - 2); omega), dif_neg (by omega)]
    refine mid_eq m c t s hs _ f _ ?_ F hF
    show q.val * 4096 + (P.val - 2) = t.val / 11 * 512 + (n - 2)
    omega

/-- A point's column block, done. -/
theorem done_rest (t : Fin cfg0.N) (s : St Ideal) (hs : Ready m c t.val s) : Done m c t.val (rest (grid0.coords t) (ins m c t) s) := by
  have ht := points t
  have hj := col_eq t
  refine ⟨hs.xn, fun r e b hb => ?_, fun T j q f b F h1 h2 hb hF => ?_⟩
  · have hcv : ∀ (r' f : Fin 512), (feed m c).conv ⟨t.val / 11 * 512 + r'.val, by omega⟩ ⟨t.val % 11 * 512 + f.val, by omega⟩
        = (VecWindow.window (laid blank (grid0.coords t) (ins m c t) s) ![6, 0] S512x512.size inb_S520x512_S512x512_6_0 (ix2 r' f) : EReal)
            * VecWindow.window (ins m c t).dw ![0, 0] S1x512.size inb_S3x512_S1x512_0_0 (ix2 0 f)
          + VecWindow.window (laid blank (grid0.coords t) (ins m c t) s) ![7, 0] S512x512.size inb_S520x512_S512x512_7_0 (ix2 r' f)
            * VecWindow.window (ins m c t).dw ![1, 0] S1x512.size inb_S3x512_S1x512_1_0 (ix2 0 f)
          + k0_pay6 s.xn (ins m c t).up (ix2 r' f) * VecWindow.window (ins m c t).dw ![2, 0] S1x512.size inb_S3x512_S1x512_2_0 (ix2 0 f)
          + (ins m c t).b (ix2 0 f) := fun r' f => by
      have u2 : (VecWindow.window (laid blank (grid0.coords t) (ins m c t) s) ![6, 0] S512x512.size inb_S520x512_S512x512_6_0 (ix2 r' f) : EReal) = _ :=
        (window2_apply (laid blank (grid0.coords t) (ins m c t) s) 6 0 inb_S520x512_S512x512_6_0 r' f ⟨6 + r'.val, by omega⟩ f rfl (by omega)).trans
          (laid_full m c t s hs r'.val (by omega) _ rfl f ⟨t.val % 11 * 512 + f.val, by omega⟩ rfl
            ⟨(t.val / 11 * 512 + r'.val) / 4096, by omega⟩ (by dsimp only; omega) ⟨(t.val / 11 * 512 + r'.val) % 4096, by omega⟩ (by dsimp only; omega))
      have u1 : (VecWindow.window (laid blank (grid0.coords t) (ins m c t) s) ![7, 0] S512x512.size inb_S520x512_S512x512_7_0 (ix2 r' f) : EReal) = _ :=
        (window2_apply (laid blank (grid0.coords t) (ins m c t) s) 7 0 inb_S520x512_S512x512_7_0 r' f ⟨7 + r'.val, by omega⟩ f rfl (by omega)).trans
          (laid_full m c t s hs (r'.val + 1) (by omega) _ (by dsimp only; omega) f ⟨t.val % 11 * 512 + f.val, by omega⟩ rfl
            ⟨(t.val / 11 * 512 + r'.val) / 4096, by omega⟩ (by dsimp only; omega) ⟨(t.val / 11 * 512 + r'.val) % 4096 + 1, by omega⟩ (by dsimp only; omega))
      have u0 : (k0_pay6 s.xn (ins m c t).up (ix2 r' f) : EReal) = _ :=
        ((mid_apply s.xn (ins m c t).up r' f).trans (laid_rows (grid0.coords t) (ins m c t) s r' f ⟨8 + r'.val, by omega⟩ rfl).symm).trans
          (laid_full m c t s hs (r'.val + 2) (by omega) _ (by dsimp only; omega) f ⟨t.val % 11 * 512 + f.val, by omega⟩ rfl
            ⟨(t.val / 11 * 512 + r'.val) / 4096, by omega⟩ (by dsimp only; omega) ⟨(t.val / 11 * 512 + r'.val) % 4096 + 2, by omega⟩ (by dsimp only; omega))
      have w0 : (VecWindow.window (ins m c t).dw ![0, 0] S1x512.size inb_S3x512_S1x512_0_0 (ix2 0 f) : EReal) = _ :=
        (window2_apply (ins m c t).dw 0 0 inb_S3x512_S1x512_0_0 0 f 0 f rfl (by omega)).trans (dw_block m c t 0 f ⟨t.val % 11 * 512 + f.val, by omega⟩ rfl)
      have w1 : (VecWindow.window (ins m c t).dw ![1, 0] S1x512.size inb_S3x512_S1x512_1_0 (ix2 0 f) : EReal) = _ :=
        (window2_apply (ins m c t).dw 1 0 inb_S3x512_S1x512_1_0 0 f 1 f rfl (by omega)).trans (dw_block m c t 1 f ⟨t.val % 11 * 512 + f.val, by omega⟩ rfl)
      have w2 : (VecWindow.window (ins m c t).dw ![2, 0] S1x512.size inb_S3x512_S1x512_2_0 (ix2 0 f) : EReal) = _ :=
        (window2_apply (ins m c t).dw 2 0 inb_S3x512_S1x512_2_0 0 f 2 f rfl (by omega)).trans (dw_block m c t 2 f ⟨t.val % 11 * 512 + f.val, by omega⟩ rfl)
      have wb : ((ins m c t).b (ix2 0 f) : EReal) = _ := b_block m c t f ⟨t.val % 11 * 512 + f.val, by omega⟩ rfl
      rw [u2, u1, u0, w0, w1, w2, wb]
      rfl
    refine (out_apply s.xn _ _ _ _ _ _ _ _ _ _ _ hcv r e).trans ?_
    have hbe : (⟨t.val / 11 * 512 + r.val, by omega⟩ : Fin 8192) = b := Fin.ext hb.symm
    rw [hs.o r e b hb, Cert.Layer.Feed.term_add _ b e (t.val % 11) (by omega), add_assoc, hbe]
    refine congrArg _ (congrArg _ (Finset.sum_congr rfl fun f _ => ?_))
    rw [side_eq m c t s hs r f b hb ⟨t.val % 11 * 512 + f.val, by omega⟩ rfl,
      show ((ins m c t).down (ix3 0 f e) : EReal) = _ from down_block m c t f e ⟨t.val % 11 * 512 + f.val, by omega⟩ rfl]
    rfl
  · refine (put_slab s.carry _ (grid0.coords t) j q f).trans ?_
    rw [hj]
    by_cases hjj : j.val = t.val % 11
    · have hT : T = t.val / 11 := by omega
      rw [if_pos hjj, tail_apply]
      refine (window2_apply (laid blank (grid0.coords t) (ins m c t) s) 518 0 inb_S520x512_S2x512_518_0 q f ⟨518 + q.val, by omega⟩ f rfl (by omega)).trans ?_
      rw [laid_rows (grid0.coords t) (ins m c t) s ⟨510 + q.val, by omega⟩ f ⟨518 + q.val, by omega⟩ (by dsimp only; omega)]
      exact mid_eq m c t s hs _ f b (by dsimp only; omega) F (by omega)
    · rw [if_neg hjj]
      exact hs.carry T j q f b F (by omega) (by omega) hb hF

/-- What is held after every point. -/
theorem done (n : ℕ) (hn : n < cfg0.N) : Done m c n (held m c n hn) := by
  induction n with
  | zero =>
    have h0 : First (grid0.coords ⟨0, hn⟩) := (first_iff ⟨0, hn⟩).mpr rfl
    have h1 : Clear (grid0.coords ⟨0, hn⟩) := (clear_iff ⟨0, hn⟩).mpr (Nat.zero_lt_succ 10)
    refine done_rest m c ⟨0, hn⟩ _ ?_
    rw [start_clear h0 h1]
    exact ready_first m c ⟨0, hn⟩ rfl _ fun T j q f b F h => absurd h (Nat.not_lt_zero _)
  | succ n ih => exact done_rest m c ⟨n + 1, hn⟩ _ (ready_next m c ⟨n + 1, hn⟩ (Nat.succ_ne_zero n) _ (ih (by omega)))

/-- The call's result. -/
theorem arr_eq : (dats m 0 c).arrAt 10 cfg0.N = fun y : S8192x2048.Idx => (feed m c).out (y 0) (y 1) := by
  refine (dats m 0 c).arrAt_eq_of_covers 10 _ (by decide +kernel) fun t hf y => ?_
  have ht := points t
  have h10 : t.val % 11 = 10 := (flush0_10 t).mp hf
  blk_simp
  rw [after10]
  obtain ⟨r, e, hy⟩ : ∃ (r : Fin 512) (e : Fin 2048), y = (ix2 r e : S512x2048.Idx) := ⟨y 0, y 1, by funext a; fin_cases a <;> rfl⟩
  subst hy
  have e0 : (((win0_10.blk t).view.emb (ix2 r e : S512x2048.Idx)) 0 : ℕ) = t.val / 11 * 512 + r.val := by blk_simp [index_o]
  have e1 : (((win0_10.blk t).view.emb (ix2 r e : S512x2048.Idx)) 1 : ℕ) = e.val := by blk_simp [index_o]
  generalize (win0_10.blk t).view.emb (ix2 r e : S512x2048.Idx) = z at e0 e1
  have ez : (z 1 : Fin 2048) = e := Fin.ext e1
  refine ((done m c t.val t.isLt).o r e (z 0) e0).trans ?_
  rw [h10, ez]
  exact ((feed m c).out_eq (z 0) e).symm

end Cert.FfnIdeal.Feed

namespace Cert.Layer

open Idealize.ShloMosaic Idealize.SL.Sem
open Idealize.ShloMosaic.TcCoe

/-- The feed-forward layer and its reference leave one result. -/
theorem ffn : Cert.algebraic_FfnIdeal_FfnRefIdeal := by
  intro m ρ m' ρ' _ harg
  refine ⟨fun c => fun y : Cert.FfnIdeal.S8192x2048.Idx => (Cert.FfnIdeal.Feed.feed m c).out (y 0) (y 1),
    (θ_run _ _ _).mono (fun r h c => ⟨(h.1 c).2.trans (Cert.FfnIdeal.Feed.arr_eq m c), (h.1 c).1⟩) (Cert.FfnIdeal.Gen.result m ρ),
    (θ_run _ _ _).mono (fun r h c => ⟨(h c).1.trans ?_, (h c).2⟩) (Cert.FfnRefIdeal.Value.run m' ρ')⟩
  obtain ⟨e0, e1, e2, e3, e4, e5, e6, e7, e8, e9⟩ := harg c
  rw [Cert.FfnRefIdeal.Feed.res_eq, e0, e1, e2, e3, e4, e5, e6, e7, e8, e9]
  funext y
  have hy : y = ix2 (y 0) (y 1) := by funext a; fin_cases a <;> rfl
  rw [hy]
  exact Cert.FfnRefIdeal.Feed.result_apply _ _ _ _ _ _ _ _ _ _ (y 0) (y 1)

/-- The reference runs, its arguments unchanged and every counter back at zero. -/
theorem ffn_reference : Cert.quiescent_FfnRefIdeal :=
  fun m ρ _ => (θ_run _ _ _).mono (fun r h => ⟨fun c => (h c).2, sem_eq_zero_of_no_sems rfl r.2⟩) (Cert.FfnRefIdeal.Value.run m ρ)

/-- The kernel runs, its arguments unchanged and every counter back at zero. -/
theorem ffn_runs : Cert.quiescent_FfnIdeal :=
  fun m ρ _ => (θ_run _ _ _).mono (fun r h => ⟨fun c => (h.1 c).1, h.2⟩) (Cert.FfnIdeal.Gen.result m ρ)

end Cert.Layer
-- ==== Proof.FfnReal.lean ====
module

public import proofs.«01_k».proof.Defs
public import proofs.«01_k».proof.Proof.FfnFrame
public import proofs.«01_k».proof.Proof.Gen.Ffn

@[expose] public section

set_option maxRecDepth 16384

/-! The feed-forward kernel with its machine numbers: the same program as the idealized one. -/

noncomputable section

namespace Cert.Layer

open Idealize.ShloMosaic Idealize.SL.Sem
open Idealize.ShloMosaic.TcCoe

/-- The two programs' kernel bodies are one. -/
theorem bodies_eq : Cert.Ffn.defs₀ (F := Bits) = Cert.FfnIdeal.defs₀ (F := Bits) := by
  unfold Cert.Ffn.defs₀ Cert.FfnIdeal.defs₀
  refine congrArg Defs.onTc (funext fun l => funext fun args => ?_)
  obtain ⟨l, hl⟩ := l
  obtain rfl : l = 0 := by omega
  obtain ⟨t, s⟩ := args
  rfl

/-- The two programs' tables are one. -/
theorem tables_eq : Cert.Ffn.defs (F := Bits) = Cert.FfnIdeal.defs (F := Bits) := by
  unfold Cert.Ffn.defs Cert.FfnIdeal.defs
  exact congrArg (Pipeline.defs Cert.FfnIdeal.pcfgs) bodies_eq

/-- The kernel with its machine numbers runs, its arguments unchanged and every counter back at zero. -/
theorem ffn_real_runs : Cert.quiescent_Ffn := by
  intro m ρ _
  have h := (θ_run (Cert.FfnIdeal.defs (F := Bits)) _ _).mono (fun r h => And.intro (fun c => (h.1 c).1) h.2) (Cert.FfnIdeal.Gen.result (F := Bits) m ρ)
  rw [tables_eq]
  exact h

end Cert.Layer
-- ==== Proof.Heads.lean ====
/-
Four heads side by side in a block of any number of rows: what the block holds, whatever it held before.
-/
module

public import Idealize.ShloMosaic.Lib.VecWindow
public import Idealize.ShloMosaic.Lib.Pointwise

@[expose] public section

noncomputable section

namespace Cert.Layer

open Idealize.ShloMosaic

variable {F : FTy → Type} {n : ℕ}

/-- Four heads of 128 columns, laid side by side over a block. -/
def laid4 (U : Vec F ⟨2, ![n, 512]⟩ .f32) (p0 p1 p2 p3 : Vec F ⟨2, ![n, 128]⟩ .f32) : Vec F ⟨2, ![n, 512]⟩ .f32 :=
  VecWindow.put (VecWindow.put (VecWindow.put (VecWindow.put U ![0, 0] ![n, 128] p0) ![0, 128] ![n, 128] p1) ![0, 256] ![n, 128] p2)
    ![0, 384] ![n, 128] p3

/-- A head put over a block, at one of its own columns. -/
theorem put_in (U : Vec F ⟨2, ![n, 512]⟩ .f32) (o : ℕ) (w : Vec F ⟨2, ![n, 128]⟩ .f32) (r : Fin n) (f : Fin 512) (e : Fin 128) (h : f.val = o + e.val) :
    VecWindow.put U ![0, o] ![n, 128] w (ix2 r f) = w (ix2 r e) := by
  unfold VecWindow.put
  rw [dif_pos]
  · refine congrArg w (funext fun a => Fin.ext ?_)
    fin_cases a
    · show r.val - 0 = r.val; omega
    · show f.val - o = e.val; omega
  · intro a
    fin_cases a
    · show 0 ≤ r.val ∧ r.val < 0 + n; omega
    · show o ≤ f.val ∧ f.val < o + 128; omega

/-- A head put over a block, at a column of another head. -/
theorem put_out (U : Vec F ⟨2, ![n, 512]⟩ .f32) (o : ℕ) (w : Vec F ⟨2, ![n, 128]⟩ .f32) (r : Fin n) (f : Fin 512) (h : f.val < o ∨ o + 128 ≤ f.val) :
    VecWindow.put U ![0, o] ![n, 128] w (ix2 r f) = U (ix2 r f) := by
  unfold VecWindow.put
  rw [dif_neg]
  intro ha
  have : o ≤ f.val ∧ f.val < o + 128 := ha 1
  omega

/-- Four heads side by side, at an element: its head's. -/
theorem laid4_apply (U : Vec F ⟨2, ![n, 512]⟩ .f32) (p0 p1 p2 p3 : Vec F ⟨2, ![n, 128]⟩ .f32) (r : Fin n) (h : Fin 4) (e : Fin 128) (f : Fin 512)
    (hf : f.val = h.val * 128 + e.val) : laid4 U p0 p1 p2 p3 (ix2 r f) = (![p0, p1, p2, p3] h) (ix2 r e) := by
  unfold laid4
  obtain ⟨h, hh⟩ := h
  dsimp only at hf
  interval_cases h
  · rw [put_out _ _ _ _ _ (by omega), put_out _ _ _ _ _ (by omega), put_out _ _ _ _ _ (by omega), put_in _ _ _ _ _ e (by omega)]
    rfl
  · rw [put_out _ _ _ _ _ (by omega), put_out _ _ _ _ _ (by omega), put_in _ _ _ _ _ e (by omega)]
    rfl
  · rw [put_out _ _ _ _ _ (by omega), put_in _ _ _ _ _ e (by omega)]
    rfl
  · rw [put_in _ _ _ _ _ e (by omega)]
    rfl

/-- Four heads cover the block: what they are laid over does not matter. -/
theorem laid4_over (U U' : Vec F ⟨2, ![n, 512]⟩ .f32) (p0 p1 p2 p3 : Vec F ⟨2, ![n, 128]⟩ .f32) : laid4 U p0 p1 p2 p3 = laid4 U' p0 p1 p2 p3 := by
  funext y
  obtain ⟨r, f, rfl⟩ : ∃ (r : Fin n) (f : Fin 512), y = ix2 r f := ⟨y 0, y 1, by funext a; fin_cases a <;> rfl⟩
  have hf : f.val = (⟨f.val / 128, by omega⟩ : Fin 4).val * 128 + (⟨f.val % 128, by omega⟩ : Fin 128).val := by dsimp only; omega
  rw [laid4_apply U _ _ _ _ r _ _ f hf, laid4_apply U' _ _ _ _ r _ _ f hf]

/-- Rows of 2048 split into sixteen heads of 128. -/
theorem split_apply (sc : (⟨2, ![n, 2048]⟩ : Shape).ShapeCasts ⟨3, ![n, 16, 128]⟩) (p : FVec Ideal ⟨2, ![n, 2048]⟩ .f32) (b : Fin n) (h : Fin 16) (e : Fin 128) :
    shapeCast _ p sc (ix3 b h e) = p (ix2 b ⟨h.val * 128 + e.val, by omega⟩) :=
  shapeCast_apply _ _ _ _ (by rw [rowMajor_val2 _ 2048 rfl, rowMajor_val3 _ 2048 128 rfl rfl]; show b.val * 2048 + (h.val * 128 + e.val) = b.val * 2048 + h.val * 128 + e.val; omega)

/-- Sixteen heads of 128 joined into rows of 2048. -/
theorem join_apply (sc : (⟨3, ![n, 16, 128]⟩ : Shape).ShapeCasts ⟨2, ![n, 2048]⟩) (p : FVec Ideal ⟨3, ![n, 16, 128]⟩ .f32) (b : Fin n) (h : Fin 16) (e : Fin 128)
    (f : Fin 2048) (hf : f.val = h.val * 128 + e.val) : shapeCast _ p sc (ix2 b f) = p (ix3 b h e) :=
  shapeCast_apply _ _ _ (ix3 b h e) (by rw [rowMajor_val2 _ 2048 rfl, rowMajor_val3 _ 2048 128 rfl rfl]; show b.val * 2048 + h.val * 128 + e.val = b.val * 2048 + f.val; omega)

end Cert.Layer

end
-- ==== Proof.QkvRun.lean ====
/-
The projections' kernel body, run once: what it leaves in the blocks of keys, values and log-forgets and in the scaled
rows it keeps from one grid point to the next, as plain functions of what it found there.
-/
module

public import proofs.«01_k».proof.Proof.Gen.QkvIdeal.Skeleton
public import proofs.«01_k».proof.Proof.Gen.QkvIdeal.Frame
public import proofs.«01_k».proof.Proof.Buffers
public import proofs.«01_k».proof.Proof.Heads

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer (readAt_window readCov_window read_put put_whole2 put_whole3 window_whole2 window_whole3 holds holds_some laid4 laid4_over)

variable {F : FTy → Type} [FloatOps F]

local notation "𝕄" => MT nD τ sig Unit (Elt F) ℕ (UR sig nD τ) ℕ

/-- The first column block of a row tile: the body starts the tile's scaled rows and its log-forgets. -/
abbrev First (i : grid0.Coords) : Prop := k0_cond1 i = 1#1

/-- The first row tile of a sequence: the body then also clears its running sum. -/
abbrev Clear (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

/-- The twelve blocks the body reads. -/
structure Ins (F : FTy → Type) where
  h : Vec F S512x2048 .f32
  g : Vec F S1x2048 .f32
  gq : Vec F S1x2048 .f32
  wk : Vec F S2048x512 .bf16
  wv : Vec F S2048x512 .bf16
  wq : Vec F S2048x512 .bf16
  gk : Vec F S1x128 .f32
  gl : Vec F S1x128 .f32
  wf : Vec F S2048x128 .bf16
  bf : Vec F S1x128 .f32
  tri : Vec F S512x512 .bf16
  place : Vec F S3x128x512 .bf16

/-- What the body keeps, and the claims need, from one grid point to the next: the tile's log-forgets and its scaled
rows. -/
structure St (F : FTy → Type) where
  lf : Vec F S512x128 .f32
  xn : Vec F S512x2048 .bf16

/-- One run of the body: at the first column block of a tile it makes the scaled rows and the log-forgets, later it
keeps them. -/
def step (i : grid0.Coords) (x : Ins F) (s : St F) : St F :=
  if First i then
    ⟨k0_pay9 (k0_pay6 x.h x.g x.wf x.bf) (k0_pay7 x.h x.g x.wf x.bf) (k0_pay8 (F := F)), k0_pay3 x.h x.g⟩
  else s

/-- At the first column block what was kept before does not matter. -/
theorem step_first {i : grid0.Coords} (h0 : First i) (x : Ins F) (s : St F) :
    step i x s = ⟨k0_pay9 (k0_pay6 x.h x.g x.wf x.bf) (k0_pay7 x.h x.g x.wf x.bf) (k0_pay8 (F := F)), k0_pay3 x.h x.g⟩ := by
  unfold step; rw [if_pos h0]

/-- At a later column block what was kept stays. -/
theorem step_later {i : grid0.Coords} (h0 : ¬ First i) (x : Ins F) (s : St F) : step i x s = s := by
  unfold step; rw [if_neg h0]

/-- The block of keys: four heads side by side. -/
def keys (xn : Vec F S512x2048 .bf16) (wk : Vec F S2048x512 .bf16) (gk : Vec F S1x128 .f32) : Vec F S512x512 .f32 :=
  laid4 (fun _ => Scalar.ofBits .f32 0#32) (k0_pay24 xn wk gk) (k0_pay27 (k0_pay21 xn wk) gk) (k0_pay32 (k0_pay21 xn wk) gk) (k0_pay35 (k0_pay21 xn wk) gk)

set_option maxHeartbeats 8000000 in
/-- The body run on whole memrefs: the blocks read stay as they were, the blocks of keys and values and the kept
buffers hold what `step` says; the other buffers hold anything. -/
theorem run (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S3x128x512 .bf16) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S512x128 .f32) (harg20 : arg20.IsWhole) (arg21 : Memref sig .tc .vmem S512x2048 .bf16) (harg21 : arg21.IsWhole) (arg22 : Memref sig .tc .vmem S512x2048 .bf16) (harg22 : arg22.IsWhole) (arg23 : Memref sig .tc .vmem S1x128 .f32) (harg23 : arg23.IsWhole) (arg24 : Memref sig .tc .vmem S3x512x128 .bf16) (harg24 : arg24.IsWhole)
    (x : Ins F) (s : St F) (E : Set ℕ) (K : PUnit → sProp 𝕄) :
    iprop(owns (c : Thread nD τ) arg2 fullShare x.h ∗ owns (c : Thread nD τ) arg3 fullShare x.g ∗ owns (c : Thread nD τ) arg4 fullShare x.gq ∗ owns (c : Thread nD τ) arg5 fullShare x.wk ∗ owns (c : Thread nD τ) arg6 fullShare x.wv ∗ owns (c : Thread nD τ) arg7 fullShare x.wq ∗ owns (c : Thread nD τ) arg8 fullShare x.gk ∗ owns (c : Thread nD τ) arg9 fullShare x.gl ∗ owns (c : Thread nD τ) arg10 fullShare x.wf ∗ owns (c : Thread nD τ) arg11 fullShare x.bf ∗ owns (c : Thread nD τ) arg12 fullShare x.tri ∗ owns (c : Thread nD τ) arg13 fullShare x.place ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare s.lf ∗ owns (c : Thread nD τ) arg21 fullShare s.xn ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x.h ∗ owns (c : Thread nD τ) arg3 fullShare x.g ∗ owns (c : Thread nD τ) arg4 fullShare x.gq ∗ owns (c : Thread nD τ) arg5 fullShare x.wk ∗ owns (c : Thread nD τ) arg6 fullShare x.wv ∗ owns (c : Thread nD τ) arg7 fullShare x.wq ∗ owns (c : Thread nD τ) arg8 fullShare x.gk ∗ owns (c : Thread nD τ) arg9 fullShare x.gl ∗ owns (c : Thread nD τ) arg10 fullShare x.wf ∗ owns (c : Thread nD τ) arg11 fullShare x.bf ∗ owns (c : Thread nD τ) arg12 fullShare x.tri ∗ owns (c : Thread nD τ) arg13 fullShare x.place ∗ owns (c : Thread nD τ) arg14 fullShare (keys (step i x s).xn x.wk x.gk) ∗ owns (c : Thread nD τ) arg15 fullShare (k0_pay22 (step i x s).xn x.wv) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare (step i x s).lf ∗ owns (c : Thread nD τ) arg21 fullShare (step i x s).xn ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) E (cc0_qkv_t i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_qkv_t_eq_skeleton]; unfold cc0_qkv_t_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%d20, %f20, -, H20⟩, ⟨%d21, %f21, -, H21⟩, ⟨%d22, %f22, -, H22⟩, Hk⟩
  by_cases hc0 : First i <;> by_cases hc1 : Clear i
  all_goals
    sl_exec (disch := first | sl_exact hc0 | sl_exact hc1)
    sl_step
    iapply Hk
    isplitl [H0]; · iapply (holds hf0); iexact H0
    isplitl [H1]; · iapply (holds hf1); iexact H1
    isplitl [H2]; · iapply (holds hf2); iexact H2
    isplitl [H3]; · iapply (holds hf3); iexact H3
    isplitl [H4]; · iapply (holds hf4); iexact H4
    isplitl [H5]; · iapply (holds hf5); iexact H5
    isplitl [H6]; · iapply (holds hf6); iexact H6
    isplitl [H7]; · iapply (holds hf7); iexact H7
    isplitl [H8]; · iapply (holds hf8); iexact H8
    isplitl [H9]; · iapply (holds hf9); iexact H9
    isplitl [H10]; · iapply (holds hf10); iexact H10
    isplitl [H11]; · iapply (holds hf11); iexact H11
    isplitl [H12]
    · iexists _; isplitr; swap; · iexact H12
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hf11, hf18, hf19]
      first | rw [step_first hc0] | rw [step_later hc0]
      exact laid4_over _ _ _ _ _ _
    isplitl [H13]
    · iexists _; isplitr; swap; · iexact H13
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hf11, hf18, hf19]
      first | rw [step_first hc0] | rw [step_later hc0]
      try rfl
    isplitl [H14]; · iapply holds_some; iexact H14
    isplitl [H15]; · iapply holds_some; iexact H15
    isplitl [H16]; · iapply holds_some; iexact H16
    isplitl [H17]; · iapply holds_some; iexact H17
    isplitl [H18]
    · iexists _; isplitr; swap; · iexact H18
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hf11, hf18, hf19]
      first | rw [step_first hc0] | rw [step_later hc0]
      try rfl
    isplitl [H19]
    · iexists _; isplitr; swap; · iexact H19
      ipureintro
      sl_unfold_run_names
      simp only [View.read_writes_full, View.readCov_full, readAt_window, readCov_window, read_put, put_whole2, put_whole3, window_whole2, window_whole3, View.writes_nil, hf0, hf1, hf2, hf3, hf4, hf5, hf6, hf7, hf8, hf9, hf10, hf11, hf18, hf19]
      first | rw [step_first hc0] | rw [step_later hc0]
      try rfl
    isplitl [H20]; · iapply holds_some; iexact H20
    isplitl [H21]; · iapply holds_some; iexact H21
    iapply holds_some; iexact H22

end Cert.QkvIdeal.Gen

end
-- ==== Proof.QkvFrame.lean ====
/-
The projections' program, run: what its arrays of keys, values and log-forgets hold at the end, as the points' blocks,
each a plain function of the blocks read and of what the points before left.
-/
module

public import proofs.«01_k».proof.Proof.QkvRun

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer (leaves_after)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition over the grid -/

/-- A point is the first column block of its tile when its number is a multiple of 4. -/
theorem first_iff (t : Fin cfg0.N) : First (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [First, k0_cond1, e1]
    word_cmp
   : ∀ t : Fin grid0.N, First (grid0.coords t) ↔ t.val % 4 = 0) t

/-- The log-forgets' block is left alone exactly at the later column blocks. -/
theorem idle_first (t : Fin cfg0.N) (h : t.val % 4 = 0) : cfg0.idle 18 (cfg0.grid.coords t) = false := by
  have h0 : First (grid0.coords t) := (first_iff t).mpr h
  show (!(k0_cond1 (grid0.coords t) == 1#1)) = false
  rw [show k0_cond1 (grid0.coords t) = 1#1 from h0]
  rfl

/-- At a later column block the log-forgets' block is left alone. -/
theorem idle_later (t : Fin cfg0.N) (h : t.val % 4 ≠ 0) : cfg0.idle 18 (cfg0.grid.coords t) = true := by
  have h0 : ¬ First (grid0.coords t) := fun h0 => h ((first_iff t).mp h0)
  show (!(k0_cond1 (grid0.coords t) == 1#1)) = true
  rw [Bool.not_eq_true', beq_eq_false_iff_ne]
  exact h0

/-! ## What the body's buffers are at a point -/

/-- Window 0's buffer at a point. -/
abbrev ms0 (t : Fin cfg0.N) : Memref sig .tc .vmem S512x2048 .f32 := win0_0.stage (cfg0.slots t 0)
/-- Window 1's buffer at a point. -/
abbrev ms1 (t : Fin cfg0.N) : Memref sig .tc .vmem S1x2048 .f32 := win0_1.stage (cfg0.slots t 1)
/-- Window 2's buffer at a point. -/
abbrev ms2 (t : Fin cfg0.N) : Memref sig .tc .vmem S1x2048 .f32 := win0_2.stage (cfg0.slots t 2)
/-- Window 3's buffer at a point. -/
abbrev ms3 (t : Fin cfg0.N) : Memref sig .tc .vmem S2048x512 .bf16 := win0_3.stage (cfg0.slots t 3)
/-- Window 4's buffer at a point. -/
abbrev ms4 (t : Fin cfg0.N) : Memref sig .tc .vmem S2048x512 .bf16 := win0_4.stage (cfg0.slots t 4)
/-- Window 5's buffer at a point. -/
abbrev ms5 (t : Fin cfg0.N) : Memref sig .tc .vmem S2048x512 .bf16 := win0_5.stage (cfg0.slots t 5)
/-- Window 6's buffer at a point. -/
abbrev ms6 (t : Fin cfg0.N) : Memref sig .tc .vmem S1x128 .f32 := win0_6.stage (cfg0.slots t 6)
/-- Window 7's buffer at a point. -/
abbrev ms7 (t : Fin cfg0.N) : Memref sig .tc .vmem S1x128 .f32 := win0_7.stage (cfg0.slots t 7)
/-- Window 8's buffer at a point. -/
abbrev ms8 (t : Fin cfg0.N) : Memref sig .tc .vmem S2048x128 .bf16 := win0_8.stage (cfg0.slots t 8)
/-- Window 9's buffer at a point. -/
abbrev ms9 (t : Fin cfg0.N) : Memref sig .tc .vmem S1x128 .f32 := win0_9.stage (cfg0.slots t 9)
/-- Window 10's buffer at a point. -/
abbrev ms10 (t : Fin cfg0.N) : Memref sig .tc .vmem S512x512 .bf16 := win0_10.stage (cfg0.slots t 10)
/-- Window 11's buffer at a point. -/
abbrev ms11 (t : Fin cfg0.N) : Memref sig .tc .vmem S3x128x512 .bf16 := win0_11.stage (cfg0.slots t 11)
/-- Window 12's buffer at a point. -/
abbrev ms12 (t : Fin cfg0.N) : Memref sig .tc .vmem S512x512 .f32 := win0_12.stage (cfg0.slots t 12)
/-- Window 13's buffer at a point. -/
abbrev ms13 (t : Fin cfg0.N) : Memref sig .tc .vmem S512x512 .f32 := win0_13.stage (cfg0.slots t 13)
/-- Window 14's buffer at a point. -/
abbrev ms14 (t : Fin cfg0.N) : Memref sig .tc .vmem S512x512 .bf16 := win0_14.stage (cfg0.slots t 14)
/-- Window 15's buffer at a point. -/
abbrev ms15 (t : Fin cfg0.N) : Memref sig .tc .vmem S512x512 .bf16 := win0_15.stage (cfg0.slots t 15)
/-- Window 16's buffer at a point. -/
abbrev ms16 (t : Fin cfg0.N) : Memref sig .tc .vmem S1x512x512 .bf16 := win0_16.stage (cfg0.slots t 16)
/-- Window 17's buffer at a point. -/
abbrev ms17 (t : Fin cfg0.N) : Memref sig .tc .vmem S1x512x512 .bf16 := win0_17.stage (cfg0.slots t 17)
/-- Window 18's buffer at a point. -/
abbrev ms18 (t : Fin cfg0.N) : Memref sig .tc .vmem S512x128 .f32 := win0_18.stage (cfg0.slots t 18)
/-- Scratch buffer 0. -/
abbrev sc0 : Memref sig .tc .vmem S512x2048 .bf16 := Memref.whole cc0_scratch0
/-- Scratch buffer 1. -/
abbrev sc1 : Memref sig .tc .vmem S512x2048 .bf16 := Memref.whole cc0_scratch1
/-- Scratch buffer 2. -/
abbrev sc2 : Memref sig .tc .vmem S1x128 .f32 := Memref.whole cc0_scratch2
/-- Scratch buffer 3. -/
abbrev sc3 : Memref sig .tc .vmem S3x512x128 .bf16 := Memref.whole cc0_scratch3

/-- What the launch hands the body besides the windows: the scratch buffers at anything. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What is held after each point -/

/-- The blocks the body reads at a point. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- Nothing kept yet. -/
def empty : St F := ⟨fun _ => Scalar.ofBits .f32 0#32, fun _ => Scalar.ofBits .bf16 0#16⟩

/-- What the log-forgets' block and the scaled rows hold after the body at a point. -/
def held (c : Dev nD) : (n : ℕ) → n < cfg0.N → St F
  | 0, hn => step (grid0.coords ⟨0, hn⟩) (ins m c ⟨0, hn⟩) empty
  | n + 1, hn => step (grid0.coords ⟨n + 1, hn⟩) (ins m c ⟨n + 1, hn⟩) (held c n (Nat.lt_of_succ_lt hn))

/-- At the first column block of a tile what was held before does not matter. -/
theorem held_first (c : Dev nD) (t : Fin cfg0.N) (h : t.val % 4 = 0) (s : St F) :
    step (grid0.coords t) (ins m c t) s = held m c t.val t.isLt := by
  obtain ⟨n, hn⟩ := t
  have h0 : First (grid0.coords ⟨n, hn⟩) := (first_iff ⟨n, hn⟩).mpr h
  cases n with
  | zero =>
    show step _ _ _ = step _ _ _
    rw [step_first h0, step_first h0]
  | succ n =>
    show step _ _ _ = step _ _ _
    rw [step_first h0, step_first h0]

/-- At a later point the body goes on from what the point before left. -/
theorem held_later (c : Dev nD) (t : Fin cfg0.N) (hz : t.val ≠ 0) :
    step (grid0.coords t) (ins m c t) (held m c (t.val - 1) (by omega)) = held m c t.val t.isLt := by
  obtain ⟨n, hn⟩ := t
  cases n with
  | zero => exact absurd rfl hz
  | succ n => rfl

/-- At a later column block nothing changes. -/
theorem held_same (c : Dev nD) (t : Fin cfg0.N) (h : t.val % 4 ≠ 0) :
    held m c t.val t.isLt = held m c (t.val - 1) (by omega) := by
  rw [← held_later m c t (fun hz => h (by omega))]
  exact step_later (fun h0 => h ((first_iff t).mp h0)) _ _

/-- What the body holds besides its windows before a point: anything at first, then the scaled rows. -/
def Kept (c : Dev nD) : (n : ℕ) → n ≤ cfg0.N → sProp 𝕄
  | 0, _ => Pipeline.ΦA spec0 c
  | n + 1, hn => iprop(iprop(owns (c : Thread nD τ) sc0 fullShare (held m c n hn).xn ∗ (∃ d, owns (c : Thread nD τ) sc1 fullShare d) ∗ (∃ d, owns (c : Thread nD τ) sc2 fullShare d) ∗ (∃ d, owns (c : Thread nD τ) sc3 fullShare d)) ∗ (∃ r, prngReg c r))

/-- Before the first point. -/
theorem Kept_zero (c : Dev nD) (n : ℕ) (h : n ≤ cfg0.N) (hz : n = 0) : Kept m c n h = Pipeline.ΦA spec0 c := by
  subst hz; rfl

/-- After a point. -/
theorem Kept_succ (c : Dev nD) (n : ℕ) (hn : n < cfg0.N) :
    Kept m c (n + 1) hn = iprop(iprop(owns (c : Thread nD τ) sc0 fullShare (held m c n hn).xn ∗ (∃ d, owns (c : Thread nD τ) sc1 fullShare d) ∗ (∃ d, owns (c : Thread nD τ) sc2 fullShare d) ∗ (∃ d, owns (c : Thread nD τ) sc3 fullShare d)) ∗ (∃ r, prngReg c r)) := rfl

/-- Before a later point. -/
theorem Kept_pos (c : Dev nD) (n : ℕ) (h : n ≤ cfg0.N) (hz : n ≠ 0) :
    Kept m c n h = iprop(iprop(owns (c : Thread nD τ) sc0 fullShare (held m c (n - 1) (by omega)).xn ∗ (∃ d, owns (c : Thread nD τ) sc1 fullShare d) ∗ (∃ d, owns (c : Thread nD τ) sc2 fullShare d) ∗ (∃ d, owns (c : Thread nD τ) sc3 fullShare d)) ∗ (∃ r, prngReg c r)) := by
  cases n with
  | zero => exact absurd rfl hz
  | succ n => rfl

/-- Of the four blocks that only the attention reads nothing is said: no claim reads them. -/
def unsaid : Fin 19 → Bool := fun w => decide (14 ≤ w.val ∧ w.val < 18)

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => keys (held m c t.val t.isLt).xn (iblk m c 3 t) (iblk m c 6 t)
    | ⟨13, _⟩ => k0_pay22 (held m c t.val t.isLt).xn (iblk m c 4 t)
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, _⟩ => (held m c t.val t.isLt).lf
    | ⟨n + 19, h⟩ => absurd (show n + 19 < 19 from h) (by omega)
  Φ t := Kept m c t.val (Nat.le_of_lt_succ t.isLt)
  q _ := fullShare
  owed _ := 0

/-- The arrays at the launch are the program's. -/
theorem A_eq (c : Dev nD) (w : Fin cfg0.W) : (dats m 0 c).A w = V m c (Pipeline.arrRef spec0 w) := by
  dsimp only [dats]

/-- What is held before a point, as `Kept` of its number. -/
theorem Kept_castSucc (c : Dev nD) (t : Fin cfg0.N) :
    (dats m 0 c).Φ t.castSucc = Kept m c t.val (Nat.le_of_lt t.isLt) := by
  dsimp only [dats]; exact Pipeline.Dat.Φ_castSucc (Kept m c) t

/-- The block of keys after a point. -/
theorem after12 (c : Dev nD) (t : Fin cfg0.N) : (dats m 0 c).after 12 t = keys (held m c t.val t.isLt).xn (iblk m c 3 t) (iblk m c 6 t) := by dsimp only [dats]

/-- The block of values after a point. -/
theorem after13 (c : Dev nD) (t : Fin cfg0.N) : (dats m 0 c).after 13 t = k0_pay22 (held m c t.val t.isLt).xn (iblk m c 4 t) := by dsimp only [dats]

/-- The block of log-forgets after a point. -/
theorem after18 (c : Dev nD) (t : Fin cfg0.N) : (dats m 0 c).after 18 t = (held m c t.val t.isLt).lf := by dsimp only [dats]

/-- At a later column block the log-forgets' buffer still holds what the tile's first left. -/
theorem before18 (c : Dev nD) (d) : ∀ (n : ℕ) (hn : n < cfg0.N), n % 4 ≠ 0 →
    (dats m 0 c).before 18 ⟨n, hn⟩ d = (held m c (n - 1) (by omega)).lf := by
  intro n
  induction n with
  | zero => intro hn h; exact absurd rfl h
  | succ n ih =>
    intro hn h
    have hn' : n < cfg0.N := Nat.lt_of_succ_lt hn
    refine ((dats m 0 c).before_of_pos 18 ⟨n + 1, hn⟩ (Nat.succ_ne_zero n) ((cfg0.win 18).fetch_out rfl _) d).trans ?_
    have hf : (cfg0.win 18).flush ⟨n, hn'⟩ = false := by
      refine Bool.eq_false_iff.mpr fun hf => ?_
      have := (flush0_18 _).mp hf
      dsimp only at this
      omega
    refine (if_neg fun hx => Bool.false_ne_true (hf.symm.trans hx)).trans ?_
    show (dats m 0 c).left 18 ⟨n, hn'⟩ d = (held m c n hn').lf
    by_cases h4 : n % 4 = 0
    · unfold Dat.left
      rw [idle_first ⟨n, hn'⟩ h4]
      exact (Pipeline.fill_of_clip_none 18 _ (fun _ => rfl) d ((dats m 0 c).after 18 ⟨n, hn'⟩) _).trans
        ((Window.fill_cut _ _ _).trans (after18 m c ⟨n, hn'⟩))
    · unfold Dat.left
      rw [idle_later ⟨n, hn'⟩ h4]
      exact (ih hn' h4).trans (congrArg St.lf (held_same m c ⟨n, hn'⟩ h4)).symm

/-- A buffer holding the tile's log-forgets is left as the point must leave it. -/
theorem leaves18 (c : Dev nD) (t : Fin cfg0.N) :
    owns (c : Thread nD τ) (ms18 t) fullShare (held m c t.val t.isLt).lf ⊢ ((dats m 0 c).leavesExact 18 t : sProp 𝕄) := by
  unfold Dat.leavesExact
  by_cases h : t.val % 4 = 0
  · rw [idle_first t h]
    dsimp only
    rw [after18]
    try exact .rfl
  · rw [idle_later t h]
    dsimp only
    by_cases h3 : t.val % 4 = 3
    · rw [(flush0_18 t).mpr h3]
      dsimp only
      rw [after18]
      try exact .rfl
    · rw [show (cfg0.win 18).flush t = false from Bool.eq_false_iff.mpr fun hf => h3 ((flush0_18 t).mp hf)]
      dsimp only
      iintro H
      iexists (fun _ => Scalar.ofBits .f32 0#32)
      rw [show (dats m 0 c).before 18 t (fun _ => Scalar.ofBits .f32 0#32) = (held m c t.val t.isLt).lf from
        (before18 m c _ t.val t.isLt h).trans (congrArg St.lf (held_same m c t h)).symm]
      iexact H

/-! ## The body at every point -/

/-- Before the body. -/
def before (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare d)
    ∗ (∃ d, owns (c : Thread nD τ) (ms15 t) fullShare d)
    ∗ (∃ d, owns (c : Thread nD τ) (ms16 t) fullShare d)
    ∗ (∃ d, owns (c : Thread nD τ) (ms17 t) fullShare d)
    ∗ (∃ d, owns (c : Thread nD τ) (ms18 t) fullShare ((dats m 0 c).before 18 t d)))

/-- After the body. -/
def after (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms14 t) fullShare d)
    ∗ (∃ d, owns (c : Thread nD τ) (ms15 t) fullShare d)
    ∗ (∃ d, owns (c : Thread nD τ) (ms16 t) fullShare d)
    ∗ (∃ d, owns (c : Thread nD τ) (ms17 t) fullShare d)
    ∗ (dats m 0 c).leavesExact 18 t)

/-- What the body finds in the log-forgets' block and the scaled rows before a point: a state from which it goes on to
what `held` says of the point. -/
theorem enter (c : Dev nD) (t : Fin cfg0.N) :
    iprop((dats m 0 c).Φ t.castSucc ∗ (∃ d, owns (c : Thread nD τ) (ms18 t) fullShare ((dats m 0 c).before 18 t d)))
      ⊢ (iprop(∃ s : St F, ⌜step (grid0.coords t) (ins m c t) s = held m c t.val t.isLt⌝ ∗ owns (c : Thread nD τ) (ms18 t) fullShare s.lf ∗ owns (c : Thread nD τ) sc0 fullShare s.xn ∗ (∃ d, owns (c : Thread nD τ) sc1 fullShare d) ∗ (∃ d, owns (c : Thread nD τ) sc2 fullShare d) ∗ (∃ d, owns (c : Thread nD τ) sc3 fullShare d) ∗ (∃ r, prngReg c r)) : sProp 𝕄) := by
  rw [Kept_castSucc]
  by_cases hz : t.val = 0
  · rw [Kept_zero m c _ _ hz, scratch_eq]
    iintro ⟨⟨⟨⟨%a, HS0⟩, HS1, HS2, HS3⟩, Hg⟩, ⟨%d, H⟩⟩
    iexists ⟨(dats m 0 c).before 18 t d, a⟩
    isplitr
    · ipureintro; exact held_first m c t (by omega) _
    isplitl [H]; · iexact H
    iframe HS0 HS1 HS2 HS3
    iexact Hg
  · rw [Kept_pos m c _ _ hz]
    iintro ⟨⟨⟨HS0, HS1, HS2, HS3⟩, Hg⟩, ⟨%d, H⟩⟩
    iexists ⟨(dats m 0 c).before 18 t d, (held m c (t.val - 1) (by omega)).xn⟩
    isplitr
    · ipureintro
      by_cases h : t.val % 4 = 0
      · exact held_first m c t h _
      · rw [show (dats m 0 c).before 18 t d = (held m c (t.val - 1) (by omega)).lf from before18 m c d t.val t.isLt h]
        exact held_later m c t hz
    isplitl [H]; · iexact H
    iframe HS0 HS1 HS2 HS3
    iexact Hg

set_option maxHeartbeats 4000000 in
/-- The body at any point takes what the windows and the kept buffers held to what they hold after it. -/
theorem sound_body (c : Dev nD) (t : Fin cfg0.N) :
    before m c t ⊢ wp frame (wpE (defs₀ (F := F)) Variants.none c none) Set.univ (bodyAt0 t) (fun _ => after m c t) := by
  unfold before after bodyAt0
  simp only [before0_0_of m _ (A_eq m c 0) (fun _ => rfl),
    before0_1_of m _ (A_eq m c 1) (fun _ => rfl),
    before0_2_of m _ (A_eq m c 2) (fun _ => rfl),
    before0_3_of m _ (A_eq m c 3) (fun _ => rfl),
    before0_4_of m _ (A_eq m c 4) (fun _ => rfl),
    before0_5_of m _ (A_eq m c 5) (fun _ => rfl),
    before0_6_of m _ (A_eq m c 6) (fun _ => rfl),
    before0_7_of m _ (A_eq m c 7) (fun _ => rfl),
    before0_8_of m _ (A_eq m c 8) (fun _ => rfl),
    before0_9_of m _ (A_eq m c 9) (fun _ => rfl),
    before0_10_of m _ (A_eq m c 10) (fun _ => rfl),
    before0_11_of m _ (A_eq m c 11) (fun _ => rfl)]
  rw [show (dats m 0 c).owesAt () t.succ = (dats m 0 c).owesAt () t.castSucc from rfl]
  rw [show (dats m 0 c).Φ t.succ = Kept m c (t.val + 1) t.isLt from rfl, Kept_succ]
  rw [leaves_after _ 0 t rfl, leaves_after _ 1 t rfl, leaves_after _ 2 t rfl, leaves_after _ 3 t rfl, leaves_after _ 4 t rfl, leaves_after _ 5 t rfl, leaves_after _ 6 t rfl, leaves_after _ 7 t rfl, leaves_after _ 8 t rfl, leaves_after _ 9 t rfl, leaves_after _ 10 t rfl, leaves_after _ 11 t rfl, leaves_after _ 12 t rfl, leaves_after _ 13 t rfl]
  iintro ⟨HK, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17, H18⟩
  ihave HE := (enter m c t) $$ [HK H18]
  · isplitl [HK]; · iexact HK
    iexact H18
  icases HE with ⟨%s, %hs, H18, HS0, HS1, HS2, HS3, Hg⟩
  iapply (run c (grid0.coords t) _ _ _ _ _ _ _ _ _ _ _ _ _ _ _ _ _ _ _ _ _ _ _ _ _ _ _ _ _ _ _ _ _ _ _ _ _ _ _ _ _ _ _ _ _ _ (ins m c t) s Set.univ _)
  iframe H0 H1 H2 H3 H4 H5 H6 H7 H8 H9 H10 H11
  isplitl [H12]; · iexists _; iexact H12
  isplitl [H13]; · iexists _; iexact H13
  iframe H14 H15 H16 H17 H18 HS0 HS1 HS2 HS3
  rw [hs]
  iintro ⟨H0, H1, H2, H3, H4, H5, H6, H7, H8, H9, H10, H11, H12, H13, H14, H15, H16, H17, H18, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  iframe Ho H0 H1 H2 H3 H4 H5 H6 H7 H8 H9 H10 H11 H12 H13 H14 H15 H16 H17
  iapply (leaves18 m c t)
  iexact H18

/-- The program's body at a point is the kernel's body on the point's buffers. -/
theorem body_row (t : Fin cfg0.N) :
    defs₀ (F := F) .tc cfg0.body (cfg0.bodyArgs t (cfg0.slots t)) = bodyAt0 t := by
  unfold defs₀; rw [Defs.onTc_tc]

/-- The body meets what is said of every point. -/
theorem body_obligation (c : Dev nD) : BodyObligation (dats (F := F) m 0 c) (defs₀ (F := F)) Variants.none () Set.univ unsaid := fun t => by
  rw [bigSep_W0, bigSep_W0, body_row]
  exact triple_restated (sound_body m c t) rfl .rfl fun _ => .rfl

/-- What the launch hands over is what is held before the first point. -/
theorem hin (c : Dev nD) : Pipeline.ΦA spec0 c ⊢ (dats m 0 c).Φ 0 := by
  rw [show (dats m 0 c).Φ 0 = Kept m c 0 (Nat.zero_le _) from rfl, Kept_zero m c 0 _ rfl]
  try exact Idealize.SL.BI.Entails.refl _

/-- What is held after the last point gives back what the launch handed over. -/
theorem hout (c : Dev nD) : (dats m 0 c).Φ (Fin.last cfg0.N) ⊢ Pipeline.ΦA spec0 c := by
  have hl : (Fin.last cfg0.N).val ≠ 0 := by rw [Fin.val_last]; have : cfg0.N = 64 := N_0; omega
  rw [show (dats m 0 c).Φ (Fin.last cfg0.N) = Kept m c (Fin.last cfg0.N).val (Nat.le_of_lt_succ (Fin.last cfg0.N).isLt) from rfl, Kept_pos m c _ _ hl, scratch_eq]
  iintro ⟨⟨HS0, HS1, HS2, HS3⟩, Hg⟩
  isplitl [HS0 HS1 HS2 HS3]
  · isplitl [HS0]
    · iexists _; iexact HS0
    isplitl [HS1]; · iexact HS1
    isplitl [HS2]; · iexact HS2
    iexact HS3
  iexact Hg

/-! ## The program -/

set_option backward.isDefEq.respectTransparency.types false in
/-- The program run from any memory: every array holds what the points wrote, every other buffer what it held, and no
semaphore is left raised. -/
theorem run_main : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program run from any memory: its arguments hold what they held, no semaphore is left raised, and the arrays of
keys, values and log-forgets hold the blocks of the points that wrote them. -/
theorem result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.mem ((cfg0.win 12).arr.view.loc (c.tc : Thread nD τ)) = (dats m 0 c).arrAt 12 cfg0.N
      ∧ r.2.mem ((cfg0.win 13).arr.view.loc (c.tc : Thread nD τ)) = (dats m 0 c).arrAt 13 cfg0.N
      ∧ r.2.mem ((cfg0.win 18).arr.view.loc (c.tc : Thread nD τ)) = (dats m 0 c).arrAt 18 cfg0.N)
      ∧ r.2.sem = fun _ => 0) :=
  (θ_run defs _ _).mono (fun _ hr => ⟨fun c => ⟨⟨(Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c),
      (Pipeline.RDat.FramePost.arr_in hr.1 c 6 rfl).trans ((A_eq m c 6).trans (V_main_arg6 m c)),
      (Pipeline.RDat.FramePost.arr_in hr.1 c 7 rfl).trans ((A_eq m c 7).trans (V_main_arg7 m c)),
      ((hr.1 c).2 main_arg8 (Pipeline.mem_restRefs_of main_arg8 (by decide) (by decide))).trans (V_main_arg8 m c),
      (Pipeline.RDat.FramePost.arr_in hr.1 c 9 rfl).trans ((A_eq m c 9).trans (V_main_arg9 m c)),
      (Pipeline.RDat.FramePost.arr_in hr.1 c 10 rfl).trans ((A_eq m c 10).trans (V_main_arg10 m c)),
      (Pipeline.RDat.FramePost.arr_in hr.1 c 11 rfl).trans ((A_eq m c 11).trans (V_main_arg11 m c))⟩,
      ((dats m 0 c).toRForget_arrAt_iff (fgt := unsaid) (w := 12) rfl cfg0.N _).mp ((hr.1 c).1 12),
      ((dats m 0 c).toRForget_arrAt_iff (fgt := unsaid) (w := 13) rfl cfg0.N _).mp ((hr.1 c).1 13),
      ((dats m 0 c).toRForget_arrAt_iff (fgt := unsaid) (w := 18) rfl cfg0.N _).mp ((hr.1 c).1 18)⟩, hr.2⟩) (run_main m ρ)

end Cert.QkvIdeal.Gen

end
-- ==== Proof.QkvRefer.lean ====
module

public import proofs.«01_k».proof.Defs
public import proofs.«01_k».proof.Proof.Norm
public import proofs.«01_k».proof.Proof.QkvRun
public import proofs.«01_k».proof.Proof.Gen.QkvRefIdeal.Run
public import Idealize.ShloMosaic.Lib.Quiescent
public import Idealize.ShloMosaic.Lib.Pointwise

@[expose] public section

set_option maxRecDepth 16384

/-! The projections to keys, values and log-forgets, at an element: one point's blocks and the reference. -/

noncomputable section

namespace Cert.Layer

open Idealize.ShloMosaic

/-- A row of a head brought to root mean square one, and scaled by a gain. -/
def headed (p g : Fin 128 → EReal) (e : Fin 128) : EReal :=
  p e * Ideal.rsqrt (Ideal.div (∑ d, p d * p d) (Ideal.ofBits .f32 0x43000000#32) + Ideal.ofBits .f32 0x358637BD#32) * g e

/-- The logarithm of the logistic function. -/
def logLogistic (z : EReal) : EReal := -(max (-z) 0 + Ideal.log1p (Ideal.exp (-(max z (-z)))))

end Cert.Layer

namespace Cert.QkvIdeal.Proj

open Idealize.ShloMosaic Cert.QkvIdeal Cert.QkvIdeal.Gen Cert.Layer
open Idealize.ShloMosaic.TcCoe

/-- The scaled rows a point keeps. -/
theorem rows_apply (x : Vec Ideal S512x2048 .f32) (g : Vec Ideal S1x2048 .f32) (r : Fin 512) (k : Fin 2048) :
    (k0_pay3 x g (ix2 r k) : EReal) = scaled (fun k => x (ix2 r k)) (fun k => g (ix2 0 k)) k := by
  pointwise [k0_pay3, k0_pay2, k0_pay1]
  rfl

/-- A product of the keys, before they are brought to norm one. -/
theorem prod_apply (s : Vec Ideal S512x2048 .bf16) (w : Vec Ideal S2048x512 .bf16) (r : Fin 512) (e : Fin 512) :
    (k0_pay21 s w (ix2 r e) : EReal) = ∑ k : Fin 2048, (s (ix2 r k) : EReal) * w (ix2 k e) := by
  pointwise [k0_pay21]

/-- A value. -/
theorem value_apply (s : Vec Ideal S512x2048 .bf16) (w : Vec Ideal S2048x512 .bf16) (r : Fin 512) (e : Fin 512) :
    (k0_pay22 s w (ix2 r e) : EReal) = ∑ k : Fin 2048, (s (ix2 r k) : EReal) * w (ix2 k e) := by
  pointwise [k0_pay22]

/-- The products a log-forget is made of. -/
theorem gate_apply (x : Vec Ideal S512x2048 .f32) (g : Vec Ideal S1x2048 .f32) (w : Vec Ideal S2048x128 .bf16) (b : Vec Ideal S1x128 .f32) (r : Fin 512) (e : Fin 128) :
    (k0_pay5 x g w b (ix2 r e) : EReal) = (∑ k : Fin 2048, (k0_pay3 x g (ix2 r k) : EReal) * w (ix2 k e)) + b (ix2 0 e) := by
  pointwise [k0_pay5, k0_pay3, k0_pay2]

/-- A log-forget. -/
theorem forget_apply (x : Vec Ideal S512x2048 .f32) (g : Vec Ideal S1x2048 .f32) (w : Vec Ideal S2048x128 .bf16) (b : Vec Ideal S1x128 .f32) (r : Fin 512) (e : Fin 128) :
    (k0_pay9 (k0_pay6 x g w b) (k0_pay7 x g w b) (k0_pay8 (F := Ideal)) (ix2 r e) : EReal)
      = logLogistic ((∑ k : Fin 2048, (k0_pay3 x g (ix2 r k) : EReal) * w (ix2 k e)) + b (ix2 0 e)) := by
  rw [← gate_apply]
  pointwise [k0_pay9, k0_pay6, k0_pay7, k0_pay8]
  generalize (k0_pay5 x g w b (ix2 r e) : EReal) = z
  unfold logLogistic
  simp only [zero_sub]
  rfl

/-- The first head of a block of keys. -/
theorem head0_apply (s : Vec Ideal S512x2048 .bf16) (w : Vec Ideal S2048x512 .bf16) (g : Vec Ideal S1x128 .f32) (r : Fin 512) (e : Fin 128) :
    (k0_pay24 s w g (ix2 r e) : EReal) = headed (fun d => k0_pay21 s w (ix2 r ⟨d.val, by omega⟩)) (fun d => g (ix2 0 d)) e := by
  pointwise [k0_pay24]
  rfl

/-- The second head of a block of keys. -/
theorem head1_apply (p : Vec Ideal S512x512 .f32) (g : Vec Ideal S1x128 .f32) (r : Fin 512) (e : Fin 128) :
    (k0_pay27 p g (ix2 r e) : EReal) = headed (fun d => p (ix2 r ⟨128 + d.val, by omega⟩)) (fun d => g (ix2 0 d)) e := by
  pointwise [k0_pay27]
  rfl

/-- The third head of a block of keys. -/
theorem head2_apply (p : Vec Ideal S512x512 .f32) (g : Vec Ideal S1x128 .f32) (r : Fin 512) (e : Fin 128) :
    (k0_pay32 p g (ix2 r e) : EReal) = headed (fun d => p (ix2 r ⟨256 + d.val, by omega⟩)) (fun d => g (ix2 0 d)) e := by
  pointwise [k0_pay32]
  rfl

/-- The fourth head of a block of keys. -/
theorem head3_apply (p : Vec Ideal S512x512 .f32) (g : Vec Ideal S1x128 .f32) (r : Fin 512) (e : Fin 128) :
    (k0_pay35 p g (ix2 r e) : EReal) = headed (fun d => p (ix2 r ⟨384 + d.val, by omega⟩)) (fun d => g (ix2 0 d)) e := by
  pointwise [k0_pay35]
  rfl

/-- The block of keys, at an element: its head's row brought to norm one. -/
theorem keys_apply (s : Vec Ideal S512x2048 .bf16) (w : Vec Ideal S2048x512 .bf16) (g : Vec Ideal S1x128 .f32) (r : Fin 512) (h : Fin 4) (e : Fin 128)
    (f : Fin 512) (hf : f.val = h.val * 128 + e.val) :
    (keys s w g (ix2 r f) : EReal) = headed (fun d => ∑ k : Fin 2048, (s (ix2 r k) : EReal) * w (ix2 k ⟨h.val * 128 + d.val, by omega⟩)) (fun d => g (ix2 0 d)) e := by
  unfold keys
  refine (laid4_apply _ _ _ _ _ r h e f hf).trans ?_
  fin_cases h
  · refine (head0_apply _ _ _ _ _).trans ?_
    simp only [prod_apply]
    refine congrArg (fun p => headed p _ e) (funext fun d => Finset.sum_congr rfl fun k _ => congrArg (fun j : Fin 512 => (s (ix2 r k) : EReal) * w (ix2 k j)) (Fin.ext (by dsimp only; omega)))
  · refine (head1_apply _ _ _ _).trans ?_
    simp only [prod_apply]
  · refine (head2_apply _ _ _ _).trans ?_
    simp only [prod_apply]
  · refine (head3_apply _ _ _ _).trans ?_
    simp only [prod_apply]

end Cert.QkvIdeal.Proj

namespace Cert.QkvRefIdeal.Proj

open Idealize.ShloMosaic Idealize.SL.Sem Cert.QkvRefIdeal Cert.QkvRefIdeal.Gen Cert.Layer
open Idealize.ShloMosaic.TcCoe

/-- The reference's scaled rows. -/
def rows (x : FVec Ideal S8192x2048 .f32) (g : FVec Ideal S1x2048 .f32) : FVec Ideal S8192x2048 .f32 :=
  mulf (mulf x (broadcastInDim S8192x2048 ![0, 1] bcast_S8192x1_S8192x2048_0_1
      (Host.rsqrt (addf (Host.divf (broadcastInDim S8192x1 ![0] bcast_S8192_S8192x1_0 (Host.reduceAdd (mulf x x) (constant S_ .f32 0x00000000#32) reducesTo_S8192x2048_S8192_d1 h_S_))
          (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 g)

/-- A scaled row of the reference. -/
theorem rows_apply (x : FVec Ideal S8192x2048 .f32) (g : FVec Ideal S1x2048 .f32) (b : Fin 8192) (k : Fin 2048) :
    (rows x g (ix2 b k) : EReal) = scaled (fun k => x (ix2 b k)) (fun k => g (ix2 0 k)) k := by
  pointwise [rows]
  rfl

/-- The reference's products. -/
def times (x : FVec Ideal S8192x2048 .f32) (g : FVec Ideal S1x2048 .f32) (w : FVec Ideal S2048x2048 .f32) : FVec Ideal S8192x2048 .f32 :=
  Host.dotGeneral dot_S8192x2048_S2048x2048_S8192x2048_1_0_0_1_n_n none (rows x g) w

/-- A product of the reference. -/
theorem times_apply (x : FVec Ideal S8192x2048 .f32) (g : FVec Ideal S1x2048 .f32) (w : FVec Ideal S2048x2048 .f32) (b : Fin 8192) (e : Fin 2048) :
    (times x g w (ix2 b e) : EReal) = ∑ k, scaled (fun k => x (ix2 b k)) (fun k => g (ix2 0 k)) k * w (ix2 k e) := by
  pointwise [times, rows_apply]

/-- The reference's heads: the products, head by head. -/
def heads (p : FVec Ideal S8192x2048 .f32) : FVec Ideal S8192x16x128 .f32 := shapeCast _ p shapeCasts_S8192x2048_S8192x16x128

/-- A head's product. -/
theorem heads_apply (p : FVec Ideal S8192x2048 .f32) (b : Fin 8192) (h : Fin 16) (e : Fin 128) :
    (heads p (ix3 b h e) : EReal) = p (ix2 b ⟨h.val * 128 + e.val, by omega⟩) := split_apply _ p b h e

/-- The reference's keys, head by head, from the heads' products. -/
def unitHeads (p : FVec Ideal S8192x16x128 .f32) (g : FVec Ideal S1x128 .f32) : FVec Ideal S8192x16x128 .f32 :=
  mulf (mulf p (broadcastInDim S8192x16x128 ![0, 1, 2] bcast_S8192x16x1_S8192x16x128_0_1_2
      (Host.rsqrt (addf (Host.divf (broadcastInDim S8192x16x1 ![0, 1] bcast_S8192x16_S8192x16x1_0_1 (Host.reduceAdd (mulf p p) (constant S_ .f32 0x00000000#32) reducesTo_S8192x16x128_S8192x16_d2 h_S_))
          (broadcastInDim S8192x16x1 ![] bcast_S_S8192x16x1 (constant S_ .f32 0x43000000#32))) (broadcastInDim S8192x16x1 ![] bcast_S_S8192x16x1 (constant S_ .f32 0x358637BD#32))))))
    (broadcastInDim S8192x16x128 ![0, 1, 2] bcast_S1x1x128_S8192x16x128_0_1_2 (broadcastInDim S1x1x128 ![2] bcast_S128_S1x1x128_2 (shapeCast _ g shapeCasts_S1x128_S128)))

/-- A key of a head. -/
theorem unitHeads_apply (p : FVec Ideal S8192x16x128 .f32) (g : FVec Ideal S1x128 .f32) (b : Fin 8192) (h : Fin 16) (e : Fin 128) :
    (unitHeads p g (ix3 b h e) : EReal) = headed (fun d => p (ix3 b h d)) (fun d => g (ix2 0 d)) e := by
  pointwise [unitHeads]
  rfl

/-- The reference's keys. -/
def keys (x : FVec Ideal S8192x2048 .f32) (g : FVec Ideal S1x2048 .f32) (w : FVec Ideal S2048x2048 .f32) (gk : FVec Ideal S1x128 .f32) : FVec Ideal S8192x2048 .f32 :=
  shapeCast _ (unitHeads (heads (times x g w)) gk) shapeCasts_S8192x16x128_S8192x2048

/-- A key of the reference. -/
theorem keys_apply (x : FVec Ideal S8192x2048 .f32) (g : FVec Ideal S1x2048 .f32) (w : FVec Ideal S2048x2048 .f32) (gk : FVec Ideal S1x128 .f32) (b : Fin 8192) (h : Fin 16) (e : Fin 128)
    (f : Fin 2048) (hf : f.val = h.val * 128 + e.val) :
    (keys x g w gk (ix2 b f) : EReal)
      = headed (fun d => ∑ k, scaled (fun k => x (ix2 b k)) (fun k => g (ix2 0 k)) k * w (ix2 k ⟨h.val * 128 + d.val, by omega⟩)) (fun d => gk (ix2 0 d)) e := by
  unfold keys
  refine (join_apply _ _ b h e f hf).trans ?_
  refine (unitHeads_apply _ _ b h e).trans ?_
  simp only [heads_apply, times_apply]

/-- What the reference's log-forgets are made of. -/
def gates (x : FVec Ideal S8192x2048 .f32) (g : FVec Ideal S1x2048 .f32) (w : FVec Ideal S2048x128 .f32) (bf : FVec Ideal S1x128 .f32) : FVec Ideal S8192x128 .f32 :=
  addf (Host.dotGeneral dot_S8192x2048_S2048x128_S8192x128_1_0_0_1_n_n none (rows x g) w)
    (broadcastInDim S8192x128 ![0, 1] bcast_S1x128_S8192x128_0_1 (broadcastInDim S1x128 ![1] bcast_S128_S1x128_1 (shapeCast _ bf shapeCasts_S1x128_S128)))

/-- The same, at an element. -/
theorem gates_apply (x : FVec Ideal S8192x2048 .f32) (g : FVec Ideal S1x2048 .f32) (w : FVec Ideal S2048x128 .f32) (bf : FVec Ideal S1x128 .f32) (b : Fin 8192) (e : Fin 128) :
    (gates x g w bf (ix2 b e) : EReal) = (∑ k, scaled (fun k => x (ix2 b k)) (fun k => g (ix2 0 k)) k * w (ix2 k e)) + bf (ix2 0 e) := by
  pointwise [gates, rows_apply]

/-- The reference's logarithm of the logistic function. -/
def logs (z : FVec Ideal S8192x128 .f32) : FVec Ideal S8192x128 .f32 :=
  let n := Host.negf z
  let o := broadcastInDim S8192x128 ![] bcast_S_S8192x128 (constant S_ .f32 0x00000000#32)
  Host.negf (select (cmpf .une (subf n o) (subf n o)) (addf n o) (addf (maximumf n o) (Host.log1p (Host.exp (Host.negf (Host.absf (subf n o)))))))

/-- The same, at an element. -/
theorem logs_apply (z : FVec Ideal S8192x128 .f32) (b : Fin 8192) (e : Fin 128) : (logs z (ix2 b e) : EReal) = logLogistic (z (ix2 b e)) := by
  pointwise [logs]
  generalize (z (ix2 b e) : EReal) = y
  unfold logLogistic
  simp
  rw [show FloatOps.absf (-y) = max (-y) (- -y) from rfl, neg_neg, max_comm (-y) y]

/-- The reference's log-forgets are those of its gates. -/
theorem res_eq (m : (ℓ : Loc nD τ sig) → Buf (Elt Ideal) ℓ) (c : Dev nD) :
    Cert.QkvRefIdeal.Value.res_main_v33 m c = logs (gates (m ((c.tc : Thread nD τ).loc main_arg0)) (m ((c.tc : Thread nD τ).loc main_arg1)) (m ((c.tc : Thread nD τ).loc main_arg8)) (m ((c.tc : Thread nD τ).loc main_arg9))) := rfl

end Cert.QkvRefIdeal.Proj
-- ==== Proof.Qkv.lean ====
module

public import proofs.«01_k».proof.Defs
public import proofs.«01_k».proof.Proof.QkvFrame
public import proofs.«01_k».proof.Proof.QkvRefer
public import Idealize.ShloMosaic.Lib.Quiescent
public import Idealize.ShloMosaic.Lib.Pointwise
public import Idealize.ShloMosaic.Lib.Pipeline.ValueKit
public import Idealize.ShloMosaic.Lib.WholeRead
public import Idealize.ShloMosaic.Lib.Tactic.CleanTypes

@[expose] public section

set_option maxRecDepth 16384

/-! The projections to keys, values and log-forgets: the three arrays, and their reference's. -/

noncomputable section

namespace Cert.Layer

open Idealize.ShloMosaic

/-- A value, or a key before it is brought to norm one: a product of the scaled rows with the weights. -/
def project {n : ℕ} (x : (⟨2, ![n, 2048]⟩ : Shape).Idx → EReal) (g : (⟨2, ![1, 2048]⟩ : Shape).Idx → EReal)
    (w : (⟨2, ![2048, 2048]⟩ : Shape).Idx → EReal) (b : Fin n) (e : Fin 2048) : EReal :=
  ∑ k, scaled (fun k => x (ix2 b k)) (fun k => g (ix2 0 k)) k * w (ix2 k e)

/-- A key: the products of its head brought to norm one and scaled by the gain. -/
def key {n : ℕ} (x : (⟨2, ![n, 2048]⟩ : Shape).Idx → EReal) (g : (⟨2, ![1, 2048]⟩ : Shape).Idx → EReal)
    (w : (⟨2, ![2048, 2048]⟩ : Shape).Idx → EReal) (gk : (⟨2, ![1, 128]⟩ : Shape).Idx → EReal) (b : Fin n) (e : Fin 2048) : EReal :=
  headed (fun d => project x g w b ⟨e.val / 128 * 128 + d.val, by omega⟩) (fun d => gk (ix2 0 d)) ⟨e.val % 128, by omega⟩

/-- A log-forget. -/
def forget {n : ℕ} (x : (⟨2, ![n, 2048]⟩ : Shape).Idx → EReal) (g : (⟨2, ![1, 2048]⟩ : Shape).Idx → EReal)
    (w : (⟨2, ![2048, 128]⟩ : Shape).Idx → EReal) (bf : (⟨2, ![1, 128]⟩ : Shape).Idx → EReal) (b : Fin n) (e : Fin 128) : EReal :=
  logLogistic ((∑ k, scaled (fun k => x (ix2 b k)) (fun k => g (ix2 0 k)) k * w (ix2 k e)) + bf (ix2 0 e))

end Cert.Layer

namespace Cert.QkvIdeal.Proj

open Idealize.ShloMosaic Idealize.SL.Sem Cert.QkvIdeal Cert.QkvIdeal.Gen Cert.Layer
open Idealize.ShloMosaic.TcCoe

variable (m : (ℓ : Loc nD τ sig) → Buf (Elt Ideal) ℓ) (c : Dev nD)

/-- The residual stream's block at a point. -/
theorem index_x : ∀ t : Fin cfg0.N, win0_0.index t = ![t.val / 4, 0] := (by decide +kernel : ∀ t : Fin grid0.N, win0_0.index t = ![t.val / 4, 0])

/-- The gain's block at a point. -/
theorem index_g : ∀ t : Fin cfg0.N, win0_1.index t = ![0, 0] := (by decide +kernel : ∀ t : Fin grid0.N, win0_1.index t = ![0, 0])

/-- The block of the keys' weights at a point. -/
theorem index_wk : ∀ t : Fin cfg0.N, win0_3.index t = ![0, t.val % 4] := (by decide +kernel : ∀ t : Fin grid0.N, win0_3.index t = ![0, t.val % 4])

/-- The block of the values' weights at a point. -/
theorem index_wv : ∀ t : Fin cfg0.N, win0_4.index t = ![0, t.val % 4] := (by decide +kernel : ∀ t : Fin grid0.N, win0_4.index t = ![0, t.val % 4])

/-- The block of the keys' gain at a point. -/
theorem index_gk : ∀ t : Fin cfg0.N, win0_6.index t = ![0, 0] := (by decide +kernel : ∀ t : Fin grid0.N, win0_6.index t = ![0, 0])

/-- The block of the log-forgets' weights at a point. -/
theorem index_wf : ∀ t : Fin cfg0.N, win0_8.index t = ![0, 0] := (by decide +kernel : ∀ t : Fin grid0.N, win0_8.index t = ![0, 0])

/-- The block of the log-forgets' offsets at a point. -/
theorem index_bf : ∀ t : Fin cfg0.N, win0_9.index t = ![0, 0] := (by decide +kernel : ∀ t : Fin grid0.N, win0_9.index t = ![0, 0])

/-- The block of keys at a point. -/
theorem index_k : ∀ t : Fin cfg0.N, win0_12.index t = ![t.val / 4, t.val % 4] := (by decide +kernel : ∀ t : Fin grid0.N, win0_12.index t = ![t.val / 4, t.val % 4])

/-- The block of values at a point. -/
theorem index_v : ∀ t : Fin cfg0.N, win0_13.index t = ![t.val / 4, t.val % 4] := (by decide +kernel : ∀ t : Fin grid0.N, win0_13.index t = ![t.val / 4, t.val % 4])

/-- The block of log-forgets at a point. -/
theorem index_lf : ∀ t : Fin cfg0.N, win0_18.index t = ![t.val / 4, 0] := (by decide +kernel : ∀ t : Fin grid0.N, win0_18.index t = ![t.val / 4, 0])

/-- The residual stream's block, at an element. -/
theorem x_block (t : Fin cfg0.N) (r : Fin 512) (e : Fin 2048) (b : Fin 8192) (hb : b.val = t.val / 4 * 512 + r.val) :
    iblk m c 0 t (ix2 r e) = m ((c.tc : Thread nD τ).loc main_arg0) (ix2 b e) := by
  rw [← V_main_arg0 m c]
  blk_simp [iblk]
  refine congrArg (V m c main_arg0) ?_
  funext a
  apply Fin.ext
  fin_cases a <;> blk_simp [index_x] <;> simp <;> omega

/-- The gain's block, at an element. -/
theorem g_block (t : Fin cfg0.N) (e : Fin 2048) : iblk m c 1 t (ix2 0 e) = m ((c.tc : Thread nD τ).loc main_arg1) (ix2 0 e) := by
  rw [← V_main_arg1 m c]
  blk_simp [iblk]
  refine congrArg (V m c main_arg1) ?_
  funext a
  apply Fin.ext
  fin_cases a <;> blk_simp [index_g] <;> simp

/-- The keys' weights the call is launched with. -/
theorem weights_k (y : S2048x2048.Idx) : (V m c main_v0 y : EReal) = m ((c.tc : Thread nD τ).loc main_arg3) y := by
  simp only [V, hostOps0, List.flatten_cons, List.flatten_nil, List.append_nil, List.cons_append, List.nil_append]
  after_results_simp
  rfl

/-- The values' weights the call is launched with. -/
theorem weights_v (y : S2048x2048.Idx) : (V m c main_v1 y : EReal) = m ((c.tc : Thread nD τ).loc main_arg4) y := by
  simp only [V, hostOps0, List.flatten_cons, List.flatten_nil, List.append_nil, List.cons_append, List.nil_append]
  after_results_simp
  rfl

/-- The log-forgets' weights the call is launched with. -/
theorem weights_f (y : S2048x128.Idx) : (V m c main_v3 y : EReal) = m ((c.tc : Thread nD τ).loc main_arg8) y := by
  simp only [V, hostOps0, List.flatten_cons, List.flatten_nil, List.append_nil, List.cons_append, List.nil_append]
  after_results_simp
  rfl

/-- A block of the keys' weights, at an element. -/
theorem wk_block (t : Fin cfg0.N) (k : Fin 2048) (e : Fin 512) (f : Fin 2048) (hf : f.val = t.val % 4 * 512 + e.val) :
    (iblk m c 3 t (ix2 k e) : EReal) = m ((c.tc : Thread nD τ).loc main_arg3) (ix2 k f) := by
  rw [← weights_k m c]
  blk_simp [iblk]
  refine congrArg (V m c main_v0) ?_
  funext a
  apply Fin.ext
  fin_cases a <;> blk_simp [index_wk] <;> simp <;> omega

/-- A block of the values' weights, at an element. -/
theorem wv_block (t : Fin cfg0.N) (k : Fin 2048) (e : Fin 512) (f : Fin 2048) (hf : f.val = t.val % 4 * 512 + e.val) :
    (iblk m c 4 t (ix2 k e) : EReal) = m ((c.tc : Thread nD τ).loc main_arg4) (ix2 k f) := by
  rw [← weights_v m c]
  blk_simp [iblk]
  refine congrArg (V m c main_v1) ?_
  funext a
  apply Fin.ext
  fin_cases a <;> blk_simp [index_wv] <;> simp <;> omega

/-- The keys' gain, at an element. -/
theorem gk_block (t : Fin cfg0.N) (e : Fin 128) : iblk m c 6 t (ix2 0 e) = m ((c.tc : Thread nD τ).loc main_arg6) (ix2 0 e) := by
  rw [← V_main_arg6 m c]
  blk_simp [iblk]
  refine congrArg (V m c main_arg6) ?_
  funext a
  apply Fin.ext
  fin_cases a <;> blk_simp [index_gk] <;> simp

/-- The log-forgets' weights, at an element. -/
theorem wf_block (t : Fin cfg0.N) (k : Fin 2048) (e : Fin 128) : (iblk m c 8 t (ix2 k e) : EReal) = m ((c.tc : Thread nD τ).loc main_arg8) (ix2 k e) := by
  rw [← weights_f m c]
  blk_simp [iblk]
  refine congrArg (V m c main_v3) ?_
  funext a
  apply Fin.ext
  fin_cases a <;> blk_simp [index_wf] <;> simp

/-- The log-forgets' offsets, at an element. -/
theorem bf_block (t : Fin cfg0.N) (e : Fin 128) : iblk m c 9 t (ix2 0 e) = m ((c.tc : Thread nD τ).loc main_arg9) (ix2 0 e) := by
  rw [← V_main_arg9 m c]
  blk_simp [iblk]
  refine congrArg (V m c main_arg9) ?_
  funext a
  apply Fin.ext
  fin_cases a <;> blk_simp [index_bf] <;> simp

/-- What a tile's first column block makes. -/
theorem held_at_first (t : Fin cfg0.N) (h : t.val % 4 = 0) :
    held m c t.val t.isLt = ⟨k0_pay9 (k0_pay6 (iblk m c 0 t) (iblk m c 1 t) (iblk m c 8 t) (iblk m c 9 t)) (k0_pay7 (iblk m c 0 t) (iblk m c 1 t) (iblk m c 8 t) (iblk m c 9 t)) (k0_pay8 (F := Ideal)),
      k0_pay3 (iblk m c 0 t) (iblk m c 1 t)⟩ := by
  rw [← held_first m c t h empty, step_first ((first_iff t).mpr h)]
  rfl

/-- The rows a point keeps are the scaled rows of its tile. -/
theorem rows_held (n : ℕ) (hn : n < cfg0.N) (r : Fin 512) (k : Fin 2048) (b : Fin 8192) (hb : b.val = n / 4 * 512 + r.val) :
    ((held m c n hn).xn (ix2 r k) : EReal) = scaled (fun k => m ((c.tc : Thread nD τ).loc main_arg0) (ix2 b k)) (fun k => m ((c.tc : Thread nD τ).loc main_arg1) (ix2 0 k)) k := by
  by_cases h : n % 4 = 0
  · rw [held_at_first m c ⟨n, hn⟩ h]
    dsimp only
    rw [rows_apply]
    simp only [x_block m c ⟨n, hn⟩ r _ b hb, g_block]
  · rw [held_same m c ⟨n, hn⟩ h]
    exact rows_held (n - 1) (by omega) r k b (by omega)
termination_by n
decreasing_by omega

/-- The log-forgets a point keeps are those of its tile. -/
theorem forgets_held (n : ℕ) (hn : n < cfg0.N) (r : Fin 512) (e : Fin 128) (b : Fin 8192) (hb : b.val = n / 4 * 512 + r.val) :
    ((held m c n hn).lf (ix2 r e) : EReal) = forget (n := 8192) (m ((c.tc : Thread nD τ).loc main_arg0)) (m ((c.tc : Thread nD τ).loc main_arg1)) (m ((c.tc : Thread nD τ).loc main_arg8))
      (m ((c.tc : Thread nD τ).loc main_arg9)) b e := by
  by_cases h : n % 4 = 0
  · rw [held_at_first m c ⟨n, hn⟩ h]
    dsimp only
    rw [forget_apply]
    unfold forget
    simp only [rows_apply, x_block m c ⟨n, hn⟩ r _ b hb, g_block, wf_block, bf_block]
  · rw [held_same m c ⟨n, hn⟩ h]
    exact forgets_held (n - 1) (by omega) r e b (by omega)
termination_by n
decreasing_by omega

/-- The call's keys. -/
theorem keys_eq : (dats m 0 c).arrAt 12 cfg0.N = fun y : S8192x2048.Idx => key (n := 8192) (m ((c.tc : Thread nD τ).loc main_arg0)) (m ((c.tc : Thread nD τ).loc main_arg1))
    (m ((c.tc : Thread nD τ).loc main_arg3)) (m ((c.tc : Thread nD τ).loc main_arg6)) (y 0) (y 1) := by
  refine (dats m 0 c).arrAt_eq_of_covers 12 _ (by decide +kernel) fun t hf y => ?_
  have ht : t.val < 64 := (by decide +kernel : ∀ t : Fin grid0.N, t.val < 64) t
  blk_simp
  rw [after12]
  obtain ⟨r, e, hy⟩ : ∃ (r : Fin 512) (e : Fin 512), y = (ix2 r e : S512x512.Idx) := ⟨y 0, y 1, by funext a; fin_cases a <;> rfl⟩
  subst hy
  have e0 : (((win0_12.blk t).view.emb (ix2 r e : S512x512.Idx)) 0 : ℕ) = t.val / 4 * 512 + r.val := by blk_simp [index_k]
  have e1 : (((win0_12.blk t).view.emb (ix2 r e : S512x512.Idx)) 1 : ℕ) = t.val % 4 * 512 + e.val := by blk_simp [index_k]
  generalize (win0_12.blk t).view.emb (ix2 r e : S512x512.Idx) = z at e0 e1
  refine (keys_apply _ _ _ r ⟨e.val / 128, by omega⟩ ⟨e.val % 128, by omega⟩ e (by dsimp only; omega)).trans ?_
  unfold key project
  simp only [rows_held m c t.val t.isLt r _ (z 0) e0, gk_block]
  refine congrArg₂ (fun p q => headed p _ q) (funext fun d => Finset.sum_congr rfl fun k _ => congrArg _ ?_) (Fin.ext ?_)
  · exact wk_block m c t k _ _ (by dsimp only; omega)
  · dsimp only; omega

/-- The call's values. -/
theorem values_eq : (dats m 0 c).arrAt 13 cfg0.N = fun y : S8192x2048.Idx => project (n := 8192) (m ((c.tc : Thread nD τ).loc main_arg0)) (m ((c.tc : Thread nD τ).loc main_arg1))
    (m ((c.tc : Thread nD τ).loc main_arg4)) (y 0) (y 1) := by
  refine (dats m 0 c).arrAt_eq_of_covers 13 _ (by decide +kernel) fun t hf y => ?_
  have ht : t.val < 64 := (by decide +kernel : ∀ t : Fin grid0.N, t.val < 64) t
  blk_simp
  rw [after13]
  obtain ⟨r, e, hy⟩ : ∃ (r : Fin 512) (e : Fin 512), y = (ix2 r e : S512x512.Idx) := ⟨y 0, y 1, by funext a; fin_cases a <;> rfl⟩
  subst hy
  have e0 : (((win0_13.blk t).view.emb (ix2 r e : S512x512.Idx)) 0 : ℕ) = t.val / 4 * 512 + r.val := by blk_simp [index_v]
  have e1 : (((win0_13.blk t).view.emb (ix2 r e : S512x512.Idx)) 1 : ℕ) = t.val % 4 * 512 + e.val := by blk_simp [index_v]
  generalize (win0_13.blk t).view.emb (ix2 r e : S512x512.Idx) = z at e0 e1
  refine (value_apply _ _ r e).trans ?_
  unfold project
  simp only [rows_held m c t.val t.isLt r _ (z 0) e0, wv_block m c t _ e (z 1) e1]

/-- The call's log-forgets. -/
theorem forgets_eq : (dats m 0 c).arrAt 18 cfg0.N = fun y : S8192x128.Idx => forget (n := 8192) (m ((c.tc : Thread nD τ).loc main_arg0)) (m ((c.tc : Thread nD τ).loc main_arg1))
    (m ((c.tc : Thread nD τ).loc main_arg8)) (m ((c.tc : Thread nD τ).loc main_arg9)) (y 0) (y 1) := by
  refine (dats m 0 c).arrAt_eq_of_covers 18 _ (by decide +kernel) fun t hf y => ?_
  have ht : t.val < 64 := (by decide +kernel : ∀ t : Fin grid0.N, t.val < 64) t
  blk_simp
  rw [after18]
  obtain ⟨r, e, hy⟩ : ∃ (r : Fin 512) (e : Fin 128), y = (ix2 r e : S512x128.Idx) := ⟨y 0, y 1, by funext a; fin_cases a <;> rfl⟩
  subst hy
  have e0 : (((win0_18.blk t).view.emb (ix2 r e : S512x128.Idx)) 0 : ℕ) = t.val / 4 * 512 + r.val := by blk_simp [index_lf]
  have e1 : (((win0_18.blk t).view.emb (ix2 r e : S512x128.Idx)) 1 : ℕ) = e.val := by blk_simp [index_lf]
  generalize (win0_18.blk t).view.emb (ix2 r e : S512x128.Idx) = z at e0 e1
  refine (forgets_held m c t.val t.isLt r e (z 0) e0).trans ?_
  exact congrArg _ (Fin.ext e1.symm)

end Cert.QkvIdeal.Proj

namespace Cert.Layer

open Idealize.ShloMosaic Idealize.SL.Sem
open Idealize.ShloMosaic.TcCoe

/-- The projections and their reference leave the same keys, values and log-forgets. -/
theorem qkv : Cert.algebraic_QkvIdeal_QkvRefIdeal := by
  intro m ρ m' ρ' _ harg
  refine ⟨fun c => fun y : Cert.QkvIdeal.S8192x2048.Idx => key (n := 8192) (m ((c.tc : Thread Cert.QkvIdeal.nD Cert.QkvIdeal.τ).loc Cert.QkvIdeal.main_arg0))
      (m ((c.tc : Thread Cert.QkvIdeal.nD Cert.QkvIdeal.τ).loc Cert.QkvIdeal.main_arg1)) (m ((c.tc : Thread Cert.QkvIdeal.nD Cert.QkvIdeal.τ).loc Cert.QkvIdeal.main_arg3))
      (m ((c.tc : Thread Cert.QkvIdeal.nD Cert.QkvIdeal.τ).loc Cert.QkvIdeal.main_arg6)) (y 0) (y 1),
    fun c => fun y : Cert.QkvIdeal.S8192x2048.Idx => project (n := 8192) (m ((c.tc : Thread Cert.QkvIdeal.nD Cert.QkvIdeal.τ).loc Cert.QkvIdeal.main_arg0))
      (m ((c.tc : Thread Cert.QkvIdeal.nD Cert.QkvIdeal.τ).loc Cert.QkvIdeal.main_arg1)) (m ((c.tc : Thread Cert.QkvIdeal.nD Cert.QkvIdeal.τ).loc Cert.QkvIdeal.main_arg4)) (y 0) (y 1),
    fun c => fun y : Cert.QkvIdeal.S8192x128.Idx => forget (n := 8192) (m ((c.tc : Thread Cert.QkvIdeal.nD Cert.QkvIdeal.τ).loc Cert.QkvIdeal.main_arg0))
      (m ((c.tc : Thread Cert.QkvIdeal.nD Cert.QkvIdeal.τ).loc Cert.QkvIdeal.main_arg1)) (m ((c.tc : Thread Cert.QkvIdeal.nD Cert.QkvIdeal.τ).loc Cert.QkvIdeal.main_arg8))
      (m ((c.tc : Thread Cert.QkvIdeal.nD Cert.QkvIdeal.τ).loc Cert.QkvIdeal.main_arg9)) (y 0) (y 1),
    (θ_run _ _ _).mono (fun r h c => ⟨(h.1 c).2.1.trans (Cert.QkvIdeal.Proj.keys_eq m c), (h.1 c).2.2.1.trans (Cert.QkvIdeal.Proj.values_eq m c),
      (h.1 c).2.2.2.trans (Cert.QkvIdeal.Proj.forgets_eq m c), (h.1 c).1⟩) (Cert.QkvIdeal.Gen.result m ρ),
    (θ_run _ _ _).mono (fun r h c => ⟨(h c).1.trans ?_, (h c).2.1.trans ?_, (h c).2.2.1.trans ?_, (h c).2.2.2⟩) (Cert.QkvRefIdeal.Value.run m' ρ')⟩
  · obtain ⟨e0, e1, e2, e3, e4, e5, e6, e7, e8, e9, e10, e11⟩ := harg c
    rw [e0, e1, e3, e6]
    funext y
    have hy : y = ix2 (y 0) (y 1) := by funext a; fin_cases a <;> rfl
    rw [hy]
    have h1 : (y 1).val < 2048 := (y 1).isLt
    exact Cert.QkvRefIdeal.Proj.keys_apply _ _ _ _ (y 0) ⟨(y 1).val / 128, by omega⟩ ⟨(y 1).val % 128, by omega⟩ (y 1) (by dsimp only; omega)
  · obtain ⟨e0, e1, e2, e3, e4, e5, e6, e7, e8, e9, e10, e11⟩ := harg c
    rw [e0, e1, e4]
    funext y
    have hy : y = ix2 (y 0) (y 1) := by funext a; fin_cases a <;> rfl
    rw [hy]
    exact Cert.QkvRefIdeal.Proj.times_apply _ _ _ (y 0) (y 1)
  · obtain ⟨e0, e1, e2, e3, e4, e5, e6, e7, e8, e9, e10, e11⟩ := harg c
    rw [Cert.QkvRefIdeal.Proj.res_eq, e0, e1, e8, e9]
    funext y
    have hy : y = ix2 (y 0) (y 1) := by funext a; fin_cases a <;> rfl
    rw [hy]
    exact (Cert.QkvRefIdeal.Proj.logs_apply _ (y 0) (y 1)).trans (congrArg logLogistic (Cert.QkvRefIdeal.Proj.gates_apply _ _ _ _ (y 0) (y 1)))

/-- The reference runs, its arguments unchanged and every counter back at zero. -/
theorem qkv_reference : Cert.quiescent_QkvRefIdeal :=
  fun m ρ _ => (θ_run _ _ _).mono (fun r h => ⟨fun c => (h c).2.2.2, sem_eq_zero_of_no_sems rfl r.2⟩) (Cert.QkvRefIdeal.Value.run m ρ)

/-- The kernel runs, its arguments unchanged and every counter back at zero. -/
theorem qkv_runs : Cert.quiescent_QkvIdeal :=
  fun m ρ _ => (θ_run _ _ _).mono (fun r h => ⟨fun c => (h.1 c).1, h.2⟩) (Cert.QkvIdeal.Gen.result m ρ)

end Cert.Layer
-- ==== Proof.QkvReal.lean ====
module

public import proofs.«01_k».proof.Defs
public import proofs.«01_k».proof.Proof.QkvFrame
public import proofs.«01_k».proof.Proof.Gen.Qkv

@[expose] public section

set_option maxRecDepth 16384

/-! The projections' kernel with its machine numbers: the same program as the idealized one. -/

noncomputable section

namespace Cert.Layer

open Idealize.ShloMosaic Idealize.SL.Sem
open Idealize.ShloMosaic.TcCoe

set_option maxHeartbeats 20000000 in
/-- The two programs' kernel bodies are one. -/
theorem qkv_bodies_eq : Cert.Qkv.defs₀ (F := Bits) = Cert.QkvIdeal.defs₀ (F := Bits) := by
  unfold Cert.Qkv.defs₀ Cert.QkvIdeal.defs₀
  refine congrArg Defs.onTc (funext fun l => funext fun args => ?_)
  obtain ⟨l, hl⟩ := l
  obtain rfl : l = 0 := by omega
  obtain ⟨t, s⟩ := args
  rfl

set_option maxHeartbeats 20000000 in
/-- The two programs' tables are one. -/
theorem qkv_tables_eq : Cert.Qkv.defs (F := Bits) = Cert.QkvIdeal.defs (F := Bits) := by
  unfold Cert.Qkv.defs Cert.QkvIdeal.defs
  exact congrArg (Pipeline.defs Cert.QkvIdeal.pcfgs) qkv_bodies_eq

/-- The kernel with its machine numbers runs, its arguments unchanged and every counter back at zero. -/
theorem qkv_real_runs : Cert.quiescent_Qkv := by
  intro m ρ _
  have h := (θ_run (Cert.QkvIdeal.defs (F := Bits)) _ _).mono (fun r h => And.intro (fun c => (h.1 c).1) h.2) (Cert.QkvIdeal.Gen.result (F := Bits) m ρ)
  rw [qkv_tables_eq]
  exact h

end Cert.Layer
-- ==== Proof.Ple.lean ====
module

public import proofs.«01_k».proof.Defs
public import proofs.«01_k».proof.Proof.Norm
public import proofs.«01_k».proof.Proof.Gen.PleIdeal.Value
public import proofs.«01_k».proof.Proof.Gen.PleRefIdeal.Run
public import Idealize.ShloMosaic.Lib.Quiescent
public import Idealize.ShloMosaic.Lib.Pointwise
public import Idealize.ShloMosaic.Lib.Pipeline.ValueKit
public import Idealize.ShloMosaic.Lib.Tactic.CleanTypes

@[expose] public section

set_option maxRecDepth 16384

/-! The gate of the per-layer embeddings: one point's block, the array, the reference. -/

noncomputable section

namespace Cert.Layer

open Idealize.ShloMosaic

/-- The residual stream plus the gated projection of the per-layer embeddings, at layer one. -/
def gated {n : ℕ} (h : (⟨2, ![n, 2048]⟩ : Shape).Idx → EReal) (g : (⟨2, ![1, 2048]⟩ : Shape).Idx → EReal) (p : (⟨2, ![n, 256]⟩ : Shape).Idx → EReal)
    (w : (⟨3, ![2, 2048, 2048]⟩ : Shape).Idx → EReal) (v : (⟨3, ![2, 256, 2048]⟩ : Shape).Idx → EReal) (b : Fin n) (e : Fin 2048) : EReal :=
  h (ix2 b e) + Ideal.logistic (∑ k, scaled (fun k => h (ix2 b k)) (fun k => g (ix2 0 k)) k * w (ix3 1 k e)) * ∑ k, p (ix2 b k) * v (ix3 1 k e)

end Cert.Layer

namespace Cert.PleIdeal.Gate

open Idealize.ShloMosaic Idealize.SL.Sem Cert.PleIdeal Cert.PleIdeal.Gen Cert.Layer
open Idealize.ShloMosaic.TcCoe

/-- What a point stores, at an element. -/
theorem pay_apply (x : Vec Ideal S512x2048 .f32) (g : Vec Ideal S1x2048 .f32) (w : Vec Ideal S1x2048x2048 .bf16) (p : Vec Ideal S512x256 .f32)
    (v : Vec Ideal S1x256x2048 .bf16) (r : Fin 512) (e : Fin 2048) :
    k0_pay1 x g w p v (ix2 r e) = (x (ix2 r e) : EReal) + Ideal.logistic (∑ k, scaled (fun k => x (ix2 r k)) (fun k => g (ix2 0 k)) k * w (ix3 0 k e))
      * ∑ k, (p (ix2 r k) : EReal) * v (ix3 0 k e) := by
  pointwise [k0_pay1]
  rfl

variable (m : (ℓ : Loc nD τ sig) → Buf (Elt Ideal) ℓ) (c : Dev nD)

/-- The residual stream's block at a point. -/
theorem index_h : ∀ t : Fin cfg0.N, win0_0.index t = ![t.val, 0] := (by decide +kernel : ∀ t : Fin grid0.N, win0_0.index t = ![t.val, 0])

/-- The gain's block at a point. -/
theorem index_g : ∀ t : Fin cfg0.N, win0_1.index t = ![0, 0] := (by decide +kernel : ∀ t : Fin grid0.N, win0_1.index t = ![0, 0])

/-- The embeddings' block at a point. -/
theorem index_p : ∀ t : Fin cfg0.N, win0_2.index t = ![t.val, 0] := (by decide +kernel : ∀ t : Fin grid0.N, win0_2.index t = ![t.val, 0])

/-- The gate's weights' block at a point. -/
theorem index_w : ∀ t : Fin cfg0.N, win0_3.index t = ![1, 0, 0] := (by decide +kernel : ∀ t : Fin grid0.N, win0_3.index t = ![1, 0, 0])

/-- The projection's weights' block at a point. -/
theorem index_v : ∀ t : Fin cfg0.N, win0_4.index t = ![1, 0, 0] := (by decide +kernel : ∀ t : Fin grid0.N, win0_4.index t = ![1, 0, 0])

/-- The output block at a point. -/
theorem index_o : ∀ t : Fin cfg0.N, win0_5.index t = ![t.val, 0] := (by decide +kernel : ∀ t : Fin grid0.N, win0_5.index t = ![t.val, 0])

/-- The residual stream's block, at an element. -/
theorem h_block (t : Fin cfg0.N) (r : Fin 512) (e : Fin 2048) (b : Fin 8192) (hb : b.val = t.val * 512 + r.val) :
    iblk m c 0 t (ix2 r e) = m ((c.tc : Thread nD τ).loc main_arg0) (ix2 b e) := by
  rw [← V_main_arg0 m c]
  blk_simp [iblk]
  refine congrArg (V m c main_arg0) ?_
  funext a
  apply Fin.ext
  fin_cases a <;> blk_simp [index_h] <;> simp <;> omega

/-- The gain's block, at an element. -/
theorem g_block (t : Fin cfg0.N) (e : Fin 2048) : iblk m c 1 t (ix2 0 e) = m ((c.tc : Thread nD τ).loc main_arg1) (ix2 0 e) := by
  rw [← V_main_arg1 m c]
  blk_simp [iblk]
  refine congrArg (V m c main_arg1) ?_
  funext a
  apply Fin.ext
  fin_cases a <;> blk_simp [index_g] <;> simp

/-- The embeddings' block, at an element. -/
theorem p_block (t : Fin cfg0.N) (r : Fin 512) (e : Fin 256) (b : Fin 8192) (hb : b.val = t.val * 512 + r.val) :
    iblk m c 2 t (ix2 r e) = m ((c.tc : Thread nD τ).loc main_arg2) (ix2 b e) := by
  rw [← V_main_arg2 m c]
  blk_simp [iblk]
  refine congrArg (V m c main_arg2) ?_
  funext a
  apply Fin.ext
  fin_cases a <;> blk_simp [index_p] <;> simp <;> omega

/-- The gate's weights' block, at an element. -/
theorem w_block (t : Fin cfg0.N) (k e : Fin 2048) : (iblk m c 3 t (ix3 0 k e) : EReal) = m ((c.tc : Thread nD τ).loc main_arg3) (ix3 1 k e) := by
  have hv : ∀ y, (V m c main_v0 y : EReal) = m ((c.tc : Thread nD τ).loc main_arg3) y := by
    intro y
    simp only [V, hostOps0, List.flatten_cons, List.flatten_nil, List.append_nil, List.cons_append, List.nil_append]
    after_results_simp
    rfl
  rw [← hv]
  blk_simp [iblk]
  refine congrArg (V m c main_v0) ?_
  funext a
  apply Fin.ext
  fin_cases a <;> blk_simp [index_w] <;> simp

/-- The projection's weights' block, at an element. -/
theorem v_block (t : Fin cfg0.N) (k : Fin 256) (e : Fin 2048) : (iblk m c 4 t (ix3 0 k e) : EReal) = m ((c.tc : Thread nD τ).loc main_arg4) (ix3 1 k e) := by
  have hv : ∀ y, (V m c main_v1 y : EReal) = m ((c.tc : Thread nD τ).loc main_arg4) y := by
    intro y
    simp only [V, hostOps0, List.flatten_cons, List.flatten_nil, List.append_nil, List.cons_append, List.nil_append]
    after_results_simp
    rfl
  rw [← hv]
  blk_simp [iblk]
  refine congrArg (V m c main_v1) ?_
  funext a
  apply Fin.ext
  fin_cases a <;> blk_simp [index_v] <;> simp

/-- The call's result. -/
theorem arr_eq : (dats m 0 c).arrAt 5 cfg0.N = fun y : S8192x2048.Idx => gated (n := 8192) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (y 0) (y 1) := by
  refine (dats m 0 c).arrAt_eq_of_covers 5 _ (by decide +kernel) fun t hf y => ?_
  have ht : t.val < 16 := (by decide +kernel : ∀ t : Fin grid0.N, t.val < 16) t
  blk_simp
  rw [after0_5]
  unfold out0_5
  rw [View.canon_unit_zero (by funext a; fin_cases a <;> rfl)]
  simp only [View.ld_unit_zero (S := S512x2048) (off := ![0, 0]) (by funext a; fin_cases a <;> rfl), View.ld_unit_zero (S := S1x2048) (off := ![0, 0]) (by funext a; fin_cases a <;> rfl),
    View.ld_unit_zero (S := S512x256) (off := ![0, 0]) (by funext a; fin_cases a <;> rfl), View.ld_unit_zero (S := S1x2048x2048) (off := ![0, 0, 0]) (by funext a; fin_cases a <;> rfl),
    View.ld_unit_zero (S := S1x256x2048) (off := ![0, 0, 0]) (by funext a; fin_cases a <;> rfl)]
  obtain ⟨r, e, hy⟩ : ∃ (r : Fin 512) (e : Fin 2048), y = (ix2 r e : S512x2048.Idx) := ⟨y 0, y 1, by funext a; fin_cases a <;> rfl⟩
  subst hy
  have e0 : (((win0_5.blk t).view.emb (ix2 r e : S512x2048.Idx)) 0 : ℕ) = t.val * 512 + r.val := by blk_simp [index_o]
  have e1 : (((win0_5.blk t).view.emb (ix2 r e : S512x2048.Idx)) 1 : ℕ) = e.val := by blk_simp [index_o]
  refine (pay_apply _ _ _ _ _ r e).trans ?_
  generalize (win0_5.blk t).view.emb (ix2 r e : S512x2048.Idx) = z at e0 e1
  have h1 : z 1 = e := Fin.ext e1
  unfold gated
  simp only [h_block m c t r _ (z 0) e0, g_block, p_block m c t r _ (z 0) e0, w_block, v_block, h1]

end Cert.PleIdeal.Gate

namespace Cert.PleRefIdeal.Gate

open Idealize.ShloMosaic Idealize.SL.Sem Cert.PleRefIdeal Cert.PleRefIdeal.Gen Cert.Layer
open Idealize.ShloMosaic.TcCoe

/-- The reference's result, at an element. -/
theorem result_apply (x : FVec Ideal S8192x2048 .f32) (g : FVec Ideal S1x2048 .f32) (p : FVec Ideal S8192x256 .f32) (w : FVec Ideal S2x2048x2048 .f32)
    (v : FVec Ideal S2x256x2048 .f32) (b : Fin 8192) (e : Fin 2048) :
    addf x (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) (shapeCast _ (extractStridedSlice S1x2048x2048 ![1, 0, 0] w slices_S2x2048x2048_S1x2048x2048_1_0_0) shapeCasts_S1x2048x2048_S2048x2048)))))) (Host.dotGeneral dot_S8192x256_S256x2048_S8192x2048_1_0_0_1_n_n none p (shapeCast _ (extractStridedSlice S1x256x2048 ![1, 0, 0] v slices_S2x256x2048_S1x256x2048_1_0_0) shapeCasts_S1x256x2048_S256x2048))) (ix2 b e)
      = gated x g p w v b e := by
  pointwise []
  unfold gated
  congr 1

end Cert.PleRefIdeal.Gate

namespace Cert.Layer

open Idealize.ShloMosaic Idealize.SL.Sem
open Idealize.ShloMosaic.TcCoe

/-- The gate of the per-layer embeddings and its reference leave one result. -/
theorem ple : Cert.algebraic_PleIdeal_PleRefIdeal := by
  intro m ρ m' ρ' _ harg
  refine ⟨fun c => fun y : Cert.PleIdeal.S8192x2048.Idx => gated (n := 8192) (m ((c.tc : Thread Cert.PleIdeal.nD Cert.PleIdeal.τ).loc Cert.PleIdeal.main_arg0))
      (m ((c.tc : Thread Cert.PleIdeal.nD Cert.PleIdeal.τ).loc Cert.PleIdeal.main_arg1)) (m ((c.tc : Thread Cert.PleIdeal.nD Cert.PleIdeal.τ).loc Cert.PleIdeal.main_arg2))
      (m ((c.tc : Thread Cert.PleIdeal.nD Cert.PleIdeal.τ).loc Cert.PleIdeal.main_arg3)) (m ((c.tc : Thread Cert.PleIdeal.nD Cert.PleIdeal.τ).loc Cert.PleIdeal.main_arg4)) (y 0) (y 1),
    (θ_run _ _ _).mono (fun r h c => ⟨(h c).1.trans (Cert.PleIdeal.Gate.arr_eq m c), (h c).2⟩) (Cert.PleIdeal.Value.run_blocks m ρ),
    (θ_run _ _ _).mono (fun r h c => ⟨(h c).1.trans ?_, (h c).2⟩) (Cert.PleRefIdeal.Value.run m' ρ')⟩
  obtain ⟨e0, e1, e2, e3, e4⟩ := harg c
  rw [e0, e1, e2, e3, e4]
  funext y
  have hy : y = ix2 (y 0) (y 1) := by funext a; fin_cases a <;> rfl
  rw [hy]
  exact Cert.PleRefIdeal.Gate.result_apply _ _ _ _ _ (y 0) (y 1)

/-- The reference runs, its arguments unchanged and every counter back at zero. -/
theorem ple_reference : Cert.quiescent_PleRefIdeal :=
  fun m ρ _ => (θ_run _ _ _).mono (fun r h => ⟨fun c => (h c).2, sem_eq_zero_of_no_sems rfl r.2⟩) (Cert.PleRefIdeal.Value.run m ρ)

end Cert.Layer
-- ==== Proof.PleSample.lean ====
module

public import proofs.«01_k».proof.Defs
public import proofs.«01_k».proof.Proof.Ple
public import proofs.«01_k».proof.Proof.Gen.PleSampleIdeal.Value
public import proofs.«01_k».proof.Proof.Gen.PleSampleRefIdeal.Run
public import Idealize.ShloMosaic.Lib.Quiescent
public import Idealize.ShloMosaic.Lib.Pointwise
public import Idealize.ShloMosaic.Lib.Pipeline.ValueKit
public import Idealize.ShloMosaic.Lib.Tactic.CleanTypes

@[expose] public section

set_option maxRecDepth 16384

/-! The same gate applied to the sampled position: one grid point, whose blocks are the arrays. -/

noncomputable section

namespace Cert.PleSampleIdeal.Gate

open Idealize.ShloMosaic Idealize.SL.Sem Cert.PleSampleIdeal Cert.PleSampleIdeal.Gen Cert.Layer
open Idealize.ShloMosaic.TcCoe

variable (m : (ℓ : Loc nD τ sig) → Buf (Elt Ideal) ℓ) (c : Dev nD)

/-- Every window reads or writes at the array's start, the weights at layer one. -/
theorem starts : ∀ t : Fin cfg0.N, win0_0.index t = ![0, 0] ∧ win0_1.index t = ![0, 0] ∧ win0_2.index t = ![0, 0] ∧ win0_3.index t = ![1, 0, 0]
    ∧ win0_4.index t = ![1, 0, 0] ∧ win0_5.index t = ![0, 0] :=
  (by decide +kernel : ∀ t : Fin grid0.N, win0_0.index t = ![0, 0] ∧ win0_1.index t = ![0, 0] ∧ win0_2.index t = ![0, 0] ∧ win0_3.index t = ![1, 0, 0]
    ∧ win0_4.index t = ![1, 0, 0] ∧ win0_5.index t = ![0, 0])

/-- The five blocks read, at an element: the arrays, and of the weights the second layer. -/
theorem blocks (t : Fin cfg0.N) :
    (∀ (b : Fin 64) (e : Fin 2048), iblk m c 0 t (ix2 b e) = V m c main_arg0 (ix2 b e))
    ∧ (∀ e : Fin 2048, iblk m c 1 t (ix2 0 e) = V m c main_arg1 (ix2 0 e))
    ∧ (∀ (b : Fin 64) (e : Fin 256), iblk m c 2 t (ix2 b e) = V m c main_arg2 (ix2 b e))
    ∧ (∀ k e : Fin 2048, iblk m c 3 t (ix3 0 k e) = V m c main_v0 (ix3 1 k e))
    ∧ (∀ (k : Fin 256) (e : Fin 2048), iblk m c 4 t (ix3 0 k e) = V m c main_v1 (ix3 1 k e)) := by
  obtain ⟨s0, s1, s2, s3, s4, _⟩ := starts t
  refine ⟨fun b e => ?_, fun e => ?_, fun b e => ?_, fun k e => ?_, fun k e => ?_⟩
  all_goals
    blk_simp [iblk]
    refine congrArg (V m c _) ?_
    funext a
    apply Fin.ext
    fin_cases a <;> blk_simp [s0, s1, s2, s3, s4] <;> simp

/-- The weights in half precision are the weights. -/
theorem weights : (∀ y, (V m c main_v0 y : EReal) = m ((c.tc : Thread nD τ).loc main_arg3) y)
    ∧ ∀ y, (V m c main_v1 y : EReal) = m ((c.tc : Thread nD τ).loc main_arg4) y := by
  constructor
  all_goals
    intro y
    simp only [V, hostOps0, List.flatten_cons, List.flatten_nil, List.append_nil, List.cons_append, List.nil_append]
    after_results_simp
    rfl

/-- What the call leaves, by its arguments. -/
abbrev left : S64x2048.Idx → EReal := fun y => gated (n := 64) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (y 0) (y 1)

/-- What the point stores, at an element. -/
theorem stored_apply (t : Fin cfg0.N) (b : Fin 64) (e : Fin 2048) :
    k0_pay1 (iblk m c 0 t) (iblk m c 1 t) (iblk m c 3 t) (iblk m c 2 t) (iblk m c 4 t) (ix2 b e) = left m c (ix2 b e) := by
  obtain ⟨h0, h1, h2, h3, h4⟩ := blocks m c t
  obtain ⟨w3, w4⟩ := weights m c
  pointwise [k0_pay1]
  simp only [h0, h1, h2, h3, h4, w3, w4, V_main_arg0, V_main_arg1, V_main_arg2]
  rfl

/-- The call's result. -/
theorem arr_eq : (dats m 0 c).arrAt 5 cfg0.N = left m c := by
  refine (dats m 0 c).arrAt_eq_of_covers 5 _ (by decide +kernel) fun t _ y => ?_
  obtain ⟨b, e, rfl⟩ : ∃ (b : Fin 64) (e : Fin 2048), y = (ix2 b e : S64x2048.Idx) := ⟨y 0, y 1, by funext a; fin_cases a <;> rfl⟩
  have he : (win0_5.blk t).view.emb (ix2 b e : S64x2048.Idx) = (ix2 b e : S64x2048.Idx) := by
    funext a
    apply Fin.ext
    fin_cases a <;> blk_simp [(starts t).2.2.2.2.2] <;> simp
  blk_simp
  rw [after0_5]
  unfold out0_5
  rw [View.canon_unit_zero (by funext a; fin_cases a <;> rfl)]
  iterate 5 rw [View.ld_unit_zero (by funext a; fin_cases a <;> rfl)]
  refine (stored_apply m c t b e).trans ?_
  rw [he]

end Cert.PleSampleIdeal.Gate

namespace Cert.Layer

open Idealize.ShloMosaic Idealize.SL.Sem
open Idealize.ShloMosaic.TcCoe

/-- The gate at the sampled position and its reference leave one result. -/
theorem ple_sample : Cert.algebraic_PleSampleIdeal_PleSampleRefIdeal := by
  intro m ρ m' ρ' _ harg
  refine ⟨fun c => Cert.PleSampleIdeal.Gate.left m c,
    (θ_run _ _ _).mono (fun r h c => ⟨(h c).1.trans (Cert.PleSampleIdeal.Gate.arr_eq m c), (h c).2⟩) (Cert.PleSampleIdeal.Value.run_blocks m ρ),
    (θ_run _ _ _).mono (fun r h c => ⟨(h c).1.trans ?_, (h c).2⟩) (Cert.PleSampleRefIdeal.Value.run m' ρ')⟩
  obtain ⟨e0, e1, e2, e3, e4⟩ := harg c
  unfold Cert.PleSampleIdeal.Gate.left
  rw [e0, e1, e2, e3, e4]
  funext y
  obtain ⟨b, e, rfl⟩ : ∃ (b : Fin 64) (e : Fin 2048), y = ix2 b e := ⟨y 0, y 1, by funext a; fin_cases a <;> rfl⟩
  pointwise []
  unfold gated
  congr 1

/-- The reference runs, its arguments unchanged and every counter back at zero. -/
theorem ple_sample_reference : Cert.quiescent_PleSampleRefIdeal :=
  fun m ρ _ => (θ_run _ _ _).mono (fun r h => ⟨fun c => (h c).2, sem_eq_zero_of_no_sems rfl r.2⟩) (Cert.PleSampleRefIdeal.Value.run m ρ)

end Cert.Layer
-- ==== Proof.QkvSampleRun.lean ====
/-
The projections' kernel body for the sampled positions, run once. There is one tile of rows: the first grid point makes
its scaled rows and log-forgets, the later ones find them.
-/
module

public import proofs.«01_k».proof.Proof.Gen.QkvSampleIdeal.Skeleton
public import proofs.«01_k».proof.Proof.Gen.QkvSampleIdeal.Frame
public import proofs.«01_k».proof.Proof.Buffers
public import proofs.«01_k».proof.Proof.Heads

@[expose] public section

set_option maxRecDepth 16384

noncomputable section

namespace Cert.QkvSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Layer

variable {F : FTy → Type} [FloatOps F]

local notation "𝕄" => MT nD τ sig Unit (Elt F) ℕ (UR sig nD τ) ℕ

/-- The first grid point: the body makes the scaled rows and the log-forgets. -/
abbrev First (i : grid0.Coords) : Prop := k0_cond1 i = 1#1

/-- The body's test for the start of a sequence, at a tile's number. -/
abbrev Starts (a : BitVec 32) : Prop :=
  let k : BitVec 32 := Scalar.select (Scalar.cmpi .eq 1#32 0#32) 1#32 1#32
  let r := Scalar.remsi a k
  Scalar.cmpi .ne (Scalar.extui (Scalar.cmpi .eq (Scalar.select (Scalar.andi (Scalar.xori (Scalar.cmpi .slt r 0#32) (Scalar.cmpi .slt k 0#32)) (Scalar.cmpi .ne r 0#32))
    (Scalar.addi r k) r) 0#32)) 0#32 = 1#1

/-- Every point is at the start of its sequence: there is one tile. -/
theorem starts_always (i : grid0.Coords) : Starts (BitVec.ofNat 32 (i 0).val) := by
  have h : (i 0).val = 0 := by
    have : (i 0).val < 1 := (i 0).isLt
    omega
  rw [h]
  decide

/-- The blocks read. -/
structure Ins (F : FTy → Type) where
  h : Vec F S64x2048 .f32
  g : Vec F S1x2048 .f32
  gq : Vec F S1x2048 .f32
  wk : Vec F S2048x512 .bf16
  wv : Vec F S2048x512 .bf16
  wq : Vec F S2048x512 .bf16
  gk : Vec F S1x128 .f32
  gl : Vec F S1x128 .f32
  wf : Vec F S2048x128 .bf16
  bf : Vec F S1x128 .f32
  tri : Vec F S64x64 .bf16
  place : Vec F S3x128x512 .bf16

/-- What later points find: the log-forgets and the scaled rows. -/
structure Made (F : FTy → Type) where
  lf : Vec F S64x128 .f32
  xn : Vec F S64x2048 .bf16

/-- The log-forgets and the scaled rows of the blocks read. -/
def Ins.make (x : Ins F) : Made F :=
  ⟨k0_pay10 (k0_pay7 x.h x.g x.wf x.bf) (k0_pay8 x.h x.g x.wf x.bf) (k0_pay9 (F := F)), k0_pay4 x.h x.g⟩

/-- The block of keys: four heads side by side. -/
def keys (xn : Vec F S64x2048 .bf16) (wk : Vec F S2048x512 .bf16) (gk : Vec F S1x128 .f32) : Vec F S64x512 .f32 :=
  laid4 (fun _ => Scalar.ofBits .f32 0#32) (k0_pay18 xn wk gk) (k0_pay21 (k0_pay15 xn wk) gk) (k0_pay26 (k0_pay15 xn wk) gk) (k0_pay29 (k0_pay15 xn wk) gk)

set_option maxHeartbeats 8000000 in
/-- The body, run on whole memrefs holding the blocks `x` and, besides, what was made before: at the first point it
makes `s` from `x`, at a later one it finds `s`; either way it leaves the keys and the values of the scaled rows. -/
theorem run (c : Dev nD) (i : grid0.Coords) (a2 : Memref sig .tc .vmem S64x2048 .f32) (h2 : a2.IsWhole) (a3 : Memref sig .tc .vmem S1x2048 .f32) (h3 : a3.IsWhole)
    (a4 : Memref sig .tc .vmem S1x2048 .f32) (h4 : a4.IsWhole) (a5 : Memref sig .tc .vmem S2048x512 .bf16) (h5 : a5.IsWhole) (a6 : Memref sig .tc .vmem S2048x512 .bf16) (h6 : a6.IsWhole)
    (a7 : Memref sig .tc .vmem S2048x512 .bf16) (h7 : a7.IsWhole) (a8 : Memref sig .tc .vmem S1x128 .f32) (h8 : a8.IsWhole) (a9 : Memref sig .tc .vmem S1x128 .f32) (h9 : a9.IsWhole)
    (a10 : Memref sig .tc .vmem S2048x128 .bf16) (h10 : a10.IsWhole) (a11 : Memref sig .tc .vmem S1x128 .f32) (h11 : a11.IsWhole) (a12 : Memref sig .tc .vmem S64x64 .bf16) (h12 : a12.IsWhole)
    (a13 : Memref sig .tc .vmem S3x128x512 .bf16) (h13 : a13.IsWhole) (a14 : Memref sig .tc .vmem S64x512 .f32) (h14 : a14.IsWhole) (a15 : Memref sig .tc .vmem S64x512 .f32) (h15 : a15.IsWhole)
    (a16 : Memref sig .tc .vmem S64x512 .bf16) (h16 : a16.IsWhole) (a17 : Memref sig .tc .vmem S64x512 .bf16) (h17 : a17.IsWhole) (a18 : Memref sig .tc .vmem S64x512 .bf16) (h18 : a18.IsWhole)
    (a19 : Memref sig .tc .vmem S64x128 .f32) (h19 : a19.IsWhole) (a20 : Memref sig .tc .vmem S64x128 .f32) (h20 : a20.IsWhole) (a21 : Memref sig .tc .vmem S64x2048 .bf16) (h21 : a21.IsWhole)
    (a22 : Memref sig .tc .vmem S64x2048 .bf16) (h22 : a22.IsWhole) (a23 : Memref sig .tc .vmem S1x128 .f32) (h23 : a23.IsWhole)
    (x : Ins F) (o s : Made F) (hs : if First i then s = x.make else s = o) (E : Set ℕ) (K : PUnit → sProp 𝕄) :
    iprop(owns (c : Thread nD τ) a2 fullShare x.h ∗ owns (c : Thread nD τ) a3 fullShare x.g ∗ owns (c : Thread nD τ) a4 fullShare x.gq ∗ owns (c : Thread nD τ) a5 fullShare x.wk
        ∗ owns (c : Thread nD τ) a6 fullShare x.wv ∗ owns (c : Thread nD τ) a7 fullShare x.wq ∗ owns (c : Thread nD τ) a8 fullShare x.gk ∗ owns (c : Thread nD τ) a9 fullShare x.gl
        ∗ owns (c : Thread nD τ) a10 fullShare x.wf ∗ owns (c : Thread nD τ) a11 fullShare x.bf ∗ owns (c : Thread nD τ) a12 fullShare x.tri ∗ owns (c : Thread nD τ) a13 fullShare x.place
        ∗ (∃ d, owns (c : Thread nD τ) a14 fullShare d) ∗ (∃ d, owns (c : Thread nD τ) a15 fullShare d) ∗ (∃ d, owns (c : Thread nD τ) a16 fullShare d)
        ∗ (∃ d, owns (c : Thread nD τ) a17 fullShare d) ∗ (∃ d, owns (c : Thread nD τ) a18 fullShare d) ∗ owns (c : Thread nD τ) a19 fullShare o.lf
        ∗ (∃ d, owns (c : Thread nD τ) a20 fullShare d) ∗ owns (c : Thread nD τ) a21 fullShare o.xn ∗ (∃ d, owns (c : Thread nD τ) a22 fullShare d) ∗ (∃ d, owns (c : Thread nD τ) a23 fullShare d)
        ∗ (iprop(owns (c : Thread nD τ) a2 fullShare x.h ∗ owns (c : Thread nD τ) a3 fullShare x.g ∗ owns (c : Thread nD τ) a4 fullShare x.gq ∗ owns (c : Thread nD τ) a5 fullShare x.wk
          ∗ owns (c : Thread nD τ) a6 fullShare x.wv ∗ owns (c : Thread nD τ) a7 fullShare x.wq ∗ owns (c : Thread nD τ) a8 fullShare x.gk ∗ owns (c : Thread nD τ) a9 fullShare x.gl
          ∗ owns (c : Thread nD τ) a10 fullShare x.wf ∗ owns (c : Thread nD τ) a11 fullShare x.bf ∗ owns (c : Thread nD τ) a12 fullShare x.tri ∗ owns (c : Thread nD τ) a13 fullShare x.place
          ∗ owns (c : Thread nD τ) a14 fullShare (keys s.xn x.wk x.gk) ∗ owns (c : Thread nD τ) a15 fullShare (k0_pay16 s.xn x.wv) ∗ (∃ d, owns (c : Thread nD τ) a16 fullShare d)
          ∗ (∃ d, owns (c : Thread nD τ) a17 fullShare d) ∗ (∃ d, owns (c : Thread nD τ) a18 fullShare d) ∗ owns (c : Thread nD τ) a19 fullShare s.lf
          ∗ (∃ d, owns (c : Thread nD τ) a20 fullShare d) ∗ owns (c : Thread nD τ) a21 fullShare s.xn ∗ (∃ d, owns (c : Thread nD τ) a22 fullShare d) ∗ (∃ d, owns (c : Thread nD τ) a23 fullShare d)) -∗ K ⟨⟩))
      ⊢ wp frame (wpE (defs₀ (F := F)) Variants.none c none) E
        (cc0_qkv i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  have hst := starts_always i
  simp only [cc0_qkv_eq_skeleton]; unfold cc0_qkv_skel
  simp only [k0_part1_eq_skeleton, k0_part2_eq_skeleton, k0_part3_eq_skeleton, k0_part4_eq_skeleton, k0_part5_eq_skeleton, k0_part6_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩,
    ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%f19, %e19, H19⟩,
    ⟨%d20, %f20, -, H20⟩, ⟨%f21, %e21, H21⟩, ⟨%d22, %f22, -, H22⟩, ⟨%d23, %f23, -, H23⟩, Hk⟩
  by_cases hc : First i
  all_goals
    first | rw [if_pos hc] at hs | rw [if_neg hc] at hs
    subst hs
    sl_exec (disch := first | sl_exact hc | sl_exact hst)
    sl_step
    iapply Hk
    isplitl [H2]; · iapply (holds e2); iexact H2
    isplitl [H3]; · iapply (holds e3); iexact H3
    isplitl [H4]; · iapply (holds e4); iexact H4
    isplitl [H5]; · iapply (holds e5); iexact H5
    isplitl [H6]; · iapply (holds e6); iexact H6
    isplitl [H7]; · iapply (holds e7); iexact H7
    isplitl [H8]; · iapply (holds e8); iexact H8
    isplitl [H9]; · iapply (holds e9); iexact H9
    isplitl [H10]; · iapply (holds e10); iexact H10
    isplitl [H11]; · iapply (holds e11); iexact H11
    isplitl [H12]; · iapply (holds e12); iexact H12
    isplitl [H13]; · iapply (holds e13); iexact H13
    isplitl [H14]
    · iapply holds; swap; · iexact H14
      sl_unfold_run_names
      simp only [View.read_writes_full, View.readCov_full, readAt_window, readCov_window, read_put, put_whole2, window_whole2, View.writes_nil, e2, e3, e5, e8, e21]
      exact laid4_over _ _ _ _ _ _
    isplitl [H15]
    · iapply holds; swap; · iexact H15
      sl_unfold_run_names
      simp only [View.read_writes_full, View.readCov_full, readAt_window, readCov_window, read_put, put_whole2, window_whole2, View.writes_nil, e2, e3, e6, e21]
      try rfl
    isplitl [H16]; · iapply holds_some; iexact H16
    isplitl [H17]; · iapply holds_some; iexact H17
    isplitl [H18]; · iapply holds_some; iexact H18
    isplitl [H19]
    · iapply holds; swap; · iexact H19
      sl_unfold_run_names
      simp only [View.read_writes_full, View.readCov_full, readAt_window, readCov_window, read_put, put_whole2, window_whole2, View.writes_nil, e2, e3, e10, e11, e19]
      try rfl
    isplitl [H20]; · iapply holds_some; iexact H20
    isplitl [H21]
    · iapply holds; swap; · iexact H21
      sl_unfold_run_names
      simp only [View.read_writes_full, View.readCov_full, readAt_window, readCov_window, read_put, put_whole2, window_whole2, View.writes_nil, e2, e3, e21]
      try rfl
    isplitl [H22]; · iapply holds_some; iexact H22
    iapply holds_some; iexact H23

end Cert.QkvSampleIdeal.Gen

end
-- ==== Proof.QkvSampleFrame.lean ====
/-
The sampled positions' projections, run: what the arrays of keys, values and log-forgets hold at the end. The four grid
points share one tile of rows, so what the first makes is what every later one finds.
-/
module

public import proofs.«01_k».proof.Proof.QkvSampleRun

@[expose] public section

set_option maxRecDepth 16384

noncomputable section

namespace Cert.QkvSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer (leaves_after)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The body's first branch is taken at point zero alone. -/
theorem first_iff (t : Fin cfg0.N) : First (grid0.coords t) ↔ t.val = 0 :=
  (by decide +kernel : ∀ t : Fin grid0.N, First (grid0.coords t) ↔ t.val = 0) t

/-- Point zero. -/
abbrev zero : Fin cfg0.N := ⟨0, by rw [show cfg0.N = 4 from N_0]; omega⟩

/-- The blocks the body reads at a point. -/
def ins (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- What point zero makes, and every later point finds. -/
def made : Made F := (ins m c zero).make

/-- What a point leaves of it, given what it found, is what point zero made. -/
theorem made_at (t : Fin cfg0.N) (o : Made F) (h : t.val ≠ 0 → o = made m c) :
    if First (grid0.coords t) then made m c = (ins m c t).make else made m c = o := by
  by_cases hz : t.val = 0
  · rw [if_pos ((first_iff t).mpr hz), show t = zero from Fin.ext hz]
    rfl
  · rw [if_neg fun hf => hz ((first_iff t).mp hf)]
    exact (h hz).symm

/-- The buffer of the log-forgets is left alone after point zero, and only then. -/
theorem idle_lf (t : Fin cfg0.N) : cfg0.idle 17 (cfg0.grid.coords t) = decide (t.val ≠ 0) := by
  show (!(k0_cond1 (grid0.coords t) == 1#1)) = _
  by_cases hz : t.val = 0
  · rw [show k0_cond1 (grid0.coords t) = 1#1 from (first_iff t).mpr hz, hz]
    rfl
  · rw [decide_eq_true hz, Bool.not_eq_true', beq_eq_false_iff_ne]
    exact fun hf => hz ((first_iff t).mp hf)

/-- The buffers a run of the body keeps for the next: the scaled rows, and three that no claim reads. -/
abbrev keeps (d : Vec F S64x2048 .bf16) : sProp 𝕄 :=
  iprop(owns (c : Thread nD τ) (Memref.whole cc0_scratch0) fullShare d ∗ (∃ d, owns (c : Thread nD τ) (Memref.whole cc0_scratch1) fullShare d)
    ∗ (∃ d, owns (c : Thread nD τ) (Memref.whole cc0_scratch2) fullShare d))

/-- What is held besides the windows before a point: of the rows, anything at first. -/
def Kept (n : ℕ) : sProp 𝕄 :=
  iprop((∃ d, ⌜n ≠ 0 → d = (made m c).xn⌝ ∗ keeps c d) ∗ (∃ r, prngReg c r))

/-- At the launch the kept buffers hold anything. -/
theorem launch_keeps : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA; rw [scopedRest0_eq]; simp only [owns_whole]; try rfl

/-- Of the blocks only the attention reads, and of the running sums, nothing is said. -/
def unsaid : Fin 19 → Bool := fun w => decide (w.val ∈ [14, 15, 16, 18])

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => keys (made m c).xn (iblk m c 3 t) (iblk m c 6 t)
    | ⟨13, _⟩ => k0_pay16 (made m c).xn (iblk m c 4 t)
    | ⟨17, _⟩ => (made m c).lf
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨18, h⟩ => Pipeline.Dat.unnamed (cfg := cfg0) ⟨18, h⟩ t
    | ⟨n + 19, h⟩ => absurd (show n + 19 < 19 from h) (by omega)
  Φ t := Kept m c t.val
  q _ := fullShare
  owed _ := 0

/-- The arrays at the launch are the program's. -/
theorem A_eq (w : Fin cfg0.W) : (dats m 0 c).A w = V m c (Pipeline.arrRef spec0 w) := by dsimp only [dats]

/-- The three results' blocks after a point. -/
theorem leaves (t : Fin cfg0.N) : (dats m 0 c).after 12 t = keys (made m c).xn (iblk m c 3 t) (iblk m c 6 t)
    ∧ (dats m 0 c).after 13 t = k0_pay16 (made m c).xn (iblk m c 4 t) ∧ (dats m 0 c).after 17 t = (made m c).lf := ⟨rfl, rfl, rfl⟩

/-- After point zero the buffer of the log-forgets holds those of the tile. -/
theorem finds_lf (d) : ∀ (n : ℕ) (hn : n + 1 < cfg0.N), (dats m 0 c).before 17 ⟨n + 1, hn⟩ d = (made m c).lf := by
  intro n
  induction n with
  | zero =>
    intro hn
    refine ((dats m 0 c).before_of_pos 17 ⟨0 + 1, hn⟩ (Nat.succ_ne_zero 0) ((cfg0.win 17).fetch_out rfl _) d).trans ?_
    refine (if_neg fun hx => absurd ((flush0_17 _).mp hx) (by dsimp only; omega)).trans ?_
    unfold Dat.left
    rw [idle_lf]
    exact (Pipeline.fill_of_clip_none 17 _ (fun _ => rfl) d ((dats m 0 c).after 17 zero) _).trans ((Window.fill_cut _ _ _).trans (leaves m c zero).2.2)
  | succ n ih =>
    intro hn
    have h4 : n + 2 < 4 := hn.trans_eq N_0
    refine ((dats m 0 c).before_of_pos 17 ⟨n + 1 + 1, hn⟩ (Nat.succ_ne_zero _) ((cfg0.win 17).fetch_out rfl _) d).trans ?_
    refine (if_neg fun hx => absurd ((flush0_17 _).mp hx) (by dsimp only; omega)).trans ?_
    unfold Dat.left
    rw [idle_lf]
    exact ih (Nat.lt_of_succ_lt hn)

/-- A buffer holding the tile's log-forgets is left as a point must leave it. -/
theorem leaves_lf (t : Fin cfg0.N) : owns (c : Thread nD τ) (win0_17.stage (cfg0.slots t 17)) fullShare (made m c).lf ⊢ ((dats m 0 c).leavesExact 17 t : sProp 𝕄) := by
  unfold Dat.leavesExact
  rw [idle_lf, (leaves m c t).2.2]
  obtain ⟨n, hn⟩ := t
  cases n with
  | zero => exact .rfl
  | succ n =>
    rw [show decide ((⟨n + 1, hn⟩ : Fin cfg0.N).val ≠ 0) = true from rfl]
    dsimp only
    by_cases hf : (cfg0.win 17).flush ⟨n + 1, hn⟩ = true
    · rw [hf]; try exact .rfl
    · rw [Bool.eq_false_iff.mpr hf]
      dsimp only
      iintro H
      iexists (fun _ => Scalar.ofBits .f32 0#32)
      rw [finds_lf m c _ n hn]
      iexact H

set_option maxHeartbeats 4000000 in
/-- The body at a point, on the point's buffers: it takes what the windows and the kept buffers held to what they hold
after it. -/
theorem sound_body (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d))
      ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d))
      ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d))
      ∗ (∃ d, owns (c : Thread nD τ) (win0_14.stage (cfg0.slots t 14)) fullShare d) ∗ (∃ d, owns (c : Thread nD τ) (win0_15.stage (cfg0.slots t 15)) fullShare d)
      ∗ (∃ d, owns (c : Thread nD τ) (win0_16.stage (cfg0.slots t 16)) fullShare d) ∗ (∃ d, owns (c : Thread nD τ) (win0_17.stage (cfg0.slots t 17)) fullShare ((dats m 0 c).before 17 t d))
      ∗ (∃ d, owns (c : Thread nD τ) (win0_18.stage (cfg0.slots t 18)) fullShare d))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t ∗ (dats m 0 c).leavesExact 6 t ∗ (dats m 0 c).leavesExact 7 t
        ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t
        ∗ (∃ d, owns (c : Thread nD τ) (win0_14.stage (cfg0.slots t 14)) fullShare d) ∗ (∃ d, owns (c : Thread nD τ) (win0_15.stage (cfg0.slots t 15)) fullShare d)
        ∗ (∃ d, owns (c : Thread nD τ) (win0_16.stage (cfg0.slots t 16)) fullShare d) ∗ (dats m 0 c).leavesExact 17 t
        ∗ (∃ d, owns (c : Thread nD τ) (win0_18.stage (cfg0.slots t 18)) fullShare d))) := by
  unfold bodyAt0
  simp only [before0_0_of m _ (A_eq m c 0) (fun _ => rfl), before0_1_of m _ (A_eq m c 1) (fun _ => rfl), before0_2_of m _ (A_eq m c 2) (fun _ => rfl),
    before0_3_of m _ (A_eq m c 3) (fun _ => rfl), before0_4_of m _ (A_eq m c 4) (fun _ => rfl), before0_5_of m _ (A_eq m c 5) (fun _ => rfl),
    before0_6_of m _ (A_eq m c 6) (fun _ => rfl), before0_7_of m _ (A_eq m c 7) (fun _ => rfl), before0_8_of m _ (A_eq m c 8) (fun _ => rfl),
    before0_9_of m _ (A_eq m c 9) (fun _ => rfl), before0_10_of m _ (A_eq m c 10) (fun _ => rfl), before0_11_of m _ (A_eq m c 11) (fun _ => rfl)]
  rw [show (dats m 0 c).owesAt () t.succ = (dats m 0 c).owesAt () t.castSucc from rfl, show (dats m 0 c).Φ t.castSucc = Kept m c t.val from rfl,
    show (dats m 0 c).Φ t.succ = Kept m c (t.val + 1) from rfl]
  rw [leaves_after _ 0 t rfl, leaves_after _ 1 t rfl, leaves_after _ 2 t rfl, leaves_after _ 3 t rfl, leaves_after _ 4 t rfl, leaves_after _ 5 t rfl, leaves_after _ 6 t rfl,
    leaves_after _ 7 t rfl, leaves_after _ 8 t rfl, leaves_after _ 9 t rfl, leaves_after _ 10 t rfl, leaves_after _ 11 t rfl, leaves_after _ 12 t rfl, leaves_after _ 13 t rfl]
  unfold Kept keeps
  iintro ⟨⟨⟨%a, %ha, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, H14, H15, H16, ⟨%d17, H17⟩, H18⟩
  have hm := made_at m c t ⟨(dats m 0 c).before 17 t d17, a⟩ (fun hz => by
    obtain ⟨n, hn⟩ := t
    cases n with
    | zero => exact absurd rfl hz
    | succ n => rw [finds_lf m c d17 n hn, ha hz])
  iapply (run c (grid0.coords t) _ _ _ _ _ _ _ _ _ _ _ _ _ _ _ _ _ _ _ _ _ _ _ _ _ _ _ _ _ _ _ _ _ _ _ _ _ _ _ _ _ _ _ _ (ins m c t) _ _ hm Set.univ _)
  iframe H0 H1 H2 H3 H4 H5 H6 H7 H8 H9 H10 H11
  isplitl [H12]; · iexists _; iexact H12
  isplitl [H13]; · iexists _; iexact H13
  iframe H14 H15 H16 H17 H18 HS0 HS1 HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · iexists _
      isplitr; · ipureintro; exact fun _ => rfl
      iframe HS0 HS1
      iexact HS2
    iexact Hg
  iframe Ho H0 H1 H2 H3 H4 H5 H6 H7 H8 H9 H10 H11 H12 H13 H14 H15 H16
  isplitl [H17]
  · iapply (leaves_lf m c t); iexact H17
  iexact H18

/-- The body meets what is said of every point. -/
theorem body_obligation : BodyObligation (dats (F := F) m 0 c) (defs₀ (F := F)) Variants.none () Set.univ unsaid := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch hands over is what is held before point zero. -/
theorem enters : Pipeline.ΦA spec0 c ⊢ (dats m 0 c).Φ 0 := by
  rw [launch_keeps, show (dats m 0 c).Φ 0 = Kept m c 0 from rfl]
  unfold Kept keeps
  iintro ⟨⟨⟨%a, HS0⟩, HS⟩, Hg⟩
  isplitl [HS0 HS]
  · iexists a
    isplitr; · ipureintro; exact fun h => absurd rfl h
    iframe HS0
    iexact HS
  iexact Hg

/-- What is held after the last point gives back what the launch handed over. -/
theorem exits : (dats m 0 c).Φ (Fin.last cfg0.N) ⊢ Pipeline.ΦA spec0 c := by
  rw [launch_keeps, show (dats m 0 c).Φ (Fin.last cfg0.N) = Kept m c (Fin.last cfg0.N).val from rfl]
  unfold Kept keeps
  iintro ⟨⟨%a, -, HS0, HS⟩, Hg⟩
  isplitl [HS0 HS]
  · isplitl [HS0]; · iexists _; iexact HS0
    iexact HS
  iexact Hg

set_option backward.isDefEq.respectTransparency.types false in
/-- The program run from any memory: every array holds what the points wrote, every other buffer what it held, and no
semaphore is left raised. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hin := enters m) (hout := exits m)

/-- The program run from any memory: its arguments hold what they held, no semaphore is left raised, and the arrays of
keys, values and log-forgets hold the points' blocks. -/
theorem result : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.mem ((cfg0.win 12).arr.view.loc (c.tc : Thread nD τ)) = (dats m 0 c).arrAt 12 cfg0.N
      ∧ r.2.mem ((cfg0.win 13).arr.view.loc (c.tc : Thread nD τ)) = (dats m 0 c).arrAt 13 cfg0.N
      ∧ r.2.mem ((cfg0.win 17).arr.view.loc (c.tc : Thread nD τ)) = (dats m 0 c).arrAt 17 cfg0.N)
      ∧ r.2.sem = fun _ => 0) := by
  refine (θ_run defs _ _).mono (fun r hr => ⟨fun c => ?_, hr.2⟩) (run_main m ρ)
  have read (w : Fin cfg0.W) (hw : (cfg0.win w).isOut = false) := (Pipeline.RDat.FramePost.arr_in hr.1 c w hw).trans (A_eq m c w)
  have rest (b) (hb) := (hr.1 c).2 b hb
  have wrote (w : Fin cfg0.W) (hw : unsaid w = false) := ((dats m 0 c).toRForget_arrAt_iff (fgt := unsaid) (w := w) hw cfg0.N _).mp ((hr.1 c).1 w)
  exact ⟨⟨(read 0 rfl).trans (V_main_arg0 m c), (read 1 rfl).trans (V_main_arg1 m c), (read 2 rfl).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c),
      (read 6 rfl).trans (V_main_arg6 m c), (read 7 rfl).trans (V_main_arg7 m c),
      (rest main_arg8 (Pipeline.mem_restRefs_of main_arg8 (by decide) (by decide))).trans (V_main_arg8 m c),
      (read 9 rfl).trans (V_main_arg9 m c), (read 10 rfl).trans (V_main_arg10 m c), (read 11 rfl).trans (V_main_arg11 m c)⟩,
    wrote 12 rfl, wrote 13 rfl, wrote 17 rfl⟩

end Cert.QkvSampleIdeal.Gen

end
-- ==== Proof.QkvSample.lean ====
module

public import proofs.«01_k».proof.Defs
public import proofs.«01_k».proof.Proof.Qkv
public import proofs.«01_k».proof.Proof.QkvSampleFrame
public import proofs.«01_k».proof.Proof.Gen.QkvSample
public import proofs.«01_k».proof.Proof.Gen.QkvSampleRefIdeal.Run
public import Idealize.ShloMosaic.Lib.Quiescent
public import Idealize.ShloMosaic.Lib.Pointwise
public import Idealize.ShloMosaic.Lib.Pipeline.ValueKit
public import Idealize.ShloMosaic.Lib.WholeRead
public import Idealize.ShloMosaic.Lib.Tactic.CleanTypes

@[expose] public section

set_option maxRecDepth 16384

/-! The projections of the sampled positions: the three arrays, and their reference's. -/

noncomputable section

namespace Cert.QkvSampleIdeal.Proj

open Idealize.ShloMosaic Idealize.SL.Sem Cert.QkvSampleIdeal Cert.QkvSampleIdeal.Gen Cert.Layer
open Idealize.ShloMosaic.TcCoe

/-! ## One point's blocks, at an element -/

/-- The scaled rows, as they are used at once and as they are kept. -/
theorem rows_apply (x : Vec Ideal S64x2048 .f32) (g : Vec Ideal S1x2048 .f32) (r : Fin 64) (k : Fin 2048) :
    (k0_pay3 x g (ix2 r k) : EReal) = scaled (fun k => x (ix2 r k)) (fun k => g (ix2 0 k)) k
      ∧ (k0_pay4 x g (ix2 r k) : EReal) = scaled (fun k => x (ix2 r k)) (fun k => g (ix2 0 k)) k := by
  constructor
  · pointwise [k0_pay3, k0_pay2]
    rfl
  · pointwise [k0_pay4, k0_pay3, k0_pay2]
    rfl

/-- The products of the rows with a block of weights: the values, and the keys before they are brought to norm one. -/
theorem product_apply (s : Vec Ideal S64x2048 .bf16) (w : Vec Ideal S2048x512 .bf16) (r : Fin 64) (e : Fin 512) :
    (k0_pay15 s w (ix2 r e) : EReal) = ∑ k : Fin 2048, (s (ix2 r k) : EReal) * w (ix2 k e)
      ∧ (k0_pay16 s w (ix2 r e) : EReal) = ∑ k : Fin 2048, (s (ix2 r k) : EReal) * w (ix2 k e) := by
  constructor
  · pointwise [k0_pay15]
  · pointwise [k0_pay16]

/-- A log-forget, from the rows kept. -/
theorem forget_apply (x : Vec Ideal S64x2048 .f32) (g : Vec Ideal S1x2048 .f32) (w : Vec Ideal S2048x128 .bf16) (b : Vec Ideal S1x128 .f32) (r : Fin 64) (e : Fin 128) :
    (k0_pay10 (k0_pay7 x g w b) (k0_pay8 x g w b) (k0_pay9 (F := Ideal)) (ix2 r e) : EReal)
      = logLogistic ((∑ k : Fin 2048, (k0_pay3 x g (ix2 r k) : EReal) * w (ix2 k e)) + b (ix2 0 e)) := by
  have hz : (k0_pay6 x g w b (ix2 r e) : EReal) = (∑ k : Fin 2048, (k0_pay3 x g (ix2 r k) : EReal) * w (ix2 k e)) + b (ix2 0 e) := by
    pointwise [k0_pay6, k0_pay3, k0_pay2]
  rw [← hz]
  pointwise [k0_pay10, k0_pay7, k0_pay8, k0_pay9]
  generalize (k0_pay6 x g w b (ix2 r e) : EReal) = z
  unfold logLogistic
  simp only [zero_sub]
  rfl

/-- The block of keys: its head's products brought to norm one. -/
theorem keys_apply (s : Vec Ideal S64x2048 .bf16) (w : Vec Ideal S2048x512 .bf16) (g : Vec Ideal S1x128 .f32) (r : Fin 64) (h : Fin 4) (e : Fin 128)
    (f : Fin 512) (hf : f.val = h.val * 128 + e.val) :
    (keys s w g (ix2 r f) : EReal) = headed (fun d => k0_pay15 s w (ix2 r ⟨h.val * 128 + d.val, by omega⟩)) (fun d => g (ix2 0 d)) e := by
  unfold keys
  refine (laid4_apply _ _ _ _ _ r h e f hf).trans ?_
  fin_cases h
  · have h0 (d : Fin 128) : (⟨0 * 128 + d.val, by omega⟩ : Fin 512) = ⟨d.val, by omega⟩ := Fin.ext (by dsimp only; omega)
    simp only [h0]
    show (k0_pay18 s w g (ix2 r e) : EReal) = _
    pointwise [k0_pay18]
    rfl
  · show (k0_pay21 (k0_pay15 s w) g (ix2 r e) : EReal) = _
    generalize k0_pay15 s w = p
    pointwise [k0_pay21]
    rfl
  · show (k0_pay26 (k0_pay15 s w) g (ix2 r e) : EReal) = _
    generalize k0_pay15 s w = p
    pointwise [k0_pay26]
    rfl
  · show (k0_pay29 (k0_pay15 s w) g (ix2 r e) : EReal) = _
    generalize k0_pay15 s w = p
    pointwise [k0_pay29]
    rfl

/-! ## The blocks read, and what point zero makes of them -/

variable (m : (ℓ : Loc nD τ sig) → Buf (Elt Ideal) ℓ) (c : Dev nD)

/-- Where a point's blocks start: the projections' weights, the keys and the values at the point's columns. -/
theorem index_at : ∀ t : Fin cfg0.N, win0_0.index t = ![0, 0] ∧ win0_1.index t = ![0, 0] ∧ win0_3.index t = ![0, t.val] ∧ win0_4.index t = ![0, t.val]
    ∧ win0_6.index t = ![0, 0] ∧ win0_8.index t = ![0, 0] ∧ win0_9.index t = ![0, 0] ∧ win0_12.index t = ![0, t.val] ∧ win0_13.index t = ![0, t.val] ∧ win0_17.index t = ![0, 0] :=
  (by decide +kernel : ∀ t : Fin grid0.N, win0_0.index t = ![0, 0] ∧ win0_1.index t = ![0, 0] ∧ win0_3.index t = ![0, t.val] ∧ win0_4.index t = ![0, t.val]
    ∧ win0_6.index t = ![0, 0] ∧ win0_8.index t = ![0, 0] ∧ win0_9.index t = ![0, 0] ∧ win0_12.index t = ![0, t.val] ∧ win0_13.index t = ![0, t.val] ∧ win0_17.index t = ![0, 0])

/-- The blocks read that are whole arrays, at an element. -/
theorem whole_blocks (t : Fin cfg0.N) :
    (∀ (b : Fin 64) (e : Fin 2048), iblk m c 0 t (ix2 b e) = m ((c.tc : Thread nD τ).loc main_arg0) (ix2 b e))
    ∧ (∀ e : Fin 2048, iblk m c 1 t (ix2 0 e) = m ((c.tc : Thread nD τ).loc main_arg1) (ix2 0 e))
    ∧ (∀ e : Fin 128, iblk m c 6 t (ix2 0 e) = m ((c.tc : Thread nD τ).loc main_arg6) (ix2 0 e))
    ∧ (∀ (k : Fin 2048) (e : Fin 128), iblk m c 8 t (ix2 k e) = V m c main_v3 (ix2 k e))
    ∧ (∀ e : Fin 128, iblk m c 9 t (ix2 0 e) = m ((c.tc : Thread nD τ).loc main_arg9) (ix2 0 e)) := by
  obtain ⟨i0, i1, -, -, i6, i8, i9, -⟩ := index_at t
  rw [← V_main_arg0 m c, ← V_main_arg1 m c, ← V_main_arg6 m c, ← V_main_arg9 m c]
  refine ⟨fun b e => ?_, fun e => ?_, fun e => ?_, fun k e => ?_, fun e => ?_⟩
  all_goals
    blk_simp [iblk]
    refine congrArg (V m c _) ?_
    funext a
    apply Fin.ext
    fin_cases a <;> blk_simp [i0, i1, i6, i8, i9] <;> simp

/-- The blocks of weights of a point's columns, at an element. -/
theorem column_blocks (t : Fin cfg0.N) (k : Fin 2048) (e : Fin 512) (f : Fin 2048) (hf : f.val = t.val * 512 + e.val) :
    iblk m c 3 t (ix2 k e) = V m c main_v0 (ix2 k f) ∧ iblk m c 4 t (ix2 k e) = V m c main_v1 (ix2 k f) := by
  obtain ⟨-, -, i3, i4, -⟩ := index_at t
  constructor
  all_goals
    blk_simp [iblk]
    refine congrArg (V m c _) ?_
    funext a
    apply Fin.ext
    fin_cases a <;> blk_simp [i3, i4] <;> simp <;> omega

/-- The weights in half precision are the weights. -/
theorem weights : (∀ y, (V m c main_v0 y : EReal) = m ((c.tc : Thread nD τ).loc main_arg3) y) ∧ (∀ y, (V m c main_v1 y : EReal) = m ((c.tc : Thread nD τ).loc main_arg4) y)
    ∧ ∀ y, (V m c main_v3 y : EReal) = m ((c.tc : Thread nD τ).loc main_arg8) y := by
  refine ⟨?_, ?_, ?_⟩
  all_goals
    intro y
    simp only [V, hostOps0, List.flatten_cons, List.flatten_nil, List.append_nil, List.cons_append, List.nil_append]
    after_results_simp
    rfl

/-- The rows made are the scaled rows. -/
theorem made_rows (b : Fin 64) (k : Fin 2048) :
    ((made m c).xn (ix2 b k) : EReal) = scaled (fun k => m ((c.tc : Thread nD τ).loc main_arg0) (ix2 b k)) (fun k => m ((c.tc : Thread nD τ).loc main_arg1) (ix2 0 k)) k := by
  obtain ⟨b0, b1, -⟩ := whole_blocks m c zero
  refine (rows_apply (iblk m c 0 zero) (iblk m c 1 zero) b k).2.trans ?_
  simp only [b0, b1]

/-- The log-forgets made are those of the arguments. -/
theorem made_forgets (b : Fin 64) (e : Fin 128) :
    ((made m c).lf (ix2 b e) : EReal) = forget (n := 64) (m ((c.tc : Thread nD τ).loc main_arg0)) (m ((c.tc : Thread nD τ).loc main_arg1)) (m ((c.tc : Thread nD τ).loc main_arg8))
      (m ((c.tc : Thread nD τ).loc main_arg9)) b e := by
  obtain ⟨b0, b1, -, b8, b9⟩ := whole_blocks m c zero
  refine (forget_apply (iblk m c 0 zero) (iblk m c 1 zero) (iblk m c 8 zero) (iblk m c 9 zero) b e).trans ?_
  unfold forget
  simp only [(rows_apply _ _ _ _).1, b0, b1, b8, b9, (weights m c).2.2]

/-! ## The three arrays -/

/-- The call's keys. -/
theorem keys_eq : (dats m 0 c).arrAt 12 cfg0.N = fun y : S64x2048.Idx => key (n := 64) (m ((c.tc : Thread nD τ).loc main_arg0)) (m ((c.tc : Thread nD τ).loc main_arg1))
    (m ((c.tc : Thread nD τ).loc main_arg3)) (m ((c.tc : Thread nD τ).loc main_arg6)) (y 0) (y 1) := by
  refine (dats m 0 c).arrAt_eq_of_covers 12 _ (by decide +kernel) fun t _ y => ?_
  obtain ⟨-, -, b6, -⟩ := whole_blocks m c t
  obtain ⟨-, -, -, -, -, -, -, i12, -⟩ := index_at t
  blk_simp
  rw [(leaves m c t).1]
  obtain ⟨r, e, rfl⟩ : ∃ (r : Fin 64) (e : Fin 512), y = (ix2 r e : S64x512.Idx) := ⟨y 0, y 1, by funext a; fin_cases a <;> rfl⟩
  have e0 : ((win0_12.blk t).view.emb (ix2 r e : S64x512.Idx)) 0 = r := Fin.ext (by blk_simp [i12])
  have e1 : (((win0_12.blk t).view.emb (ix2 r e : S64x512.Idx)) 1 : ℕ) = t.val * 512 + e.val := by blk_simp [i12]
  generalize (win0_12.blk t).view.emb (ix2 r e : S64x512.Idx) = z at e0 e1
  refine (keys_apply _ _ _ r ⟨e.val / 128, by omega⟩ ⟨e.val % 128, by omega⟩ e (by dsimp only; omega)).trans ?_
  unfold key project
  simp only [(product_apply _ _ _ _).1, made_rows, b6, e0]
  refine congrArg₂ (fun p q => headed p _ q) (funext fun d => Finset.sum_congr rfl fun k _ => congrArg _ ?_) (Fin.ext ?_)
  · exact ((column_blocks m c t k _ _ (by dsimp only; omega)).1).trans ((weights m c).1 _)
  · dsimp only; omega

/-- The call's values. -/
theorem values_eq : (dats m 0 c).arrAt 13 cfg0.N = fun y : S64x2048.Idx => project (n := 64) (m ((c.tc : Thread nD τ).loc main_arg0)) (m ((c.tc : Thread nD τ).loc main_arg1))
    (m ((c.tc : Thread nD τ).loc main_arg4)) (y 0) (y 1) := by
  refine (dats m 0 c).arrAt_eq_of_covers 13 _ (by decide +kernel) fun t _ y => ?_
  obtain ⟨-, -, -, -, -, -, -, -, i13, -⟩ := index_at t
  blk_simp
  rw [(leaves m c t).2.1]
  obtain ⟨r, e, rfl⟩ : ∃ (r : Fin 64) (e : Fin 512), y = (ix2 r e : S64x512.Idx) := ⟨y 0, y 1, by funext a; fin_cases a <;> rfl⟩
  have e0 : ((win0_13.blk t).view.emb (ix2 r e : S64x512.Idx)) 0 = r := Fin.ext (by blk_simp [i13])
  have e1 : (((win0_13.blk t).view.emb (ix2 r e : S64x512.Idx)) 1 : ℕ) = t.val * 512 + e.val := by blk_simp [i13]
  generalize (win0_13.blk t).view.emb (ix2 r e : S64x512.Idx) = z at e0 e1
  refine (product_apply _ _ r e).2.trans ?_
  unfold project
  simp only [made_rows, (column_blocks m c t _ e (z 1) e1).2, (weights m c).2.1, e0]

/-- The call's log-forgets. -/
theorem forgets_eq : (dats m 0 c).arrAt 17 cfg0.N = fun y : S64x128.Idx => forget (n := 64) (m ((c.tc : Thread nD τ).loc main_arg0)) (m ((c.tc : Thread nD τ).loc main_arg1))
    (m ((c.tc : Thread nD τ).loc main_arg8)) (m ((c.tc : Thread nD τ).loc main_arg9)) (y 0) (y 1) := by
  refine (dats m 0 c).arrAt_eq_of_covers 17 _ (by decide +kernel) fun t _ y => ?_
  obtain ⟨-, -, -, -, -, -, -, -, -, i17⟩ := index_at t
  blk_simp
  rw [(leaves m c t).2.2]
  obtain ⟨r, e, rfl⟩ : ∃ (r : Fin 64) (e : Fin 128), y = (ix2 r e : S64x128.Idx) := ⟨y 0, y 1, by funext a; fin_cases a <;> rfl⟩
  have e0 : ((win0_17.blk t).view.emb (ix2 r e : S64x128.Idx)) 0 = r := Fin.ext (by blk_simp [i17])
  have e1 : ((win0_17.blk t).view.emb (ix2 r e : S64x128.Idx)) 1 = e := Fin.ext (by blk_simp [i17])
  refine (made_forgets m c r e).trans ?_
  rw [e0, e1]

end Cert.QkvSampleIdeal.Proj

namespace Cert.QkvSampleRefIdeal.Proj

open Idealize.ShloMosaic Idealize.SL.Sem Cert.QkvSampleRefIdeal Cert.QkvSampleRefIdeal.Gen Cert.Layer
open Idealize.ShloMosaic.TcCoe

/-- The reference's scaled rows, times the weights. -/
def times (x : FVec Ideal S64x2048 .f32) (g : FVec Ideal S1x2048 .f32) (w : FVec Ideal S2048x2048 .f32) : FVec Ideal S64x2048 .f32 :=
  Host.dotGeneral dot_S64x2048_S2048x2048_S64x2048_1_0_0_1_n_n none
    (mulf (mulf x (broadcastInDim S64x2048 ![0, 1] bcast_S64x1_S64x2048_0_1
      (Host.rsqrt (addf (Host.divf (broadcastInDim S64x1 ![0] bcast_S64_S64x1_0 (Host.reduceAdd (mulf x x) (constant S_ .f32 0x00000000#32) reducesTo_S64x2048_S64_d1 h_S_))
          (broadcastInDim S64x1 ![] bcast_S_S64x1 (constant S_ .f32 0x45000000#32))) (broadcastInDim S64x1 ![] bcast_S_S64x1 (constant S_ .f32 0x358637BD#32))))))
      (broadcastInDim S64x2048 ![0, 1] bcast_S1x2048_S64x2048_0_1 g)) w

/-- A product of the reference. -/
theorem times_apply (x : FVec Ideal S64x2048 .f32) (g : FVec Ideal S1x2048 .f32) (w : FVec Ideal S2048x2048 .f32) (b : Fin 64) (e : Fin 2048) :
    (times x g w (ix2 b e) : EReal) = project x g w b e := by
  pointwise [times]
  rfl

/-- Heads of products brought to norm one, as the reference does it. -/
def unit (p : FVec Ideal S64x16x128 .f32) (g : FVec Ideal S1x128 .f32) : FVec Ideal S64x16x128 .f32 :=
  mulf (mulf p (broadcastInDim S64x16x128 ![0, 1, 2] bcast_S64x16x1_S64x16x128_0_1_2
      (Host.rsqrt (addf (Host.divf (broadcastInDim S64x16x1 ![0, 1] bcast_S64x16_S64x16x1_0_1 (Host.reduceAdd (mulf p p) (constant S_ .f32 0x00000000#32) reducesTo_S64x16x128_S64x16_d2 h_S_))
          (broadcastInDim S64x16x1 ![] bcast_S_S64x16x1 (constant S_ .f32 0x43000000#32))) (broadcastInDim S64x16x1 ![] bcast_S_S64x16x1 (constant S_ .f32 0x358637BD#32))))))
    (broadcastInDim S64x16x128 ![0, 1, 2] bcast_S1x1x128_S64x16x128_0_1_2 (broadcastInDim S1x1x128 ![2] bcast_S128_S1x1x128_2 (shapeCast _ g shapeCasts_S1x128_S128)))

/-- The reference's keys, at an element. -/
theorem keys_apply (x : FVec Ideal S64x2048 .f32) (g : FVec Ideal S1x2048 .f32) (w : FVec Ideal S2048x2048 .f32) (gk : FVec Ideal S1x128 .f32) (b : Fin 64) (f : Fin 2048) :
    (shapeCast S64x2048 (unit (shapeCast S64x16x128 (times x g w) shapeCasts_S64x2048_S64x16x128) gk) shapeCasts_S64x16x128_S64x2048 (ix2 b f) : EReal) = key x g w gk b f := by
  have hu (p : FVec Ideal S64x16x128 .f32) (h : Fin 16) (e : Fin 128) : (unit p gk (ix3 b h e) : EReal) = headed (fun d => p (ix3 b h d)) (fun d => gk (ix2 0 d)) e := by
    pointwise [unit]
    rfl
  refine (join_apply _ _ b ⟨f.val / 128, by omega⟩ ⟨f.val % 128, by omega⟩ f (by dsimp only; omega)).trans ?_
  refine (hu _ _ _).trans ?_
  unfold key
  refine congrArg (fun p => headed p _ _) (funext fun d => ?_)
  exact (split_apply _ _ b _ d).trans (times_apply x g w b _)

/-- The reference's log-forgets, from what they are made of. -/
def logs (z : FVec Ideal S64x128 .f32) : FVec Ideal S64x128 .f32 :=
  let n := Host.negf z
  let o := broadcastInDim S64x128 ![] bcast_S_S64x128 (constant S_ .f32 0x00000000#32)
  Host.negf (select (cmpf .une (subf n o) (subf n o)) (addf n o) (addf (maximumf n o) (Host.log1p (Host.exp (Host.negf (Host.absf (subf n o)))))))

/-- The same, at an element. -/
theorem logs_apply (z : FVec Ideal S64x128 .f32) (b : Fin 64) (e : Fin 128) : (logs z (ix2 b e) : EReal) = logLogistic (z (ix2 b e)) := by
  pointwise [logs]
  generalize (z (ix2 b e) : EReal) = y
  unfold logLogistic
  simp
  rw [show FloatOps.absf (-y) = max (-y) (- -y) from rfl, neg_neg, max_comm (-y) y]

/-- What the reference's log-forgets are made of. -/
def gates (x : FVec Ideal S64x2048 .f32) (g : FVec Ideal S1x2048 .f32) (w : FVec Ideal S2048x128 .f32) (bf : FVec Ideal S1x128 .f32) : FVec Ideal S64x128 .f32 :=
  addf (Host.dotGeneral dot_S64x2048_S2048x128_S64x128_1_0_0_1_n_n none
    (mulf (mulf x (broadcastInDim S64x2048 ![0, 1] bcast_S64x1_S64x2048_0_1
      (Host.rsqrt (addf (Host.divf (broadcastInDim S64x1 ![0] bcast_S64_S64x1_0 (Host.reduceAdd (mulf x x) (constant S_ .f32 0x00000000#32) reducesTo_S64x2048_S64_d1 h_S_))
          (broadcastInDim S64x1 ![] bcast_S_S64x1 (constant S_ .f32 0x45000000#32))) (broadcastInDim S64x1 ![] bcast_S_S64x1 (constant S_ .f32 0x358637BD#32))))))
      (broadcastInDim S64x2048 ![0, 1] bcast_S1x2048_S64x2048_0_1 g)) w)
    (broadcastInDim S64x128 ![0, 1] bcast_S1x128_S64x128_0_1 (broadcastInDim S1x128 ![1] bcast_S128_S1x128_1 (shapeCast _ bf shapeCasts_S1x128_S128)))

/-- The reference's log-forgets, at an element. -/
theorem forgets_apply (x : FVec Ideal S64x2048 .f32) (g : FVec Ideal S1x2048 .f32) (w : FVec Ideal S2048x128 .f32) (bf : FVec Ideal S1x128 .f32) (b : Fin 64) (e : Fin 128) :
    (logs (gates x g w bf) (ix2 b e) : EReal) = forget x g w bf b e := by
  refine (logs_apply _ b e).trans (congrArg logLogistic ?_)
  pointwise [gates]
  rfl

end Cert.QkvSampleRefIdeal.Proj

namespace Cert.Layer

open Idealize.ShloMosaic Idealize.SL.Sem
open Idealize.ShloMosaic.TcCoe

/-- The sampled positions' projections and their reference leave the same keys, values and log-forgets. -/
theorem qkv_sample : Cert.algebraic_QkvSampleIdeal_QkvSampleRefIdeal := by
  intro m ρ m' ρ' _ harg
  refine ⟨_, _, _,
    (θ_run _ _ _).mono (fun r h c => ⟨(h.1 c).2.1.trans (Cert.QkvSampleIdeal.Proj.keys_eq m c), (h.1 c).2.2.1.trans (Cert.QkvSampleIdeal.Proj.values_eq m c),
      (h.1 c).2.2.2.trans (Cert.QkvSampleIdeal.Proj.forgets_eq m c), (h.1 c).1⟩) (Cert.QkvSampleIdeal.Gen.result m ρ),
    (θ_run _ _ _).mono (fun r h c => ⟨(h c).1.trans ?_, (h c).2.1.trans ?_, (h c).2.2.1.trans ?_, (h c).2.2.2⟩) (Cert.QkvSampleRefIdeal.Value.run m' ρ')⟩
  all_goals
    obtain ⟨e0, e1, e2, e3, e4, e5, e6, e7, e8, e9, e10, e11⟩ := harg c
    funext y
    obtain ⟨b, e, rfl⟩ : ∃ b e, y = ix2 b e := ⟨y 0, y 1, by funext a; fin_cases a <;> rfl⟩
  · rw [e0, e1, e3, e6]
    exact Cert.QkvSampleRefIdeal.Proj.keys_apply _ _ _ _ b e
  · rw [e0, e1, e4]
    exact Cert.QkvSampleRefIdeal.Proj.times_apply _ _ _ b e
  · refine (Cert.QkvSampleRefIdeal.Proj.forgets_apply _ _ _ _ b e).trans ?_
    rw [e0, e1, e8, e9]
    rfl

/-- The reference runs, its arguments unchanged and every counter back at zero. -/
theorem qkv_sample_reference : Cert.quiescent_QkvSampleRefIdeal :=
  fun m ρ _ => (θ_run _ _ _).mono (fun r h => ⟨fun c => (h c).2.2.2, sem_eq_zero_of_no_sems rfl r.2⟩) (Cert.QkvSampleRefIdeal.Value.run m ρ)

/-- The kernel runs, its arguments unchanged and every counter back at zero. -/
theorem qkv_sample_runs : Cert.quiescent_QkvSampleIdeal :=
  fun m ρ _ => (θ_run _ _ _).mono (fun r h => ⟨fun c => (h.1 c).1, h.2⟩) (Cert.QkvSampleIdeal.Gen.result m ρ)

end Cert.Layer
-- ==== Proof.QkvSampleReal.lean ====
module

public import proofs.«01_k».proof.Defs
public import proofs.«01_k».proof.Proof.QkvSampleFrame
public import proofs.«01_k».proof.Proof.Gen.QkvSample

@[expose] public section

set_option maxRecDepth 16384

/-! The sampled positions' projections with machine numbers: the same program as the idealized one. -/

noncomputable section

namespace Cert.Layer

open Idealize.ShloMosaic Idealize.SL.Sem
open Idealize.ShloMosaic.TcCoe

set_option maxHeartbeats 20000000 in
/-- The two programs' tables are one: their only body is. -/
theorem qkv_sample_tables_eq : Cert.QkvSample.defs (F := Bits) = Cert.QkvSampleIdeal.defs (F := Bits) := by
  have hb : Cert.QkvSample.defs₀ (F := Bits) = Cert.QkvSampleIdeal.defs₀ (F := Bits) := by
    unfold Cert.QkvSample.defs₀ Cert.QkvSampleIdeal.defs₀
    refine congrArg Defs.onTc (funext fun l => funext fun args => ?_)
    obtain ⟨l, hl⟩ := l
    obtain rfl : l = 0 := by omega
    obtain ⟨t, s⟩ := args
    rfl
  unfold Cert.QkvSample.defs Cert.QkvSampleIdeal.defs
  exact congrArg (Pipeline.defs Cert.QkvSampleIdeal.pcfgs) hb

/-- The kernel with its machine numbers runs, its arguments unchanged and every counter back at zero. -/
theorem qkv_sample_real_runs : Cert.quiescent_QkvSample := by
  intro m ρ _
  have h := (θ_run (Cert.QkvSampleIdeal.defs (F := Bits)) _ _).mono (fun r h => And.intro (fun c => (h.1 c).1) h.2) (Cert.QkvSampleIdeal.Gen.result (F := Bits) m ρ)
  rw [qkv_sample_tables_eq]
  exact h

end Cert.Layer
-- ==== Proof.Glu.lean ====
module

public import proofs.«01_k».proof.Defs
public import proofs.«01_k».proof.Proof.Norm
public import proofs.«01_k».proof.Proof.Gen.GluIdeal.Value
public import proofs.«01_k».proof.Proof.Gen.GluRefIdeal.Run
public import Idealize.ShloMosaic.Lib.Quiescent
public import Idealize.ShloMosaic.Lib.Pointwise
public import Idealize.ShloMosaic.Lib.Pipeline.ValueKit
public import Idealize.ShloMosaic.Lib.WholeRead
public import Idealize.ShloMosaic.Lib.Tactic.CleanTypes

@[expose] public section

set_option maxRecDepth 16384

/-! The gated linear unit: one point's block, the array, the reference. -/

noncomputable section

namespace Cert.Layer

open Idealize.ShloMosaic

/-- The gated linear unit of the scaled rows: the first half of the products times the logistic function of the second half. -/
def unit (x : (⟨2, ![8192, 2048]⟩ : Shape).Idx → EReal) (g : (⟨2, ![1, 2048]⟩ : Shape).Idx → EReal)
    (w : (⟨2, ![2048, 4096]⟩ : Shape).Idx → EReal) (b : Fin 8192) (e : Fin 2048) : EReal :=
  (∑ k, scaled (fun k => x (ix2 b k)) (fun k => g (ix2 0 k)) k * w (ix2 k ⟨e.val, by omega⟩))
    * Ideal.logistic (∑ k, scaled (fun k => x (ix2 b k)) (fun k => g (ix2 0 k)) k * w (ix2 k ⟨2048 + e.val, by omega⟩))

end Cert.Layer

namespace Cert.GluIdeal.Unit

open Idealize.ShloMosaic Idealize.SL.Sem Cert.GluIdeal Cert.GluIdeal.Gen Cert.Layer
open Idealize.ShloMosaic.TcCoe

/-- The scaled rows a point keeps. -/
theorem rows_apply (x : Vec Ideal S1024x2048 .f32) (g : Vec Ideal S1x2048 .f32) (r : Fin 1024) (k : Fin 2048) :
    (k0_pay1 x g (ix2 r k) : EReal) = scaled (fun k => x (ix2 r k)) (fun k => g (ix2 0 k)) k := by
  pointwise [k0_pay1]
  rfl

/-- What a point leaves in its output block, from the scaled rows and the two blocks of weights. -/
def block (s : Vec Ideal S1024x2048 .bf16) (w v : Vec Ideal S2048x512 .bf16) : Vec Ideal S1024x512 .f32 := fun y =>
  (∑ k : Fin 2048, (s (ix2 (y 0) k) : EReal) * w (ix2 k (y 1))) * Ideal.logistic (∑ k : Fin 2048, (s (ix2 (y 0) k) : EReal) * v (ix2 k (y 1)))

/-- The products of one half of the columns. -/
theorem left_apply (s : Vec Ideal S1024x2048 .bf16) (w v : Vec Ideal S2048x256 .bf16) (r : Fin 1024) (e : Fin 256) :
    k0_pay2 s w v (ix2 r e) = (∑ k : Fin 2048, (s (ix2 r k) : EReal) * w (ix2 k e)) * Ideal.logistic (∑ k : Fin 2048, (s (ix2 r k) : EReal) * v (ix2 k e)) := by
  pointwise [k0_pay2]

/-- The products of the other half of the columns. -/
theorem right_apply (s : Vec Ideal S1024x2048 .bf16) (w v : Vec Ideal S2048x256 .bf16) (r : Fin 1024) (e : Fin 256) :
    k0_pay3 s w v (ix2 r e) = (∑ k : Fin 2048, (s (ix2 r k) : EReal) * w (ix2 k e)) * Ideal.logistic (∑ k : Fin 2048, (s (ix2 r k) : EReal) * v (ix2 k e)) := by
  pointwise [k0_pay3]

/-- A load of columns from a block of weights. -/
theorem load_cols (m : Memref sig .tc .vmem S2048x512 .bf16) (hm : m.IsWhole) (x : Vec Ideal S2048x512 .bf16) (o : ℕ)
    (h : ∀ a, (![0, o] : Fin 2 → ℕ) a + S2048x256.size a ≤ S2048x512.size a) (k : Fin 2048) (e : Fin 256) (f : Fin 512) (hf : f.val = o + e.val) :
    View.readAt (Elt Ideal) m.view (Rect.unit (s := S2048x512) ![0, o] S2048x256.size h).toLoadRect (hm.unread x) (ix2 k e) = x (ix2 k f) := by
  rw [Memref.IsWhole.readAt_unread]
  refine congrArg x ?_
  funext a
  apply Fin.ext
  fin_cases a
  · show 0 + 1 * k.val = k.val
    omega
  · show o + 1 * e.val = f.val
    omega

/-- A half of the columns of a point's output block, from loads of those columns of the weights. -/
theorem tile (o : ℕ) (s : Vec Ideal S1024x2048 .bf16) (w v : Vec Ideal S2048x512 .bf16) (w' v' : Vec Ideal S2048x256 .bf16)
    (hw : ∀ (k : Fin 2048) (e : Fin 256) (f : Fin 512), f.val = o + e.val → w' (ix2 k e) = w (ix2 k f))
    (hv : ∀ (k : Fin 2048) (e : Fin 256) (f : Fin 512), f.val = o + e.val → v' (ix2 k e) = v (ix2 k f))
    (h : ∀ a, (![0, o] : Fin 2 → ℕ) a + (![1024, 256] : Fin 2 → ℕ) a ≤ S1024x512.size a) (p : Vec Ideal S1024x256 .f32)
    (hp : ∀ (r : Fin 1024) (e : Fin 256), p (ix2 r e)
      = (∑ k : Fin 2048, (s (ix2 r k) : EReal) * w' (ix2 k e)) * Ideal.logistic (∑ k : Fin 2048, (s (ix2 r k) : EReal) * v' (ix2 k e)))
    (z : S1024x256.Idx) : p z = block s w v ((Rect.unit (s := S1024x512) ![0, o] ![1024, 256] h).emb z) := by
  obtain ⟨r, e, hz⟩ : ∃ (r : Fin 1024) (e : Fin 256), z = ix2 r e := ⟨z 0, z 1, by funext a; fin_cases a <;> rfl⟩
  subst hz
  rw [hp]
  have e0 : ((Rect.unit (s := S1024x512) ![0, o] ![1024, 256] h).emb (ix2 r e)) 0 = r := Fin.ext (by show 0 + 1 * r.val = r.val; omega)
  have e1 : (((Rect.unit (s := S1024x512) ![0, o] ![1024, 256] h).emb (ix2 r e)) 1).val = o + e.val := by show o + 1 * e.val = o + e.val; omega
  generalize (Rect.unit (s := S1024x512) ![0, o] ![1024, 256] h).emb (ix2 r e) = y at e0 e1
  unfold block
  simp only [hw _ e _ e1, hv _ e _ e1, e0]

/-- Loading a whole buffer of rows. -/
theorem load_rows {t : EltTy} (m : Memref sig .tc .vmem S1024x2048 t) (hm : m.IsWhole) (x : Vec Ideal S1024x2048 t) (h) :
    View.readAt (Elt Ideal) m.view (Rect.unit (s := S1024x2048) ![0, 0] ![1024, 2048] h).toLoadRect (hm.unread x) = x := by
  funext y
  rw [Memref.IsWhole.readAt_unread]
  refine congrArg x ?_
  funext a
  apply Fin.ext
  fin_cases a
  · show 0 + 1 * (y 0).val = (y 0).val
    omega
  · show 0 + 1 * (y 1).val = (y 1).val
    omega

/-- Loading the whole gain. -/
theorem load_gain (m : Memref sig .tc .vmem S1x2048 .f32) (hm : m.IsWhole) (x : Vec Ideal S1x2048 .f32) (h) :
    View.readAt (Elt Ideal) m.view (Rect.unit (s := S1x2048) ![0, 0] ![1, 2048] h).toLoadRect (hm.unread x) = x := by
  funext y
  rw [Memref.IsWhole.readAt_unread]
  refine congrArg x ?_
  funext a
  apply Fin.ext
  fin_cases a
  · show 0 + 1 * (y 0).val = (y 0).val
    omega
  · show 0 + 1 * (y 1).val = (y 1).val
    omega

section Point

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S1024x512 .f32) (harg6 : arg6.IsWhole) (arg7 : Memref sig .tc .vmem S1024x2048 .bf16) (harg7 : arg7.IsWhole)
  (x0 : Vec Ideal S1024x2048 .f32) (x1 : Vec Ideal S1x2048 .f32) (x2 x3 : Vec Ideal S2048x512 .bf16) (xs : Vec Ideal S1024x2048 .bf16)

/-- The rows the first point of a row tile stores. -/
theorem stored_rows : View.canon (kernelRun0_A.sl.HS0_1 (F := Ideal) c arg2 harg2 arg3 harg3 x0 x1) = k0_pay1 x0 x1 := by
  unfold kernelRun0_A.sl.HS0_1
  rw [View.canon_unit_zero (by funext a; fin_cases a <;> rfl)]
  exact congrArg₂ k0_pay1 (load_rows _ _ _ _) (load_gain _ _ _ _)

/-- The rows it loads back. -/
theorem scaled_rows : kernelRun0_A.sl.v3 (F := Ideal) c arg2 harg2 arg3 harg3 arg7 x0 x1 = k0_pay1 x0 x1 := by
  unfold kernelRun0_A.sl.v3
  rw [← stored_rows c arg2 harg2 arg3 harg3 x0 x1]
  funext y
  rw [View.readCov_eq_canon']
  refine congrArg _ ?_
  funext a
  apply Fin.ext
  fin_cases a
  · show 0 + 1 * (y 0).val = (y 0).val
    omega
  · show 0 + 1 * (y 1).val = (y 1).val
    omega

/-- A later point of a row tile leaves the products of the rows it found. -/
theorem later (hc : ¬cond0_0 i) : out0_B_4 c i arg2 harg2 arg3 harg3 arg4 harg4 arg5 harg5 arg6 harg6 arg7 harg7 hc x0 x1 x2 x3 xs = block xs x2 x3 := by
  unfold out0_B_4
  rw [View.read_writes_junk_eq_canon]
  funext y
  refine View.canon_apply_of_pieces (Val := Elt Ideal) (block xs x2 x3) _ ?_ y (cover0_B_4 c i arg2 harg2 arg3 harg3 arg4 harg4 arg5 harg5 arg6 harg6 arg7 harg7 hc x0 x1 x2 x3 xs y)
  delta kernelRun0_B
  dsimp only
  simp only [List.forall_mem_cons]
  rw [load_rows]
  exact ⟨tile 256 xs x2 x3 _ _ (load_cols arg4 harg4 x2 256 _) (load_cols arg5 harg5 x3 256 _) _ _ (right_apply _ _ _),
    tile 0 xs x2 x3 _ _ (load_cols arg4 harg4 x2 0 _) (load_cols arg5 harg5 x3 0 _) _ _ (left_apply _ _ _),
    fun p hp => absurd hp List.not_mem_nil⟩

/-- The first point of a row tile leaves the products of the rows it scales. -/
theorem first (hc : cond0_0 i) : out0_A_4 c i arg2 harg2 arg3 harg3 arg4 harg4 arg5 harg5 arg6 harg6 arg7 harg7 hc x0 x1 x2 x3 = block (k0_pay1 x0 x1) x2 x3 := by
  unfold out0_A_4
  rw [View.read_writes_junk_eq_canon]
  funext y
  refine View.canon_apply_of_pieces (Val := Elt Ideal) (block (k0_pay1 x0 x1) x2 x3) _ ?_ y (cover0_A_4 c i arg2 harg2 arg3 harg3 arg4 harg4 arg5 harg5 arg6 harg6 arg7 harg7 hc x0 x1 x2 x3 y)
  delta kernelRun0_A
  dsimp only
  simp only [List.forall_mem_cons]
  rw [show kernelRun0_A.sl.v3 c arg2 harg2 arg3 harg3 arg7 x0 x1 = k0_pay1 x0 x1 from scaled_rows c arg2 harg2 arg3 harg3 arg7 x0 x1]
  exact ⟨tile 256 (k0_pay1 x0 x1) x2 x3 _ _ (load_cols arg4 harg4 x2 256 _) (load_cols arg5 harg5 x3 256 _) _ _ (right_apply _ _ _),
    tile 0 (k0_pay1 x0 x1) x2 x3 _ _ (load_cols arg4 harg4 x2 0 _) (load_cols arg5 harg5 x3 0 _) _ _ (left_apply _ _ _),
    fun p hp => absurd hp List.not_mem_nil⟩

/-- The first point of a row tile keeps the rows it scales. -/
theorem kept (hc : cond0_0 i) : sout0_A_0 c i arg2 harg2 arg3 harg3 arg4 harg4 arg5 harg5 arg6 harg6 arg7 harg7 hc x0 x1 x2 x3 = k0_pay1 x0 x1 := by
  unfold sout0_A_0
  rw [View.read_writes_junk_eq_canon]
  delta kernelRun0_A
  dsimp only
  exact stored_rows c arg2 harg2 arg3 harg3 x0 x1

end Point

variable (m : (ℓ : Loc nD τ sig) → Buf (Elt Ideal) ℓ) (c : Dev nD)

/-- The inputs' block at a point. -/
theorem index_x : ∀ t : Fin cfg0.N, win0_0.index t = ![t.val / 4, 0] := (by decide +kernel : ∀ t : Fin grid0.N, win0_0.index t = ![t.val / 4, 0])

/-- The gain's block at a point. -/
theorem index_g : ∀ t : Fin cfg0.N, win0_1.index t = ![0, 0] := (by decide +kernel : ∀ t : Fin grid0.N, win0_1.index t = ![0, 0])

/-- The block of the first half of the weights at a point. -/
theorem index_w : ∀ t : Fin cfg0.N, win0_2.index t = ![0, t.val % 4] := (by decide +kernel : ∀ t : Fin grid0.N, win0_2.index t = ![0, t.val % 4])

/-- The block of the second half of the weights at a point. -/
theorem index_v : ∀ t : Fin cfg0.N, win0_3.index t = ![0, t.val % 4 + 4] := (by decide +kernel : ∀ t : Fin grid0.N, win0_3.index t = ![0, t.val % 4 + 4])

/-- The output block at a point. -/
theorem index_o : ∀ t : Fin cfg0.N, win0_4.index t = ![t.val / 4, t.val % 4] := (by decide +kernel : ∀ t : Fin grid0.N, win0_4.index t = ![t.val / 4, t.val % 4])

/-- The inputs' block, at an element. -/
theorem x_block (t : Fin cfg0.N) (r : Fin 1024) (e : Fin 2048) (b : Fin 8192) (hb : b.val = t.val / 4 * 1024 + r.val) :
    iblk m c 0 t (ix2 r e) = m ((c.tc : Thread nD τ).loc main_arg0) (ix2 b e) := by
  rw [← V_main_arg0 m c]
  blk_simp [iblk]
  refine congrArg (V m c main_arg0) ?_
  funext a
  apply Fin.ext
  fin_cases a <;> blk_simp [index_x] <;> simp <;> omega

/-- The gain's block, at an element. -/
theorem g_block (t : Fin cfg0.N) (e : Fin 2048) : iblk m c 1 t (ix2 0 e) = m ((c.tc : Thread nD τ).loc main_arg1) (ix2 0 e) := by
  rw [← V_main_arg1 m c]
  blk_simp [iblk]
  refine congrArg (V m c main_arg1) ?_
  funext a
  apply Fin.ext
  fin_cases a <;> blk_simp [index_g] <;> simp

/-- The weights the call is launched with. -/
theorem weights (y : S2048x4096.Idx) : (V m c main_v0 y : EReal) = m ((c.tc : Thread nD τ).loc main_arg2) y := by
  simp only [V, hostOps0, List.flatten_cons, List.flatten_nil, List.append_nil, List.cons_append, List.nil_append]
  after_results_simp
  rfl

/-- A block of the first half of the weights, at an element. -/
theorem w_block (t : Fin cfg0.N) (k : Fin 2048) (e : Fin 512) (f : Fin 4096) (hf : f.val = t.val % 4 * 512 + e.val) :
    (iblk m c 2 t (ix2 k e) : EReal) = m ((c.tc : Thread nD τ).loc main_arg2) (ix2 k f) := by
  rw [← weights m c]
  blk_simp [iblk]
  refine congrArg (V m c main_v0) ?_
  funext a
  apply Fin.ext
  fin_cases a <;> blk_simp [index_w] <;> simp <;> omega

/-- A block of the second half of the weights, at an element. -/
theorem v_block (t : Fin cfg0.N) (k : Fin 2048) (e : Fin 512) (f : Fin 4096) (hf : f.val = 2048 + t.val % 4 * 512 + e.val) :
    (iblk m c 3 t (ix2 k e) : EReal) = m ((c.tc : Thread nD τ).loc main_arg2) (ix2 k f) := by
  rw [← weights m c]
  blk_simp [iblk]
  refine congrArg (V m c main_v0) ?_
  funext a
  apply Fin.ext
  fin_cases a <;> blk_simp [index_v] <;> simp <;> omega

/-- The rows a point keeps are the scaled rows of its tile. -/
theorem rows_kept (n : ℕ) (hn : n < cfg0.N) (r : Fin 1024) (k : Fin 2048) (b : Fin 8192) (hb : b.val = n / 4 * 1024 + r.val) :
    ((outsAt0 m c n hn).2 (ix2 r k) : EReal) = scaled (fun k => m ((c.tc : Thread nD τ).loc main_arg0) (ix2 b k)) (fun k => m ((c.tc : Thread nD τ).loc main_arg1) (ix2 0 k)) k := by
  induction n with
  | zero =>
    rw [outsAt0_A m c ⟨0, hn⟩ rfl]
    dsimp only
    rw [kept, rows_apply]
    simp only [x_block m c ⟨0, hn⟩ r _ b hb, g_block]
  | succ n ih =>
    by_cases h0 : (n + 1) % 4 = 0
    · rw [outsAt0_A m c ⟨n + 1, hn⟩ h0]
      dsimp only
      rw [kept, rows_apply]
      simp only [x_block m c ⟨n + 1, hn⟩ r _ b hb, g_block]
    · rw [outsAt0_B m c ⟨n + 1, hn⟩ h0]
      exact ih (by omega) (by omega)

/-- What a point leaves in its output block. -/
theorem out_block (t : Fin cfg0.N) : ∃ s : Vec Ideal S1024x2048 .bf16, (outsAt0 m c t.val t.isLt).1 = block s (iblk m c 2 t) (iblk m c 3 t)
    ∧ ∀ (r : Fin 1024) (k : Fin 2048) (b : Fin 8192), b.val = t.val / 4 * 1024 + r.val →
      (s (ix2 r k) : EReal) = scaled (fun k => m ((c.tc : Thread nD τ).loc main_arg0) (ix2 b k)) (fun k => m ((c.tc : Thread nD τ).loc main_arg1) (ix2 0 k)) k := by
  by_cases h0 : t.val % 4 = 0
  · refine ⟨k0_pay1 (iblk m c 0 t) (iblk m c 1 t), ?_, fun r k b hb => ?_⟩
    · rw [outsAt0_A m c t h0]
      dsimp only
      rw [first]
    · rw [rows_apply]
      simp only [x_block m c t r _ b hb, g_block]
  · refine ⟨(outsAt0 m c (t.val - 1) (Nat.lt_of_le_of_lt (Nat.sub_le _ _) t.isLt)).2, ?_, fun r k b hb => ?_⟩
    · rw [outsAt0_B m c t h0]
      dsimp only
      rw [later]
    · exact rows_kept m c _ _ r k b (by omega)

/-- The call's result. -/
theorem arr_eq : (dats m 0 c).arrAt 4 cfg0.N = fun y : S8192x2048.Idx => unit (m ((c.tc : Thread nD τ).loc main_arg0)) (m ((c.tc : Thread nD τ).loc main_arg1))
    (m ((c.tc : Thread nD τ).loc main_arg2)) (y 0) (y 1) := by
  refine (dats m 0 c).arrAt_eq_of_covers 4 _ (by decide +kernel) fun t hf y => ?_
  have ht : t.val < 32 := (by decide +kernel : ∀ t : Fin grid0.N, t.val < 32) t
  blk_simp
  rw [after0_4]
  obtain ⟨s, hs, hr⟩ := out_block m c t
  rw [hs]
  obtain ⟨r, e, hy⟩ : ∃ (r : Fin 1024) (e : Fin 512), y = (ix2 r e : S1024x512.Idx) := ⟨y 0, y 1, by funext a; fin_cases a <;> rfl⟩
  subst hy
  have e0 : (((win0_4.blk t).view.emb (ix2 r e : S1024x512.Idx)) 0 : ℕ) = t.val / 4 * 1024 + r.val := by blk_simp [index_o]
  have e1 : (((win0_4.blk t).view.emb (ix2 r e : S1024x512.Idx)) 1 : ℕ) = t.val % 4 * 512 + e.val := by blk_simp [index_o]
  generalize (win0_4.blk t).view.emb (ix2 r e : S1024x512.Idx) = z at e0 e1
  show (∑ k : Fin 2048, (s (ix2 r k) : EReal) * iblk m c 2 t (ix2 k e)) * Ideal.logistic (∑ k : Fin 2048, (s (ix2 r k) : EReal) * iblk m c 3 t (ix2 k e)) = _
  unfold unit
  simp only [hr r _ (z 0) e0, w_block m c t _ e ⟨(z 1).val, by omega⟩ e1, v_block m c t _ e ⟨2048 + (z 1).val, by omega⟩ (by dsimp only; omega)]

end Cert.GluIdeal.Unit

namespace Cert.GluRefIdeal.Unit

open Idealize.ShloMosaic Idealize.SL.Sem Cert.GluRefIdeal Cert.GluRefIdeal.Gen Cert.Layer
open Idealize.ShloMosaic.TcCoe

/-- The reference's products of the scaled rows with the weights. -/
def products (x : FVec Ideal S8192x2048 .f32) (g : FVec Ideal S1x2048 .f32) (w : FVec Ideal S2048x4096 .f32) : FVec Ideal S8192x4096 .f32 :=
  Host.dotGeneral dot_S8192x2048_S2048x4096_S8192x4096_1_0_0_1_n_n none (mulf (mulf x (broadcastInDim S8192x2048 ![0, 1] bcast_S8192x1_S8192x2048_0_1
      (Host.rsqrt (addf (Host.divf (broadcastInDim S8192x1 ![0] bcast_S8192_S8192x1_0 (Host.reduceAdd (mulf x x) (constant S_ .f32 0x00000000#32) reducesTo_S8192x2048_S8192_d1 h_S_))
          (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 g)) w

/-- A product of the reference. -/
theorem products_apply (x : FVec Ideal S8192x2048 .f32) (g : FVec Ideal S1x2048 .f32) (w : FVec Ideal S2048x4096 .f32) (b : Fin 8192) (e : Fin 4096) :
    (products x g w (ix2 b e) : EReal) = ∑ k, scaled (fun k => x (ix2 b k)) (fun k => g (ix2 0 k)) k * w (ix2 k e) := by
  pointwise [products]
  rfl

/-- The reference's result, at an element. -/
theorem result_apply (x : FVec Ideal S8192x2048 .f32) (g : FVec Ideal S1x2048 .f32) (w : FVec Ideal S2048x4096 .f32) (b : Fin 8192) (e : Fin 2048) :
    mulf (extractStridedSlice S8192x2048 ![0, 0] (products x g w) slices_S8192x4096_S8192x2048_0_0) (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 2048] (products x g w) slices_S8192x4096_S8192x2048_0_2048))))) (ix2 b e) = unit x g w b e := by
  pointwise [products_apply]
  unfold unit
  congr 1

end Cert.GluRefIdeal.Unit

namespace Cert.Layer

open Idealize.ShloMosaic Idealize.SL.Sem
open Idealize.ShloMosaic.TcCoe

/-- The gated linear unit and its reference leave one result. -/
theorem glu : Cert.algebraic_GluIdeal_GluRefIdeal := by
  intro m ρ m' ρ' _ harg
  refine ⟨fun c => fun y : Cert.GluIdeal.S8192x2048.Idx => unit (m ((c.tc : Thread Cert.GluIdeal.nD Cert.GluIdeal.τ).loc Cert.GluIdeal.main_arg0))
      (m ((c.tc : Thread Cert.GluIdeal.nD Cert.GluIdeal.τ).loc Cert.GluIdeal.main_arg1)) (m ((c.tc : Thread Cert.GluIdeal.nD Cert.GluIdeal.τ).loc Cert.GluIdeal.main_arg2)) (y 0) (y 1),
    (θ_run _ _ _).mono (fun r h c => ⟨(h c).1.trans (Cert.GluIdeal.Unit.arr_eq m c), (h c).2⟩) (Cert.GluIdeal.Value.run_blocks m ρ),
    (θ_run _ _ _).mono (fun r h c => ⟨(h c).1.trans ?_, (h c).2⟩) (Cert.GluRefIdeal.Value.run m' ρ')⟩
  obtain ⟨e0, e1, e2⟩ := harg c
  rw [e0, e1, e2]
  funext y
  have hy : y = ix2 (y 0) (y 1) := by funext a; fin_cases a <;> rfl
  rw [hy]
  exact Cert.GluRefIdeal.Unit.result_apply _ _ _ (y 0) (y 1)

/-- The reference runs, its arguments unchanged and every counter back at zero. -/
theorem glu_reference : Cert.quiescent_GluRefIdeal :=
  fun m ρ _ => (θ_run _ _ _).mono (fun r h => ⟨fun c => (h c).2, sem_eq_zero_of_no_sems rfl r.2⟩) (Cert.GluRefIdeal.Value.run m ρ)

end Cert.Layer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_scores
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Block
public import proofs.«01_k».proof.Proof.Refer
public import proofs.«01_k».proof.Proof.Ffn
public import proofs.«01_k».proof.Proof.FfnReal
public import proofs.«01_k».proof.Proof.Qkv
public import proofs.«01_k».proof.Proof.QkvReal
public import proofs.«01_k».proof.Proof.PleSample
public import proofs.«01_k».proof.Proof.QkvSample
public import proofs.«01_k».proof.Proof.QkvSampleReal
public import proofs.«01_k».proof.Proof.Gen.PleSample.Frame
public import proofs.«01_k».proof.Proof.Glu
public import proofs.«01_k».proof.Proof.Ple
public import Idealize.ShloMosaic.Lib.Quiescent
public import Idealize.ShloMosaic.Adequacy
public import Idealize.ShloMosaic.Init

@[expose] public section

noncomputable section

namespace Cert.Proof

open Idealize.ShloMosaic Idealize.SL.Sem

/-- A number whose absolute value is below infinity is a real number. -/
theorem number {x : EReal} (h : FloatOps.cmpf (F := Ideal) (φ := .f32) .olt (FloatOps.hostAbsf (F := Ideal) (φ := .f32) x) (Ideal.ofBits .f32 0x7F800000#32) = 1#1) :
    x = (x.toReal : EReal) := by
  have hb : Ideal.ofBits .f32 0x7F800000#32 = (⊤ : EReal) := by simp [Ideal.ofBits, Ideal.ieee]
  rw [hb] at h
  have hx : x ≠ ⊤ ∧ x ≠ ⊥ := by
    have hd : max x (-x) < ⊤ := by
      by_contra hc
      have h' : BitVec.ofBool (decide (max x (-x) < ⊤)) = 1#1 := h
      rw [decide_eq_false hc] at h'
      exact absurd h' (by decide)
    constructor
    · rintro rfl
      exact absurd hd (by simp)
    · rintro rfl
      exact absurd hd (by simp)
  exact (EReal.coe_toReal hx.1 hx.2).symm

/-- Under the precondition every query, key and cumulative log-forget is a number. -/
theorem numbers {m : (ℓ : Loc Cert.KernelIdeal.nD Cert.KernelIdeal.τ Cert.KernelIdeal.sig) → Buf (Elt Ideal) ℓ} (h : Cert.Pre_KernelIdeal_finite_scores m) (c : Dev Cert.KernelIdeal.nD) :
    Cert.Attention.Numbers (Cert.KernelIdeal.Attn.queries m c) (Cert.KernelIdeal.Attn.keys m c) (Cert.KernelIdeal.Attn.gates m c) :=
  ⟨fun i => number (congrFun (h c).1 i), fun i => number (congrFun (h c).2.1 i), fun i => number (congrFun (h c).2.2 i)⟩

/-- The kernel and the reference leave one result. -/
theorem algebraic : Cert.algebraic_KernelIdeal_ReferenceIdeal_pre_finite_scores := by
  intro m ρ m' ρ' hpre harg
  refine ⟨fun c => fun y : Cert.KernelIdeal.S8192x2048.Idx => Cert.Attention.attention (Cert.KernelIdeal.Attn.queries m c) (Cert.KernelIdeal.Attn.keys m c)
    (Cert.KernelIdeal.Attn.values m c) (Cert.KernelIdeal.Attn.gates m c) (y 0) (y 1),
    (θ_run _ _ _).mono (fun r h c => ⟨(h c).1.trans (Cert.KernelIdeal.Attn.arr_eq (numbers hpre c)), (h c).2⟩) (Cert.KernelIdeal.Value.run_blocks m ρ),
    (θ_run _ _ _).mono (fun r h c => ⟨(h c).1.trans ?_, (h c).2⟩) (Cert.ReferenceIdeal.Value.run m' ρ')⟩
  rw [Cert.ReferenceIdeal.Attn.result_eq]
  obtain ⟨e0, e1, e2, e3⟩ := harg c
  rw [e0, e1, e2, e3]
  funext y
  have hy : y = ix2 (y 0) (y 1) := by funext a; fin_cases a <;> rfl
  rw [hy]
  exact Cert.ReferenceIdeal.Attn.result_apply _ _ _ _ (numbers hpre c) (y 0) (y 1)

/-- The reference runs, its arguments unchanged and every counter back at zero. -/
theorem reference : Cert.quiescent_ReferenceIdeal :=
  fun m ρ _ => (θ_run _ _ _).mono (fun r h => ⟨fun c => (h c).2, sem_eq_zero_of_no_sems rfl r.2⟩) (Cert.ReferenceIdeal.Value.run m ρ)

/-- Every claim of the certificate. -/
theorem claim : Cert.Claim := ⟨Cert.Kernel.Gen.facts, Cert.KernelIdeal.Gen.facts, Cert.ReferenceIdeal.Gen.facts,
  Cert.Glu.Gen.facts, Cert.GluIdeal.Gen.facts, Cert.GluRefIdeal.Gen.facts, Cert.Ple.Gen.facts, Cert.PleIdeal.Gen.facts, Cert.PleRefIdeal.Gen.facts,
  Cert.Ffn.Gen.facts, Cert.FfnIdeal.Gen.facts, Cert.FfnRefIdeal.Gen.facts,
  Cert.Qkv.Gen.facts, Cert.QkvIdeal.Gen.facts, Cert.QkvRefIdeal.Gen.facts,
  Cert.PleSample.Gen.facts, Cert.PleSampleIdeal.Gen.facts, Cert.PleSampleRefIdeal.Gen.facts,
  Cert.QkvSample.Gen.facts, Cert.QkvSampleIdeal.Gen.facts, Cert.QkvSampleRefIdeal.Gen.facts,
  Cert.Pre_finite_scores.Gen.facts,
  fun m ρ _ => Cert.Kernel.Gen.frame m ρ, fun m ρ _ => Cert.KernelIdeal.Gen.frame m ρ, fun m ρ _ => Cert.KernelIdeal.Gen.frame m ρ,
  reference, fun m ρ _ => reference m ρ trivial,
  fun m ρ _ => Cert.Glu.Gen.frame m ρ, fun m ρ _ => Cert.GluIdeal.Gen.frame m ρ, Cert.Layer.glu_reference,
  fun m ρ _ => Cert.Ple.Gen.frame m ρ, fun m ρ _ => Cert.PleIdeal.Gen.frame m ρ, Cert.Layer.ple_reference,
  Cert.Layer.ffn_real_runs, Cert.Layer.ffn_runs, Cert.Layer.ffn_reference,
  Cert.Layer.qkv_real_runs, Cert.Layer.qkv_runs, Cert.Layer.qkv_reference,
  fun m ρ _ => Cert.PleSample.Gen.frame m ρ, fun m ρ _ => Cert.PleSampleIdeal.Gen.frame m ρ, Cert.Layer.ple_sample_reference,
  Cert.Layer.qkv_sample_real_runs, Cert.Layer.qkv_sample_runs, Cert.Layer.qkv_sample_reference,
  IdealRules.named_const.statement Cert.KernelIdeal.κ "mask" .f32 0xF149F2CA#32 ⊥ rfl, algebraic,
  trivial, Cert.Layer.glu, trivial, Cert.Layer.ple, trivial, Cert.Layer.ffn, trivial, Cert.Layer.qkv,
  trivial, Cert.Layer.ple_sample, trivial, Cert.Layer.qkv_sample⟩

end Cert.Proof

end
